-- ==== Defs.lean ====
def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v18) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_v71) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)) (v3 : (c : Dev Cert.InProjIdeal.nD) → Buf (Elt Ideal) ((c.tc : Thread Cert.InProjIdeal.nD Cert.InProjIdeal.τ).loc Cert.InProjIdeal.main_v14_3)) (v4 : (c : Dev Cert.InProjIdeal.nD) → Buf (Elt Ideal) ((c.tc : Thread Cert.InProjIdeal.nD Cert.InProjIdeal.τ).loc Cert.InProjIdeal.main_v14_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_v14_3) = v3 c
          ∧ r.2.mem ((c.tc : Thread Cert.InProjIdeal.nD Cert.InProjIdeal.τ).loc Cert.InProjIdeal.main_v14_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v32) = v0 c
          ∧ r.2.mem ((c.tc : Thread Cert.InProjRefIdeal.nD Cert.InProjRefIdeal.τ).loc Cert.InProjRefIdeal.main_v33) = v1 c
          ∧ r.2.mem ((c.tc : Thread Cert.InProjRefIdeal.nD Cert.InProjRefIdeal.τ).loc Cert.InProjRefIdeal.main_v34) = v2 c
          ∧ r.2.mem ((c.tc : Thread Cert.InProjRefIdeal.nD Cert.InProjRefIdeal.τ).loc Cert.InProjRefIdeal.main_v28) = v3 c
          ∧ r.2.mem ((c.tc : Thread Cert.InProjRefIdeal.nD Cert.InProjRefIdeal.τ).loc Cert.InProjRefIdeal.main_v35) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v9)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v9) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v79) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_Kernel_KernelIdeal : Prop :=
  True

def Claim : Prop :=
  ∃ (hFfnOut : Cert.FfnOut.Facts) (hFfnOutIdeal : Cert.FfnOutIdeal.Facts) (hFfnOutRefIdeal : Cert.FfnOutRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hFfnAct : Cert.FfnAct.Facts) (hFfnActIdeal : Cert.FfnActIdeal.Facts) (hFfnActRefIdeal : Cert.FfnActRefIdeal.Facts) (hKernel : Cert.Kernel.Facts) (hKernelIdeal : Cert.KernelIdeal.Facts),
    quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_Kernel (hKernel := hKernel)
    ∧ quiescent_KernelIdeal (hKernelIdeal := hKernelIdeal)
    ∧ preserves_FfnOut_FfnOutIdeal
    ∧ algebraic_FfnOutIdeal_FfnOutRefIdeal (hFfnOutIdeal := hFfnOutIdeal) (hFfnOutRefIdeal := hFfnOutRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_FfnAct_FfnActIdeal
    ∧ algebraic_FfnActIdeal_FfnActRefIdeal (hFfnActIdeal := hFfnActIdeal) (hFfnActRefIdeal := hFfnActRefIdeal)
    ∧ preserves_Kernel_KernelIdeal
-- ==== FfnOut.lean ====
abbrev S16x2048x2816 : Shape := ⟨3, ![16, 2048, 2816]⟩
abbrev S16x2048x1024 : Shape := ⟨3, ![16, 2048, 1024]⟩
abbrev S16x1x1024 : Shape := ⟨3, ![16, 1, 1024]⟩
abbrev S1x2816x1024 : Shape := ⟨3, ![1, 2816, 1024]⟩
abbrev S1024 : Shape := ⟨1, ![1024]⟩
abbrev S2816x1024 : Shape := ⟨2, ![2816, 1024]⟩
abbrev S1x1024 : Shape := ⟨2, ![1, 1024]⟩
abbrev S1x1024x2816 : Shape := ⟨3, ![1, 1024, 2816]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16x2048x2816, .bf16⟩
  | .hbm, ⟨1, _⟩ => ⟨S16x2048x1024, .f32⟩
  | .hbm, ⟨2, _⟩ => ⟨S16x1x1024, .f32⟩
  | .hbm, ⟨3, _⟩ => ⟨S1x2816x1024, .f32⟩
  | .hbm, ⟨4, _⟩ => ⟨S1024, .f32⟩
  | .hbm, ⟨5, _⟩ => ⟨S2816x1024, .f32⟩
  | .hbm, ⟨6, _⟩ => ⟨S2816x1024, .bf16⟩
  | .hbm, ⟨7, _⟩ => ⟨S1x1024, .f32⟩
  | .hbm, ⟨8, _⟩ => ⟨S16x2048x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S16x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOutRefIdeal.lean ====
abbrev S16x2048x2816 : Shape := ⟨3, ![16, 2048, 2816]⟩
abbrev S16x2048x1024 : Shape := ⟨3, ![16, 2048, 1024]⟩
abbrev S16x1x1024 : Shape := ⟨3, ![16, 1, 1024]⟩
abbrev S1x2816x1024 : Shape := ⟨3, ![1, 2816, 1024]⟩
abbrev S1024 : Shape := ⟨1, ![1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x2816, .bf16⟩
  | .hbm, ⟨1, _⟩ => ⟨S16x2048x1024, .f32⟩
  | .hbm, ⟨2, _⟩ => ⟨S16x1x1024, .f32⟩
  | .hbm, ⟨3, _⟩ => ⟨S1x2816x1024, .f32⟩
  | .hbm, ⟨4, _⟩ => ⟨S1024, .f32⟩
  | .hbm, ⟨5, _⟩ => ⟨S16x2048x2816, .f32⟩
  | .hbm, ⟨6, _⟩ => ⟨S2816x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | _, _ => ⟨S16x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x512 : Shape := ⟨3, ![16, 2048, 512]⟩
abbrev S16x1x1024 : Shape := ⟨3, ![16, 1, 1024]⟩
abbrev S1x1024 : Shape := ⟨2, ![1, 1024]⟩
abbrev S1x1024x5152 : Shape := ⟨3, ![1, 1024, 5152]⟩
abbrev S1x512x1024 : Shape := ⟨3, ![1, 512, 1024]⟩
abbrev S1x1024x1024 : Shape := ⟨3, ![1, 1024, 1024]⟩
abbrev S1024x5152 : Shape := ⟨2, ![1024, 5152]⟩
abbrev S1024x2048 : Shape := ⟨2, ![1024, 2048]⟩
abbrev S1024 : Shape := ⟨1, ![1024]⟩
abbrev S512x1024 : Shape := ⟨2, ![512, 1024]⟩
abbrev S1024x1024 : Shape := ⟨2, ![1024, 1024]⟩
abbrev S1x512x512 : Shape := ⟨3, ![1, 512, 512]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x1x1024, .f32⟩
  | .hbm, ⟨4, _⟩ => ⟨S1x1024, .f32⟩
  | .hbm, ⟨5, _⟩ => ⟨S16x1x1024, .f32⟩
  | .hbm, ⟨6, _⟩ => ⟨S16x1x1024, .f32⟩
  | .hbm, ⟨7, _⟩ => ⟨S1x1024x5152, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S16x1x1024, .f32⟩
  | .hbm, ⟨13, _⟩ => ⟨S16x1x1024, .f32⟩
  | .hbm, ⟨14, _⟩ => ⟨S1024x5152, .f32⟩
  | .hbm, ⟨15, _⟩ => ⟨S1024x2048, .f32⟩
  | .hbm, ⟨16, _⟩ => ⟨S1024x2048, .bf16⟩
  | .hbm, ⟨17, _⟩ => ⟨S1024, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S16x2048x1024, .f32⟩
  | .hbm, ⟨28, _⟩ => ⟨S16x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2048, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S16x2048x1024 : Shape := ⟨3, ![16, 2048, 1024]⟩
abbrev S16x2048x512 : Shape := ⟨3, ![16, 2048, 512]⟩
abbrev S16x1x1024 : Shape := ⟨3, ![16, 1, 1024]⟩
abbrev S1x1024 : Shape := ⟨2, ![1, 1024]⟩
abbrev S1x1024x5152 : Shape := ⟨3, ![1, 1024, 5152]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5152 : Shape := ⟨2, ![1024, 5152]⟩
abbrev S1024x2048 : Shape := ⟨2, ![1024, 2048]⟩
abbrev S16x2048x2048 : Shape := ⟨3, ![16, 2048, 2048]⟩
abbrev S512x1024 : Shape := ⟨2, ![512, 1024]⟩
abbrev S1024x1024 : Shape := ⟨2, ![1024, 1024]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x1x1024, .f32⟩
  | .hbm, ⟨4, _⟩ => ⟨S1x1024, .f32⟩
  | .hbm, ⟨5, _⟩ => ⟨S16x1x1024, .f32⟩
  | .hbm, ⟨6, _⟩ => ⟨S16x1x1024, .f32⟩
  | .hbm, ⟨7, _⟩ => ⟨S1x1024x5152, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S16x1x1024, .f32⟩
  | .hbm, ⟨13, _⟩ => ⟨S16x1x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1024x5152, .f32⟩
  | .hbm, ⟨39, _⟩ => ⟨S1024x2048, .f32⟩
  | .hbm, ⟨40, _⟩ => ⟨S16x2048x2048, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S16x2048x512, .f32⟩
  | .hbm, ⟨52, _⟩ => ⟨S512x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S16x2048x512, .f32⟩
  | .hbm, ⟨64, _⟩ => ⟨S512x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S1024x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S1024, .f32⟩
  | .hbm, ⟨74, _⟩ => ⟨S16x2048x1024, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1, .f32⟩
  | .hbm, ⟨85, _⟩ => ⟨S16x2048x1024, .f32⟩
  | .hbm, ⟨86, _⟩ => ⟨S16x2048x1024, .f32⟩
  | .hbm, ⟨87, _⟩ => ⟨S1x1x1024, .f32⟩
  | .hbm, ⟨88, _⟩ => ⟨S16x2048x1024, .f32⟩
  | .hbm, ⟨89, _⟩ => ⟨S16x2048x1024, .f32⟩
  | .hbm, ⟨90, _⟩ => ⟨S_, .f32⟩
  | .hbm, ⟨91, _⟩ => ⟨S16x1x1024, .f32⟩
  | .hbm, ⟨92, _⟩ => ⟨S16x1x1024, .f32⟩
  | .hbm, ⟨93, _⟩ => ⟨S16x2048x1024, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== InProj.lean ====
abbrev S16x2048x1024 : Shape := ⟨3, ![16, 2048, 1024]⟩
abbrev S1x1024 : Shape := ⟨2, ![1, 1024]⟩
abbrev S16x1x1024 : Shape := ⟨3, ![16, 1, 1024]⟩
abbrev S1x1024x5152 : Shape := ⟨3, ![1, 1024, 5152]⟩
abbrev S1024x5152 : Shape := ⟨2, ![1024, 5152]⟩
abbrev S1024x1792 : Shape := ⟨2, ![1024, 1792]⟩
abbrev S1024x1024 : Shape := ⟨2, ![1024, 1024]⟩
abbrev S1024x2816 : Shape := ⟨2, ![1024, 2816]⟩
abbrev S1024x256 : Shape := ⟨2, ![1024, 256]⟩
abbrev S256x1024 : Shape := ⟨2, ![256, 1024]⟩
abbrev S1024x32 : Shape := ⟨2, ![1024, 32]⟩
abbrev S_ : Shape := ⟨0, ![]⟩
abbrev S1024x128 : Shape := ⟨2, ![1024, 128]⟩
abbrev S128x1024 : Shape := ⟨2, ![128, 1024]⟩
abbrev S1024 : Shape := ⟨1, ![1024]⟩
abbrev S16x2048x1536 : Shape := ⟨3, ![16, 2048, 1536]⟩
abbrev S16x2048x1280 : Shape := ⟨3, ![16, 2048, 1280]⟩
abbrev S16x16x256x128 : Shape := ⟨4, ![16, 16, 256, 128]⟩
abbrev S16x2048x128 : Shape := ⟨3, ![16, 2048, 128]⟩
abbrev S16x128x2048 : Shape := ⟨3, ![16, 128, 2048]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1x1024x1280 : Shape := ⟨3, ![1, 1024, 1280]⟩
abbrev S1x8x256x128 : Shape := ⟨4, ![1, 8, 256, 128]⟩
abbrev S1x1024x128 : Shape := ⟨3, ![1, 1024, 128]⟩
abbrev S1x128x1024 : Shape := ⟨3, ![1, 128, 1024]⟩
abbrev S1024x1 : Shape := ⟨2, ![1024, 1]⟩
abbrev S1024x512 : Shape := ⟨2, ![1024, 512]⟩
abbrev S1x1024x512 : Shape := ⟨3, ![1, 1024, 512]⟩
abbrev S1x1024x256 : Shape := ⟨3, ![1, 1024, 256]⟩
abbrev S256x128 : Shape := ⟨2, ![256, 128]⟩
abbrev S1x1x256x128 : Shape := ⟨4, ![1, 1, 256, 128]⟩

abbrev nBuf : Space → Nat
  | .hbm => 26
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1x1024x5152, .f32⟩
  | .hbm, ⟨5, _⟩ => ⟨S1024x5152, .f32⟩
  | .hbm, ⟨6, _⟩ => ⟨S1024x1792, .f32⟩
  | .hbm, ⟨7, _⟩ => ⟨S1024x1024, .f32⟩
  | .hbm, ⟨8, _⟩ => ⟨S1024x2816, .f32⟩
  | .hbm, ⟨9, _⟩ => ⟨S1024x2816, .bf16⟩
  | .hbm, ⟨10, _⟩ => ⟨S1024x256, .f32⟩
  | .hbm, ⟨11, _⟩ => ⟨S256x1024, .f32⟩
  | .hbm, ⟨12, _⟩ => ⟨S256x1024, .bf16⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S128x1024, .bf16⟩
  | .hbm, ⟨19, _⟩ => ⟨S1024, .f32⟩
  | .hbm, ⟨20, _⟩ => ⟨S1x1024, .f32⟩
  | .hbm, ⟨21, _⟩ => ⟨S16x2048x1536, .bf16⟩
  | .hbm, ⟨22, _⟩ => ⟨S16x2048x1280, .bf16⟩
  | .hbm, ⟨23, _⟩ => ⟨S16x16x256x128, .bf16⟩
  | .hbm, ⟨24, _⟩ => ⟨S16x2048x128, .f32⟩
  | .hbm, ⟨25, _⟩ => ⟨S16x128x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S256x1024, .bf16⟩
  | .local _ .vmem, ⟨9, _⟩ => ⟨S1024x128, .bf16⟩
  | .local _ .vmem, ⟨10, _⟩ => ⟨S128x1024, .bf16⟩
  | .local _ .vmem, ⟨11, _⟩ => ⟨S1x1024x1536, .bf16⟩
  | .local _ .vmem, ⟨12, _⟩ => ⟨S1x1024x1536, .bf16⟩
  | .local _ .vmem, ⟨13, _⟩ => ⟨S1x1024x1280, .bf16⟩
  | .local _ .vmem, ⟨14, _⟩ => ⟨S1x1024x1280, .bf16⟩
  | .local _ .vmem, ⟨15, _⟩ => ⟨S1x8x256x128, .bf16⟩
  | .local _ .vmem, ⟨16, _⟩ => ⟨S1x8x256x128, .bf16⟩
  | .local _ .vmem, ⟨17, _⟩ => ⟨S1x1024x128, .f32⟩
  | .local _ .vmem, ⟨18, _⟩ => ⟨S1x1024x128, .f32⟩
  | .local _ .vmem, ⟨19, _⟩ => ⟨S1x128x1024, .f32⟩
  | .local _ .vmem, ⟨20, _⟩ => ⟨S1x128x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InProjRefIdeal.lean ====
abbrev S16x2048x1024 : Shape := ⟨3, ![16, 2048, 1024]⟩
abbrev S1x1024 : Shape := ⟨2, ![1, 1024]⟩
abbrev S16x1x1024 : Shape := ⟨3, ![16, 1, 1024]⟩
abbrev S1x1024x5152 : Shape := ⟨3, ![1, 1024, 5152]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5152 : Shape := ⟨2, ![1024, 5152]⟩
abbrev S16x2048x5152 : Shape := ⟨3, ![16, 2048, 5152]⟩
abbrev S16x2048x1536 : Shape := ⟨3, ![16, 2048, 1536]⟩
abbrev S16x2048x256 : Shape := ⟨3, ![16, 2048, 256]⟩
abbrev S16x2048x512 : Shape := ⟨3, ![16, 2048, 512]⟩
abbrev S16x2048x32 : Shape := ⟨3, ![16, 2048, 32]⟩
abbrev S16x2048x128 : Shape := ⟨3, ![16, 2048, 128]⟩
abbrev S16x2048x1280 : Shape := ⟨3, ![16, 2048, 1280]⟩
abbrev S16x16x128x256 : Shape := ⟨4, ![16, 16, 128, 256]⟩
abbrev S16x16x256x128 : Shape := ⟨4, ![16, 16, 256, 128]⟩
abbrev S16x128x2048 : Shape := ⟨3, ![16, 128, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1x1024, .f32⟩
  | .hbm, ⟨3, _⟩ => ⟨S16x1x1024, .f32⟩
  | .hbm, ⟨4, _⟩ => ⟨S1x1024x5152, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S1024x5152, .f32⟩
  | .hbm, ⟨30, _⟩ => ⟨S16x2048x5152, .f32⟩
  | .hbm, ⟨31, _⟩ => ⟨S16x2048x1536, .f32⟩
  | .hbm, ⟨32, _⟩ => ⟨S16x2048x256, .f32⟩
  | .hbm, ⟨33, _⟩ => ⟨S16x2048x256, .f32⟩
  | .hbm, ⟨34, _⟩ => ⟨S16x2048x512, .f32⟩
  | .hbm, ⟨35, _⟩ => ⟨S16x2048x512, .f32⟩
  | .hbm, ⟨36, _⟩ => ⟨S16x2048x32, .f32⟩
  | .hbm, ⟨37, _⟩ => ⟨S_, .i32⟩
  | .hbm, ⟨38, _⟩ => ⟨S_, .f32⟩
  | .hbm, ⟨39, _⟩ => ⟨S16x2048x128, .f32⟩
  | .hbm, ⟨40, _⟩ => ⟨S16x2048x1280, .f32⟩
  | .hbm, ⟨41, _⟩ => ⟨S16x16x128x256, .f32⟩
  | .hbm, ⟨42, _⟩ => ⟨S16x16x256x128, .f32⟩
  | .hbm, ⟨43, _⟩ => ⟨S16x2048x1536, .bf16⟩
  | .hbm, ⟨44, _⟩ => ⟨S16x2048x1280, .bf16⟩
  | .hbm, ⟨45, _⟩ => ⟨S16x16x256x128, .bf16⟩
  | .hbm, ⟨46, _⟩ => ⟨S16x128x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== FfnAct.lean ====
abbrev S16x2048x1024 : Shape := ⟨3, ![16, 2048, 1024]⟩
abbrev S1x1024x5632 : Shape := ⟨3, ![1, 1024, 5632]⟩
abbrev S1x3x3x2816 : Shape := ⟨4, ![1, 3, 3, 2816]⟩
abbrev S1x2816 : Shape := ⟨2, ![1, 2816]⟩
abbrev S1024x5632 : Shape := ⟨2, ![1024, 5632]⟩
abbrev S1024x2816 : Shape := ⟨2, ![1024, 2816]⟩
abbrev S3x3x2816 : Shape := ⟨3, ![3, 3, 2816]⟩
abbrev S9x2816 : Shape := ⟨2, ![9, 2816]⟩
abbrev S2816 : Shape := ⟨1, ![2816]⟩
abbrev S16x2048x2816 : Shape := ⟨3, ![16, 2048, 2816]⟩
abbrev S1x2048x1024 : Shape := ⟨3, ![1, 2048, 1024]⟩
abbrev S1024x256 : Shape := ⟨2, ![1024, 256]⟩
abbrev S9x256 : Shape := ⟨2, ![9, 256]⟩
abbrev S1x256 : Shape := ⟨2, ![1, 256]⟩
abbrev S1x2048x256 : Shape := ⟨3, ![1, 2048, 256]⟩
abbrev S2176x256 : Shape := ⟨2, ![2176, 256]⟩
abbrev S2048x256 : Shape := ⟨2, ![2048, 256]⟩
abbrev S8x256 : Shape := ⟨2, ![8, 256]⟩
abbrev S64x256 : Shape := ⟨2, ![64, 256]⟩
abbrev S1x512x1024 : Shape := ⟨3, ![1, 512, 1024]⟩
abbrev S512x1024 : Shape := ⟨2, ![512, 1024]⟩
abbrev S512x256 : Shape := ⟨2, ![512, 256]⟩
abbrev S56x256 : Shape := ⟨2, ![56, 256]⟩
abbrev S1x64x256 : Shape := ⟨3, ![1, 64, 256]⟩

abbrev nBuf : Space → Nat
  | .hbm => 14
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S1x1024x5632, .f32⟩
  | .hbm, ⟨2, _⟩ => ⟨S1x3x3x2816, .f32⟩
  | .hbm, ⟨3, _⟩ => ⟨S1x2816, .f32⟩
  | .hbm, ⟨4, _⟩ => ⟨S1024x5632, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S3x3x2816, .f32⟩
  | .hbm, ⟨10, _⟩ => ⟨S9x2816, .f32⟩
  | .hbm, ⟨11, _⟩ => ⟨S2816, .f32⟩
  | .hbm, ⟨12, _⟩ => ⟨S1x2816, .f32⟩
  | .hbm, ⟨13, _⟩ => ⟨S16x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S9x256, .f32⟩
  | .local _ .vmem, ⟨8, _⟩ => ⟨S9x256, .f32⟩
  | .local _ .vmem, ⟨9, _⟩ => ⟨S1x256, .f32⟩
  | .local _ .vmem, ⟨10, _⟩ => ⟨S1x256, .f32⟩
  | .local _ .vmem, ⟨11, _⟩ => ⟨S1x2048x256, .bf16⟩
  | .local _ .vmem, ⟨12, _⟩ => ⟨S1x2048x256, .bf16⟩
  | .local _ .vmem, ⟨13, _⟩ => ⟨S2176x256, .f32⟩
  | .local _ .vmem, ⟨14, _⟩ => ⟨S2176x256, .f32⟩
  | .local _ .vmem, ⟨15, _⟩ => ⟨S2048x256, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c2_i32 : BitVec 32 := 2#32
  let v4 : BitVec 32 := Scalar.remsi arg1 c2_i32
  let c0_i32_1 : BitVec 32 := 0#32
  let v5 : BitVec 1 := Scalar.cmpi .eq v4 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32 : BitVec 32 := 2#32
  let v4 : BitVec 32 := Scalar.remsi arg1 c2_i32
  let c1_i32 : BitVec 32 := 1#32
  let v8 : BitVec 1 := Scalar.cmpi .eq v4 c1_i32
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let v1 : BitVec 32 := Scalar.minsi v0 c10_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActRefIdeal.lean ====
abbrev S16x2048x1024 : Shape := ⟨3, ![16, 2048, 1024]⟩
abbrev S1x1024x5632 : Shape := ⟨3, ![1, 1024, 5632]⟩
abbrev S1x3x3x2816 : Shape := ⟨4, ![1, 3, 3, 2816]⟩
abbrev S1x2816 : Shape := ⟨2, ![1, 2816]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S16x32x64x2816 : Shape := ⟨4, ![16, 32, 64, 2816]⟩
abbrev S_ : Shape := ⟨0, ![]⟩
abbrev S16x34x66x2816 : Shape := ⟨4, ![16, 34, 66, 2816]⟩
abbrev S3x3x2816 : Shape := ⟨3, ![3, 3, 2816]⟩
abbrev S1x1x2816 : Shape := ⟨3, ![1, 1, 2816]⟩
abbrev S2816 : Shape := ⟨1, ![2816]⟩
abbrev S1x1x1x2816 : Shape := ⟨4, ![1, 1, 1, 2816]⟩

abbrev nBuf : Space → Nat
  | .hbm => 95
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1x1024x5632, .f32⟩
  | .hbm, ⟨2, _⟩ => ⟨S1x3x3x2816, .f32⟩
  | .hbm, ⟨3, _⟩ => ⟨S1x2816, .f32⟩
  | .hbm, ⟨4, _⟩ => ⟨S16x2048x1024, .f32⟩
  | .hbm, ⟨5, _⟩ => ⟨S1024x5632, .f32⟩
  | .hbm, ⟨6, _⟩ => ⟨S16x2048x5632, .f32⟩
  | .hbm, ⟨7, _⟩ => ⟨S16x2048x2816, .f32⟩
  | .hbm, ⟨8, _⟩ => ⟨S16x2048x2816, .f32⟩
  | .hbm, ⟨9, _⟩ => ⟨S16x32x64x2816, .f32⟩
  | .hbm, ⟨10, _⟩ => ⟨S_, .i32⟩
  | .hbm, ⟨11, _⟩ => ⟨S_, .f32⟩
  | .hbm, ⟨12, _⟩ => ⟨S16x34x66x2816, .f32⟩
  | .hbm, ⟨13, _⟩ => ⟨S3x3x2816, .f32⟩
  | .hbm, ⟨14, _⟩ => ⟨S16x32x64x2816, .f32⟩
  | .hbm, ⟨15, _⟩ => ⟨S1x1x2816, .f32⟩
  | .hbm, ⟨16, _⟩ => ⟨S2816, .f32⟩
  | .hbm, ⟨17, _⟩ => ⟨S1x1x1x2816, .f32⟩
  | .hbm, ⟨18, _⟩ => ⟨S16x32x64x2816, .f32⟩
  | .hbm, ⟨19, _⟩ => ⟨S16x32x64x2816, .f32⟩
  | .hbm, ⟨20, _⟩ => ⟨S_, .f32⟩
  | .hbm, ⟨21, _⟩ => ⟨S16x32x64x2816, .f32⟩
  | .hbm, ⟨22, _⟩ => ⟨S16x32x64x2816, .f32⟩
  | .hbm, ⟨23, _⟩ => ⟨S16x32x64x2816, .f32⟩
  | .hbm, ⟨24, _⟩ => ⟨S1x1x2816, .f32⟩
  | .hbm, ⟨25, _⟩ => ⟨S2816, .f32⟩
  | .hbm, ⟨26, _⟩ => ⟨S1x1x1x2816, .f32⟩
  | .hbm, ⟨27, _⟩ => ⟨S16x32x64x2816, .f32⟩
  | .hbm, ⟨28, _⟩ => ⟨S16x32x64x2816, .f32⟩
  | .hbm, ⟨29, _⟩ => ⟨S16x32x64x2816, .f32⟩
  | .hbm, ⟨30, _⟩ => ⟨S16x32x64x2816, .f32⟩
  | .hbm, ⟨31, _⟩ => ⟨S1x1x2816, .f32⟩
  | .hbm, ⟨32, _⟩ => ⟨S2816, .f32⟩
  | .hbm, ⟨33, _⟩ => ⟨S1x1x1x2816, .f32⟩
  | .hbm, ⟨34, _⟩ => ⟨S16x32x64x2816, .f32⟩
  | .hbm, ⟨35, _⟩ => ⟨S16x32x64x2816, .f32⟩
  | .hbm, ⟨36, _⟩ => ⟨S16x32x64x2816, .f32⟩
  | .hbm, ⟨37, _⟩ => ⟨S16x32x64x2816, .f32⟩
  | .hbm, ⟨38, _⟩ => ⟨S1x1x2816, .f32⟩
  | .hbm, ⟨39, _⟩ => ⟨S2816, .f32⟩
  | .hbm, ⟨40, _⟩ => ⟨S1x1x1x2816, .f32⟩
  | .hbm, ⟨41, _⟩ => ⟨S16x32x64x2816, .f32⟩
  | .hbm, ⟨42, _⟩ => ⟨S16x32x64x2816, .f32⟩
  | .hbm, ⟨43, _⟩ => ⟨S16x32x64x2816, .f32⟩
  | .hbm, ⟨44, _⟩ => ⟨S16x32x64x2816, .f32⟩
  | .hbm, ⟨45, _⟩ => ⟨S1x1x2816, .f32⟩
  | .hbm, ⟨46, _⟩ => ⟨S2816, .f32⟩
  | .hbm, ⟨47, _⟩ => ⟨S1x1x1x2816, .f32⟩
  | .hbm, ⟨48, _⟩ => ⟨S16x32x64x2816, .f32⟩
  | .hbm, ⟨49, _⟩ => ⟨S16x32x64x2816, .f32⟩
  | .hbm, ⟨50, _⟩ => ⟨S16x32x64x2816, .f32⟩
  | .hbm, ⟨51, _⟩ => ⟨S16x32x64x2816, .f32⟩
  | .hbm, ⟨52, _⟩ => ⟨S1x1x2816, .f32⟩
  | .hbm, ⟨53, _⟩ => ⟨S2816, .f32⟩
  | .hbm, ⟨54, _⟩ => ⟨S1x1x1x2816, .f32⟩
  | .hbm, ⟨55, _⟩ => ⟨S16x32x64x2816, .f32⟩
  | .hbm, ⟨56, _⟩ => ⟨S16x32x64x2816, .f32⟩
  | .hbm, ⟨57, _⟩ => ⟨S16x32x64x2816, .f32⟩
  | .hbm, ⟨58, _⟩ => ⟨S16x32x64x2816, .f32⟩
  | .hbm, ⟨59, _⟩ => ⟨S1x1x2816, .f32⟩
  | .hbm, ⟨60, _⟩ => ⟨S2816, .f32⟩
  | .hbm, ⟨61, _⟩ => ⟨S1x1x1x2816, .f32⟩
  | .hbm, ⟨62, _⟩ => ⟨S16x32x64x2816, .f32⟩
  | .hbm, ⟨63, _⟩ => ⟨S16x32x64x2816, .f32⟩
  | .hbm, ⟨64, _⟩ => ⟨S16x32x64x2816, .f32⟩
  | .hbm, ⟨65, _⟩ => ⟨S16x32x64x2816, .f32⟩
  | .hbm, ⟨66, _⟩ => ⟨S1x1x2816, .f32⟩
  | .hbm, ⟨67, _⟩ => ⟨S2816, .f32⟩
  | .hbm, ⟨68, _⟩ => ⟨S1x1x1x2816, .f32⟩
  | .hbm, ⟨69, _⟩ => ⟨S16x32x64x2816, .f32⟩
  | .hbm, ⟨70, _⟩ => ⟨S16x32x64x2816, .f32⟩
  | .hbm, ⟨71, _⟩ => ⟨S16x32x64x2816, .f32⟩
  | .hbm, ⟨72, _⟩ => ⟨S16x32x64x2816, .f32⟩
  | .hbm, ⟨73, _⟩ => ⟨S1x1x2816, .f32⟩
  | .hbm, ⟨74, _⟩ => ⟨S2816, .f32⟩
  | .hbm, ⟨75, _⟩ => ⟨S1x1x1x2816, .f32⟩
  | .hbm, ⟨76, _⟩ => ⟨S16x32x64x2816, .f32⟩
  | .hbm, ⟨77, _⟩ => ⟨S16x32x64x2816, .f32⟩
  | .hbm, ⟨78, _⟩ => ⟨S16x32x64x2816, .f32⟩
  | .hbm, ⟨79, _⟩ => ⟨S16x2048x2816, .f32⟩
  | .hbm, ⟨80, _⟩ => ⟨S2816, .f32⟩
  | .hbm, ⟨81, _⟩ => ⟨S1x1x2816, .f32⟩
  | .hbm, ⟨82, _⟩ => ⟨S16x2048x2816, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S_, .f32⟩
  | .hbm, ⟨87, _⟩ => ⟨S16x2048x2816, .f32⟩
  | .hbm, ⟨88, _⟩ => ⟨S16x2048x2816, .f32⟩
  | .hbm, ⟨89, _⟩ => ⟨S_, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S16x2048x2816, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]
-- ==== Kernel.lean ====
abbrev S16x2048x1280 : Shape := ⟨3, ![16, 2048, 1280]⟩
abbrev S16x16x256x128 : Shape := ⟨4, ![16, 16, 256, 128]⟩
abbrev S16x2048x128 : Shape := ⟨3, ![16, 2048, 128]⟩
abbrev S16x128x2048 : Shape := ⟨3, ![16, 128, 2048]⟩
abbrev S16x4x64x128 : Shape := ⟨4, ![16, 4, 64, 128]⟩
abbrev S128x256 : Shape := ⟨2, ![128, 256]⟩
abbrev S1x256 : Shape := ⟨2, ![1, 256]⟩
abbrev S256x128 : Shape := ⟨2, ![256, 128]⟩
abbrev S256x1 : Shape := ⟨2, ![256, 1]⟩
abbrev S512 : Shape := ⟨1, ![512]⟩
abbrev S128x128 : Shape := ⟨2, ![128, 128]⟩
abbrev S1x512 : Shape := ⟨2, ![1, 512]⟩
abbrev S16x2048x512 : Shape := ⟨3, ![16, 2048, 512]⟩
abbrev S1x2048x1280 : Shape := ⟨3, ![1, 2048, 1280]⟩
abbrev S1x16x256x128 : Shape := ⟨4, ![1, 16, 256, 128]⟩
abbrev S1x2048x128 : Shape := ⟨3, ![1, 2048, 128]⟩
abbrev S1x128x2048 : Shape := ⟨3, ![1, 128, 2048]⟩
abbrev S1x4x64x128 : Shape := ⟨4, ![1, 4, 64, 128]⟩
abbrev S1x2048x512 : Shape := ⟨3, ![1, 2048, 512]⟩
abbrev S2048x256 : Shape := ⟨2, ![2048, 256]⟩
abbrev S16x256x128 : Shape := ⟨3, ![16, 256, 128]⟩
abbrev S2048x512 : Shape := ⟨2, ![2048, 512]⟩
abbrev S4x64x128 : Shape := ⟨3, ![4, 64, 128]⟩
abbrev S1x256x128 : Shape := ⟨3, ![1, 256, 128]⟩
abbrev S256x384 : Shape := ⟨2, ![256, 384]⟩
abbrev S384x256 : Shape := ⟨2, ![384, 256]⟩
abbrev S256x256 : Shape := ⟨2, ![256, 256]⟩
abbrev S1x128x128 : Shape := ⟨3, ![1, 128, 128]⟩
abbrev S384x128 : Shape := ⟨2, ![384, 128]⟩
abbrev S64x64 : Shape := ⟨2, ![64, 64]⟩
abbrev S1x1x64x128 : Shape := ⟨4, ![1, 1, 64, 128]⟩
abbrev S64x128 : Shape := ⟨2, ![64, 128]⟩
abbrev S1x64x128 : Shape := ⟨3, ![1, 64, 128]⟩
abbrev S128x768 : Shape := ⟨2, ![128, 768]⟩
abbrev S768x128 : Shape := ⟨2, ![768, 128]⟩
abbrev S1x128x256 : Shape := ⟨3, ![1, 128, 256]⟩
abbrev S1x1x256x128 : Shape := ⟨4, ![1, 1, 256, 128]⟩
abbrev S1x128x512 : Shape := ⟨3, ![1, 128, 512]⟩
abbrev S128x512 : Shape := ⟨2, ![128, 512]⟩
abbrev S256x64 : Shape := ⟨2, ![256, 64]⟩
abbrev S64x1 : Shape := ⟨2, ![64, 1]⟩
abbrev S1x256x512 : Shape := ⟨3, ![1, 256, 512]⟩
abbrev S256x512 : Shape := ⟨2, ![256, 512]⟩
abbrev S256 : Shape := ⟨1, ![256]⟩
abbrev S1x128 : Shape := ⟨2, ![1, 128]⟩

abbrev nBuf : Space → Nat
  | .hbm => 19
  | .vmem => 33
  | .smem => 0
  | _ => 0

abbrev bufTy : (tb : Table) → Fin (tcTables nBuf tb) → BufTy
  | .hbm, ⟨0, _⟩ => ⟨S16x2048x1280, .bf16⟩
  | .hbm, ⟨1, _⟩ => ⟨S16x16x256x128, .bf16⟩
  | .hbm, ⟨2, _⟩ => ⟨S16x2048x128, .f32⟩
  | .hbm, ⟨3, _⟩ => ⟨S16x128x2048, .f32⟩
  | .hbm, ⟨4, _⟩ => ⟨S16x4x64x128, .f32⟩
  | .hbm, ⟨5, _⟩ => ⟨S16x4x64x128, .f32⟩
  | .hbm, ⟨6, _⟩ => ⟨S128x256, .f32⟩
  | .hbm, ⟨7, _⟩ => ⟨S1x256, .f32⟩
  | .hbm, ⟨8, _⟩ => ⟨S128x256, .f32⟩
  | .hbm, ⟨9, _⟩ => ⟨S1x256, .f32⟩
  | .hbm, ⟨10, _⟩ => ⟨S256x128, .f32⟩
  | .hbm, ⟨11, _⟩ => ⟨S256x1, .f32⟩
  | .hbm, ⟨12, _⟩ => ⟨S256x128, .f32⟩
  | .hbm, ⟨13, _⟩ => ⟨S256x1, .f32⟩
  | .hbm, ⟨14, _⟩ => ⟨S512, .f32⟩
  | .hbm, ⟨15, _⟩ => ⟨S128x128, .bf16⟩
  | .hbm, ⟨16, _⟩ => ⟨S128x128, .bf16⟩
  | .hbm, ⟨17, _⟩ => ⟨S1x512, .f32⟩
  | .hbm, ⟨18, _⟩ => ⟨S16x2048x512, .bf16⟩
  | .local _ .vmem, ⟨0, _⟩ => ⟨S1x2048x1280, .bf16⟩
  | .local _ .vmem, ⟨1, _⟩ => ⟨S1x2048x1280, .bf16⟩
  | .local _ .vmem, ⟨2, _⟩ => ⟨S1x16x256x128, .bf16⟩
  | .local _ .vmem, ⟨3, _⟩ => ⟨S1x16x256x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x128x2048, .f32⟩
  | .local _ .vmem, ⟨7, _⟩ => ⟨S1x128x2048, .f32⟩
  | .local _ .vmem, ⟨8, _⟩ => ⟨S1x4x64x128, .f32⟩
  | .local _ .vmem, ⟨9, _⟩ => ⟨S1x4x64x128, .f32⟩
  | .local _ .vmem, ⟨10, _⟩ => ⟨S1x4x64x128, .f32⟩
  | .local _ .vmem, ⟨11, _⟩ => ⟨S1x4x64x128, .f32⟩
  | .local _ .vmem, ⟨12, _⟩ => ⟨S128x256, .f32⟩
  | .local _ .vmem, ⟨13, _⟩ => ⟨S1x256, .f32⟩
  | .local _ .vmem, ⟨14, _⟩ => ⟨S128x256, .f32⟩
  | .local _ .vmem, ⟨15, _⟩ => ⟨S1x256, .f32⟩
  | .local _ .vmem, ⟨16, _⟩ => ⟨S256x128, .f32⟩
  | .local _ .vmem, ⟨17, _⟩ => ⟨S256x1, .f32⟩
  | .local _ .vmem, ⟨18, _⟩ => ⟨S256x128, .f32⟩
  | .local _ .vmem, ⟨19, _⟩ => ⟨S256x1, .f32⟩
  | .local _ .vmem, ⟨20, _⟩ => ⟨S128x128, .bf16⟩
  | .local _ .vmem, ⟨21, _⟩ => ⟨S128x128, .bf16⟩
  | .local _ .vmem, ⟨22, _⟩ => ⟨S1x512, .f32⟩
  | .local _ .vmem, ⟨23, _⟩ => ⟨S1x2048x512, .bf16⟩
  | .local _ .vmem, ⟨24, _⟩ => ⟨S1x2048x512, .bf16⟩
  | .local _ .vmem, ⟨25, _⟩ => ⟨S2048x256, .f32⟩
  | .local _ .vmem, ⟨26, _⟩ => ⟨S2048x256, .f32⟩
  | .local _ .vmem, ⟨27, _⟩ => ⟨S16x256x128, .f32⟩
  | .local _ .vmem, ⟨28, _⟩ => ⟨S16x256x128, .f32⟩
  | .local _ .vmem, ⟨29, _⟩ => ⟨S2048x512, .f32⟩
  | .local _ .vmem, ⟨30, _⟩ => ⟨S2048x512, .f32⟩
  | .local _ .vmem, ⟨31, _⟩ => ⟨S4x64x128, .f32⟩
  | .local _ .vmem, ⟨32, _⟩ => ⟨S4x64x128, .f32⟩
  | _, _ => ⟨S16x2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v1532 : BitVec 32 := Scalar.addi c0_i32 c16_i32
  let c1_i32 : BitVec 32 := 1#32
  ⟨c0_i32, v1532, c1_i32⟩
def k0_mult1 (k0_t1 : Fin k0_t1_loop.trips) : BitVec 32 :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  v2550
def k0_off1 (k0_t1 : Fin k0_t1_loop.trips) : Fin 2 → Nat :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2552 : Index := Scalar.indexCast v2551
  let c0_1165 : Index := 0#32
  ![v2552.toNat, 0]
def k0_off2 (k0_t1 : Fin k0_t1_loop.trips) : Fin 3 → Nat :=
  let c0_i32 : BitVec 32 := 0#32
  let c1_i32 : BitVec 32 := 1#32
  let arg27 : BitVec 32 := Scf.iv c0_i32 c1_i32 k0_t1
  let v2568 : Index := Scalar.indexCast arg27
  let c0_1167 : Index := 0#32
  let c0_1168 : Index := 0#32
  ![v2568.toNat, 0, 0]
def k0_off3 (k0_t1 : Fin k0_t1_loop.trips) : Fin 3 → Nat :=
  let c0_1170 : Index := 0#32
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2585 : Index := Scalar.indexCast v2551
  let c0_1171 : Index := 0#32
  ![0, v2585.toNat, 0]
def k0_off4 (k0_t1 : Fin k0_t1_loop.trips) : Fin 4 → Nat :=
  let c0_1173 : Index := 0#32
  let c0_i32 : BitVec 32 := 0#32
  let c1_i32 : BitVec 32 := 1#32
  let arg27 : BitVec 32 := Scf.iv c0_i32 c1_i32 k0_t1
  let v2594 : Index := Scalar.indexCast arg27
  let c0_1174 : Index := 0#32
  let c0_1175 : Index := 0#32
  ![0, v2594.toNat, 0, 0]
def k0_off5 (k0_t1 : Fin k0_t1_loop.trips) : Fin 3 → Nat :=
  let c0_1177 : Index := 0#32
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2603 : Index := Scalar.indexCast v2551
  let c256_1178 : Index := 256#32
  ![0, v2603.toNat, 256]
def k0_off6 (k0_t1 : Fin k0_t1_loop.trips) (c0_i32_1186 : BitVec 32) : Fin 2 → Nat :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2628 : BitVec 32 := Scalar.addi v2551 c0_i32_1186
  let v2629 : Index := Scalar.indexCast v2628
  let c0_1187 : Index := 0#32
  ![v2629.toNat, 0]
def k0_off7 (k0_t1 : Fin k0_t1_loop.trips) (c0_i32_1199 : BitVec 32) : Fin 2 → Nat :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2655 : BitVec 32 := Scalar.addi v2551 c0_i32_1199
  let v2656 : Index := Scalar.indexCast v2655
  let c128_1200 : Index := 128#32
  ![v2656.toNat, 128]
def k0_off8 (k0_t1 : Fin k0_t1_loop.trips) (c0_i32_1212 : BitVec 32) : Fin 2 → Nat :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2682 : BitVec 32 := Scalar.addi v2551 c0_i32_1212
  let v2683 : Index := Scalar.indexCast v2682
  let c256_1213 : Index := 256#32
  ![v2683.toNat, 256]
def k0_off9 (k0_t1 : Fin k0_t1_loop.trips) (c0_i32_1225 : BitVec 32) : Fin 2 → Nat :=
  let c0_i32 : BitVec 32 := 0#32
  let c1_i32 : BitVec 32 := 1#32
  let arg27 : BitVec 32 := Scf.iv c0_i32 c1_i32 k0_t1
  let c128_i32 : BitVec 32 := 128#32
  let v2550 : BitVec 32 := Scalar.muli arg27 c128_i32
  let v2551 : BitVec 32 := v2550
  let v2709 : BitVec 32 := Scalar.addi v2551 c0_i32_1225
  let v2710 : Index := Scalar.indexCast v2709
  let c384_1226 : Index := 384#32
  ![v2710.toNat, 384]
def k0_mult2 (k0_t1 : Fin k0_t1_loop.trips) : BitVec 32 :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  v2842
def k0_off10 (k0_t1 : Fin k0_t1_loop.trips) : Fin 2 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2844 : Index := Scalar.indexCast v2843
  let c0_1283 : Index := 0#32
  ![v2844.toNat, 0]
def k0_off11 (k0_t1 : Fin k0_t1_loop.trips) : Fin 3 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let v2860 : Index := Scalar.indexCast v2840
  let c0_1285 : Index := 0#32
  let c0_1286 : Index := 0#32
  ![v2860.toNat, 0, 0]
def k0_off12 (k0_t1 : Fin k0_t1_loop.trips) : Fin 3 → Nat :=
  let c0_1288 : Index := 0#32
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2877 : Index := Scalar.indexCast v2843
  let c0_1289 : Index := 0#32
  ![0, v2877.toNat, 0]
def k0_off13 (k0_t1 : Fin k0_t1_loop.trips) : Fin 4 → Nat :=
  let c0_1291 : Index := 0#32
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let v2886 : Index := Scalar.indexCast v2840
  let c0_1292 : Index := 0#32
  let c0_1293 : Index := 0#32
  ![0, v2886.toNat, 0, 0]
def k0_off14 (k0_t1 : Fin k0_t1_loop.trips) : Fin 3 → Nat :=
  let c0_1295 : Index := 0#32
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2895 : Index := Scalar.indexCast v2843
  let c256_1296 : Index := 256#32
  ![0, v2895.toNat, 256]
def k0_off15 (k0_t1 : Fin k0_t1_loop.trips) (c64_i32_1304 : BitVec 32) : Fin 2 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2920 : BitVec 32 := Scalar.addi v2843 c64_i32_1304
  let v2921 : Index := Scalar.indexCast v2920
  let c0_1305 : Index := 0#32
  ![v2921.toNat, 0]
def k0_off16 (k0_t1 : Fin k0_t1_loop.trips) (c64_i32_1317 : BitVec 32) : Fin 2 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2947 : BitVec 32 := Scalar.addi v2843 c64_i32_1317
  let v2948 : Index := Scalar.indexCast v2947
  let c128_1318 : Index := 128#32
  ![v2948.toNat, 128]
def k0_off17 (k0_t1 : Fin k0_t1_loop.trips) (c64_i32_1330 : BitVec 32) : Fin 2 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v2974 : BitVec 32 := Scalar.addi v2843 c64_i32_1330
  let v2975 : Index := Scalar.indexCast v2974
  let c256_1331 : Index := 256#32
  ![v2975.toNat, 256]
def k0_off18 (k0_t1 : Fin k0_t1_loop.trips) (c64_i32_1343 : BitVec 32) : Fin 2 → Nat :=
  let c15_i32 : BitVec 32 := 15#32
  let c0_i32 : BitVec 32 := 0#32
  let c1_i32 : BitVec 32 := 1#32
  let arg27 : BitVec 32 := Scf.iv c0_i32 c1_i32 k0_t1
  let v2840 : BitVec 32 := Scalar.subi c15_i32 arg27
  let c128_i32_1282 : BitVec 32 := 128#32
  let v2842 : BitVec 32 := Scalar.muli v2840 c128_i32_1282
  let v2843 : BitVec 32 := v2842
  let v3001 : BitVec 32 := Scalar.addi v2843 c64_i32_1343
  let v3002 : Index := Scalar.indexCast v3001
  let c384_1344 : Index := 384#32
  ![v3002.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2048x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Proof.FfnActIdealRun.lean ====
/- The three runs of the gated activation's body: what each leaves in the output block and in the gate and value buffers. -/
module

public import proofs.«01_k».proof.Proof.Gen.FfnActIdeal.Frame.Runs

@[expose] public section

set_option maxRecDepth 16384

noncomputable section

namespace Cert.FfnActIdeal.Own

open Cert.FfnActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first chunk of a row: the zero borders, the first gate chunk, then the step from buffer 0 to buffer 1. -/
noncomputable def kernelRun0_A (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) :
    Σ' (L6 : List (View.Piece (Elt F) S1x2048x256 .bf16)), Σ' (LS0 : List (View.Piece (Elt F) S2176x256 .f32)), Σ' (LS1 : List (View.Piece (Elt F) S2176x256 .f32)), { LT2 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

set_option maxHeartbeats 4000000 in
/-- The body at an odd chunk: the step from buffer 1 to buffer 0. -/
noncomputable def kernelRun0_B (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs1 : Vec F S2176x256 .f32) :
    Σ' (L6 : List (View.Piece (Elt F) S1x2048x256 .bf16)), Σ' (LS0 : List (View.Piece (Elt F) S2176x256 .f32)), Σ' (LS1 : List (View.Piece (Elt F) S2176x256 .f32)), { LT2 : List (View.Piece (Elt F) S2048x256 .f32) //
      ∀ (xs0 : Vec F S2176x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ owns (c : Thread nD τ) arg10 fullShare xs1 ∗ (∃ f, arg11.view.loc (c : Thread nD τ) ↦[arg11.view.set]{fullShare} arg11.view.writes (Elt F) f LT2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, ?_, [], ?_, fun xs0 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexact HS0
    isplitl [HS1]
    · iexists _; isplitr; · ipureintro; exact harg10.read_unread _
      iexact HS1
    iexists _; iexact HS2

set_option maxHeartbeats 4000000 in
/-- The body at a later even chunk: the step from buffer 0 to buffer 1. -/
noncomputable def kernelRun0_C (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs0 : Vec F S2176x256 .f32) :
    Σ' (L6 : List (View.Piece (Elt F) S1x2048x256 .bf16)), Σ' (LS0 : List (View.Piece (Elt F) S2176x256 .f32)), Σ' (LS1 : List (View.Piece (Elt F) S2176x256 .f32)), { LT2 : List (View.Piece (Elt F) S2048x256 .f32) //
      ∀ (xs1 : Vec F S2176x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LT2)) -∗ K ⟨⟩))
          ⊢ wp frame (wpE (defs₀ (F := F)) Variants.none c none) E (cc0_ffn_act i arg2 harg2 arg3 harg3 arg4 harg4 arg5 harg5 arg6 harg6 arg7 harg7 arg8 harg8 arg9 harg9 arg10 harg10 arg11 harg11) K } := by
  refine ⟨?_, [], ?_, ?_, fun xs1 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexact HS1
    iexists _; iexact HS2

end Cert.FfnActIdeal.Own

end
-- ==== Proof.FfnActIdealFrame.lean ====
/- The gated activation runs at every grid point and leaves its arguments as they were. -/
module

public import Idealize.ShloMosaic.Lib.Claim
public import proofs.«01_k».proof.Proof.FfnActIdealRun

@[expose] public section

set_option maxRecDepth 16384

noncomputable section

namespace Cert.FfnActIdeal.Own

open Cert.FfnActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (y : S1x2048x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4 x5).1 S1x64x256.size (by sl_kernel_rfl) y

def out0_A_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) : Vec F S1x2048x256 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 x0 x1 x2 x3 x4 x5).1)

theorem scover0_A_0 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (y : S2176x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 hc2 x0 x1 x2 x3 x4 x5).2.1 ![64, 256] (by sl_kernel_rfl) y

def sout0_A_0 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) : Vec F S2176x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4 x5).2.1)

theorem scover0_A_1 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (y : S2176x256.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 ![64, 256] (by sl_kernel_rfl) y

def sout0_A_1 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) : Vec F S2176x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1)

theorem cover0_B_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs1 : Vec F S2176x256 .f32) (y : S1x2048x256.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).1 S1x64x256.size (by sl_kernel_rfl) y

def out0_B_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs1 : Vec F S2176x256 .f32) : Vec F S1x2048x256 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).1)

def sout0_B_0 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs1 : Vec F S2176x256 .f32) (xs0 : Vec F S2176x256 .f32) : Vec F S2176x256 .f32 :=
  arg9.view.read (Elt F) (arg9.view.writes (Elt F) (harg9.unread xs0) (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.1)

def sout0_B_1 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs1 : Vec F S2176x256 .f32) : Vec F S2176x256 .f32 := xs1

theorem cover0_C_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs0 : Vec F S2176x256 .f32) (y : S1x2048x256.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 x5 xs0).1 S1x64x256.size (by sl_kernel_rfl) y

def out0_C_6 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs0 : Vec F S2176x256 .f32) : Vec F S1x2048x256 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 x0 x1 x2 x3 x4 x5 xs0).1)

def sout0_C_0 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs0 : Vec F S2176x256 .f32) : Vec F S2176x256 .f32 := xs0

def sout0_C_1 (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec F S1x2048x1024 .bf16) (x1 : Vec F S1024x256 .bf16) (x2 : Vec F S1024x256 .bf16) (x3 : Vec F S1024x256 .bf16) (x4 : Vec F S9x256 .f32) (x5 : Vec F S1x256 .f32) (xs0 : Vec F S2176x256 .f32) (xs1 : Vec F S2176x256 .f32) : Vec F S2176x256 .f32 :=
  arg10.view.read (Elt F) (arg10.view.writes (Elt F) (harg10.unread xs1) (kernelRun0_C c i arg2 harg2 arg3 harg3 arg4 harg4 arg5 harg5 arg6 harg6 arg7 harg7 arg8 harg8 arg9 harg9 arg10 harg10 arg11 harg11 hc0 hc1 hc2 x0 x1 x2 x3 x4 x5 xs0).2.2.1)

def outsAt0 (c : Dev nD) : (n : ℕ) → n < cfg0.N → Vec F S1x2048x256 .bf16 × Vec F S2176x256 .f32 × Vec F S2176x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 11 = 0 then
      if h1 : ¬((n + 1) % 11 = 1 ∨ (n + 1) % 11 = 3 ∨ (n + 1) % 11 = 5 ∨ (n + 1) % 11 = 7 ∨ (n + 1) % 11 = 9) then
        if h2 : ((n + 1) % 11 = 1 ∨ (n + 1) % 11 = 3 ∨ (n + 1) % 11 = 5 ∨ (n + 1) % 11 = 7 ∨ (n + 1) % 11 = 9) then
          False.elim (by have hN : n + 1 < 176 := lt_of_lt_of_eq hn (show cfg0.N = 176 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 176 := lt_of_lt_of_eq hn (show cfg0.N = 176 from N_0); omega)
    else
      if h1 : ¬((n + 1) % 11 = 1 ∨ (n + 1) % 11 = 3 ∨ (n + 1) % 11 = 5 ∨ (n + 1) % 11 = 7 ∨ (n + 1) % 11 = 9) then
        if h2 : ((n + 1) % 11 = 1 ∨ (n + 1) % 11 = 3 ∨ (n + 1) % 11 = 5 ∨ (n + 1) % 11 = 7 ∨ (n + 1) % 11 = 9) then
          False.elim (by have hN : n + 1 < 176 := lt_of_lt_of_eq hn (show cfg0.N = 176 from N_0); omega)
        else
          (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        if h2 : ((n + 1) % 11 = 1 ∨ (n + 1) % 11 = 3 ∨ (n + 1) % 11 = 5 ∨ (n + 1) % 11 = 7 ∨ (n + 1) % 11 = 9) then
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2 (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
        else
          False.elim (by have hN : n + 1 < 176 := lt_of_lt_of_eq hn (show cfg0.N = 176 from N_0); omega)

theorem outsAt0_A (c : Dev nD) (t : Fin cfg0.N) (h0 : t.val % 11 = 0) (h1 : ¬(t.val % 11 = 1 ∨ t.val % 11 = 3 ∨ t.val % 11 = 5 ∨ t.val % 11 = 7 ∨ t.val % 11 = 9)) (h2 : ¬(t.val % 11 = 1 ∨ t.val % 11 = 3 ∨ t.val % 11 = 5 ∨ t.val % 11 = 7 ∨ t.val % 11 = 9)) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 11 = 0) (h1 : ¬¬(t.val % 11 = 1 ∨ t.val % 11 = 3 ∨ t.val % 11 = 5 ∨ t.val % 11 = 7 ∨ t.val % 11 = 9)) (h2 : (t.val % 11 = 1 ∨ t.val % 11 = 3 ∨ t.val % 11 = 5 ∨ t.val % 11 = 7 ∨ t.val % 11 = 9)) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2 (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_C (c : Dev nD) (t : Fin cfg0.N) (h0 : ¬t.val % 11 = 0) (h1 : ¬(t.val % 11 = 1 ∨ t.val % 11 = 3 ∨ t.val % 11 = 5 ∨ t.val % 11 = 7 ∨ t.val % 11 = 9)) (h2 : ¬(t.val % 11 = 1 ∨ t.val % 11 = 3 ∨ t.val % 11 = 5 ∨ t.val % 11 = 7 ∨ t.val % 11 = 9)) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : ¬(t.val % 11 = 1 ∨ t.val % 11 = 3 ∨ t.val % 11 = 5 ∨ t.val % 11 = 7 ∨ t.val % 11 = 9)
    · by_cases h2 : (t.val % 11 = 1 ∨ t.val % 11 = 3 ∨ t.val % 11 = 5 ∨ t.val % 11 = 7 ∨ t.val % 11 = 9)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        by_cases hz : t.val = 0
        · rw [PhiS_castSucc m c t, PhiS_zero m c _ _ hz, PhiA0_eq]
          rw [outsAt0_A m c t h0 h1 h2]
          unfold out0_A_6 sout0_A_0 sout0_A_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, ⟨%es0, HS0⟩, ⟨%es1, HS1⟩, ⟨%fT2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_6 sout0_A_0 sout0_A_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexists _; iexact HS0
          isplitl [HS1]; · iexists _; iexact HS1
          isplitl [HS2]; · iexact HS2
          iintro ⟨H0, H1, H2, H3, H4, H5, ⟨%e6, H6⟩, ⟨%es0, HS0⟩, ⟨%es1, HS1⟩, ⟨%fT2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
    · exfalso; omega
  · by_cases h1 : ¬(t.val % 11 = 1 ∨ t.val % 11 = 3 ∨ t.val % 11 = 5 ∨ t.val % 11 = 7 ∨ t.val % 11 = 9)
    · by_cases h2 : (t.val % 11 = 1 ∨ t.val % 11 = 3 ∨ t.val % 11 = 5 ∨ t.val % 11 = 7 ∨ t.val % 11 = 9)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) (fun h => h2 ((hcond0_2 t).mp h))], after0_6]
        by_cases hz : t.val = 0
        · exfalso; have hN : t.val < 176 := lt_of_lt_of_eq t.isLt (show cfg0.N = 176 from N_0); omega
        · rw [PhiS_castSucc m c t, PhiS_pos m c _ _ hz]
          rw [outsAt0_C m c t h0 h1 h2]
          unfold out0_C_6 sout0_C_0 sout0_C_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, HS0, HS1, ⟨%fT2, HS2⟩⟩
          isplitl [HS0 HS1 HS2 Hg]
          · isplitl [HS0 HS1 HS2]
            · isplitl [HS0]
              · iexact HS0
              isplitl [HS1]
              · unfold owns; iexists _; isplitr
                swap; · iexact HS1
                ipureintro; rfl
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
    · by_cases h2 : (t.val % 11 = 1 ∨ t.val % 11 = 3 ∨ t.val % 11 = 5 ∨ t.val % 11 = 7 ∨ t.val % 11 = 9)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2)], after0_6]
        by_cases hz : t.val = 0
        · exfalso; have hN : t.val < 176 := lt_of_lt_of_eq t.isLt (show cfg0.N = 176 from N_0); omega
        · rw [PhiS_castSucc m c t, PhiS_pos m c _ _ hz]
          rw [outsAt0_B m c t h0 h1 h2]
          unfold out0_B_6 sout0_B_0 sout0_B_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          isplitl [HS1]; · iexact HS1
          isplitl [HS2]; · iexact HS2
          iintro ⟨H0, H1, H2, H3, H4, H5, ⟨%e6, H6⟩, HS0, HS1, ⟨%fT2, HS2⟩⟩
          isplitl [HS0 HS1 HS2 Hg]
          · isplitl [HS0 HS1 HS2]
            · isplitl [HS0]
              · unfold owns; iexists _; isplitr
                swap; · iexact HS0
                ipureintro; rfl
              isplitl [HS1]
              · iexact HS1
              iexists _; unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.FfnActIdeal.Own

end
-- ==== Proof.FfnActRow.lean ====
/- One row of the convolution: the row sums, the gate buffers and the products, by index. -/
module

public import proofs.«01_k».proof.Proof.FfnActIdealFrame
public import Idealize.ShloMosaic.Lib.Pointwise
public import Idealize.ShloMosaic.Lib.Pipeline.Value
public import Idealize.ShloMosaic.Lib.Pipeline.ValueKit.Geometry

@[expose] public section

set_option maxRecDepth 16384

noncomputable section

namespace Cert.FfnActEq

open Idealize.ShloMosaic Idealize.ShloMosaic.TcCoe Idealize.ShloMosaic.Tactic Idealize.SL.Sem
open Cert.FfnActIdeal Cert.FfnActIdeal.Gen Cert.FfnActIdeal.Own

/-- A grid row of the body: sixty-four tokens out of the rows above, at and below it. -/
def rowOut (w : Vec Ideal S9x256 .f32) (a b c : Vec Ideal S64x256 .f32) (z : Vec Ideal S1x256 .f32) (s : Vec Ideal S64x256 .f32) : FVec Ideal S1x64x256 .bf16 :=
  k0_pay17 (k0_pay15 (iota .tc S8x256 32 [0] iota_S8x256_d0_w32) (k0_pay10 w) a b c (k0_pay13 w a b c) (k0_pay14 w) z)
    (k0_pay16 (iota .tc S8x256 32 [0] iota_S8x256_d0_w32) (k0_pay10 w) a b c (k0_pay13 w a b c) (k0_pay14 w) z) s

/-- One column of taps: the three rows of a grid column against three of the nine weights. -/
def tap (a b c u v w : EReal) : EReal := a * u + b * v + c * w
/-- The nine taps of a position, the left and right columns absent at the ends of a grid row, and the bias. -/
def conv9 (w : Fin 9 → EReal) (z : EReal) (x : ℕ) (a b c : ℕ → EReal) : EReal :=
  tap (a x) (b x) (c x) (w 1) (w 4) (w 7) + (if x = 0 then 0 else tap (a (x - 1)) (b (x - 1)) (c (x - 1)) (w 0) (w 3) (w 6))
    + (if x = 63 then 0 else tap (a (x + 1)) (b (x + 1)) (c (x + 1)) (w 2) (w 5) (w 8)) + z
/-- The gate's nonlinearity. -/
def gated (v s : EReal) : EReal := v * Ideal.div 1 (1 + Ideal.exp (0 - v)) * s

/-- A vector of 64 rows as a function of the row number. -/
def rowsOf (a : Vec Ideal S64x256 .f32) (d : Fin 256) (x : ℕ) : EReal := if h : x < 64 then a (ix2 ⟨x, h⟩ d) else 0

theorem rowsOf_lt (a : Vec Ideal S64x256 .f32) (d : Fin 256) (x : ℕ) (h : x < 64) : rowsOf a d x = a (ix2 ⟨x, h⟩ d) := dif_pos h

theorem sel_left (r : Fin 64) (p q : EReal) (h : r.val < 8) :
    Scalar.select (IntOp.cmpi CmpIPredicate.eq (BitVec.ofNat 32 r.val) 0#32) p q = if r.val = 0 then p else q := by
  have : ∀ n : Fin 8, IntOp.cmpi CmpIPredicate.eq (BitVec.ofNat 32 n.val) 0#32 = if n.val = 0 then 1#1 else 0#1 := by decide
  have e := this ⟨r.val, h⟩
  dsimp only at e
  rw [e]
  split <;> rfl

theorem sel_right (r : Fin 64) (p q : EReal) (h : ¬ r.val < 56) :
    Scalar.select (IntOp.cmpi CmpIPredicate.eq (BitVec.ofNat 32 (r.val - 56)) 7#32) p q = if r.val = 63 then p else q := by
  have : ∀ n : Fin 8, IntOp.cmpi CmpIPredicate.eq (BitVec.ofNat 32 n.val) 7#32 = if n.val + 56 = 63 then 1#1 else 0#1 := by decide
  have e := this ⟨r.val - 56, by have := r.isLt; omega⟩
  dsimp only at e
  rw [e, Nat.sub_add_cancel (by omega)]
  split <;> rfl

set_option maxHeartbeats 2000000 in
theorem rowOut_at (w : Vec Ideal S9x256 .f32) (a b c : Vec Ideal S64x256 .f32) (z : Vec Ideal S1x256 .f32) (s : Vec Ideal S64x256 .f32) (r : Fin 64) (d : Fin 256) :
    rowOut w a b c z s (ix3 0 r d) = gated (conv9 (fun k => w (ix2 k d)) (z (ix2 0 d)) r.val (rowsOf a d) (rowsOf b d) (rowsOf c d)) (s (ix2 r d)) := by
  have key : conv9 (fun k => w (ix2 k d)) (z (ix2 0 d)) r.val (rowsOf a d) (rowsOf b d) (rowsOf c d)
      = k0_pay15 (iota .tc S8x256 32 [0] iota_S8x256_d0_w32) (k0_pay10 w) a b c (k0_pay13 w a b c) (k0_pay14 w) z (ix2 r d) := by
    pointwise [k0_pay15, k0_pay10, k0_pay13, k0_pay14]
    unfold conv9 tap
    refine congrArg (· + _) (congrArg₂ (fun x y : EReal => x + y) (congrArg₂ (fun x y : EReal => x + y) ?_ ?_) ?_)
    · rw [rowsOf_lt _ _ _ r.isLt, rowsOf_lt _ _ _ r.isLt, rowsOf_lt _ _ _ r.isLt]
    · by_cases h0 : r.val = 0
      · rw [if_pos h0, dif_pos (by omega), sel_left r _ _ (by omega), if_pos h0]
      · rw [if_neg h0, rowsOf_lt _ _ _ (by have := r.isLt; omega), rowsOf_lt _ _ _ (by have := r.isLt; omega), rowsOf_lt _ _ _ (by have := r.isLt; omega)]
        by_cases h8 : r.val < 8
        · rw [dif_pos h8, sel_left r _ _ h8, if_neg h0]
          have e : (r.val + 64 - 1) % 64 = r.val - 1 := by have := r.isLt; omega
          simp only [e]
        · rw [dif_neg h8]
          have e : (8 + (r.val - 8) + 64 - 1) % 64 = r.val - 1 := by have := r.isLt; omega
          simp only [e]
    · by_cases h0 : r.val = 63
      · rw [if_pos h0, dif_neg (by omega), sel_right r _ _ (by omega), if_pos h0]
      · rw [if_neg h0, rowsOf_lt _ _ _ (by have := r.isLt; omega), rowsOf_lt _ _ _ (by have := r.isLt; omega), rowsOf_lt _ _ _ (by have := r.isLt; omega)]
        by_cases h8 : r.val < 56
        · rw [dif_pos h8]
          have e : (r.val + 64 - 63) % 64 = r.val + 1 := by have := r.isLt; omega
          simp only [e]
        · rw [dif_neg h8, sel_right r _ _ h8, if_neg h0]
          have e : (56 + (r.val - 56) + 64 - 63) % 64 = r.val + 1 := by have := r.isLt; omega
          simp only [e]
  rw [key]
  unfold rowOut gated
  pointwise [k0_pay17, k0_pay16]

/-- Row `q` of the gate buffer, by number. -/
def gateAt (xs : Vec Ideal S2176x256 .f32) (d : Fin 256) (q : ℕ) : EReal := if h : q < 2176 then xs (ix2 ⟨q, h⟩ d) else 0

/-- What a step leaves at token `s`, column `d` of its chunk, of the gate buffer, the weights, the bias and the values. -/
def stepAt (xs : Vec Ideal S2176x256 .f32) (w : Vec Ideal S9x256 .f32) (z : Vec Ideal S1x256 .f32) (U : Fin 2048 → Fin 256 → EReal) (s : Fin 2048) (d : Fin 256) : EReal :=
  gated (conv9 (fun k => w (ix2 k d)) (z (ix2 0 d)) (s.val % 64) (fun x => gateAt xs d (64 * (s.val / 64) + x))
    (fun x => gateAt xs d (64 * (s.val / 64) + 64 + x)) (fun x => gateAt xs d (64 * (s.val / 64) + 128 + x))) (U s d)

/-- The step's block of the output. -/
def outG (xs : Vec Ideal S2176x256 .f32) (w : Vec Ideal S9x256 .f32) (z : Vec Ideal S1x256 .f32) (U : Fin 2048 → Fin 256 → EReal) : Vec Ideal S1x2048x256 .bf16 :=
  fun y => stepAt xs w z U (y 1) (y 2)

theorem conv9_congr (w w' : Fin 9 → EReal) (z z' : EReal) (x x' : ℕ) (a b c a' b' c' : ℕ → EReal) (hw : w = w') (hz : z = z') (hx : x = x') (hlt : x < 64)
    (ha : ∀ y < 64, a y = a' y) (hb : ∀ y < 64, b y = b' y) (hc : ∀ y < 64, c y = c' y) : conv9 w z x a b c = conv9 w' z' x' a' b' c' := by
  subst hw hz hx
  unfold conv9
  rw [ha x hlt, hb x hlt, hc x hlt]
  congr 2
  · congr 1
    split
    · rfl
    · rw [ha _ (by omega), hb _ (by omega), hc _ (by omega)]
  · split
    · rfl
    · rw [ha _ (by omega), hb _ (by omega), hc _ (by omega)]

theorem ix3_of {n1 n2 : Nat} (j : (⟨3, ![1, n1, n2]⟩ : Shape).Idx) : j = ix3 0 (j 1) (j 2) := by
  funext a
  match a with
  | ⟨0, _⟩ => exact Fin.ext (by have h : (j 0).val < 1 := (j 0).isLt; show (j 0).val = 0; omega)
  | ⟨1, _⟩ => rfl
  | ⟨2, _⟩ => rfl

theorem row_piece (xs : Vec Ideal S2176x256 .f32) (w : Vec Ideal S9x256 .f32) (z : Vec Ideal S1x256 .f32) (U : Fin 2048 → Fin 256 → EReal)
    (o : ℕ) (ho : o + 64 ≤ 2048) (hd : 64 ∣ o) (w' : Vec Ideal S9x256 .f32) (a b c : Vec Ideal S64x256 .f32) (z' : Vec Ideal S1x256 .f32) (s : Vec Ideal S64x256 .f32)
    (hw : w' = w) (hz : z' = z)
    (ha : ∀ (r : Fin 64) (d : Fin 256), a (ix2 r d) = xs (ix2 ⟨o + r.val, by have := r.isLt; omega⟩ d))
    (hb : ∀ (r : Fin 64) (d : Fin 256), b (ix2 r d) = xs (ix2 ⟨o + 64 + r.val, by have := r.isLt; omega⟩ d))
    (hc : ∀ (r : Fin 64) (d : Fin 256), c (ix2 r d) = xs (ix2 ⟨o + 128 + r.val, by have := r.isLt; omega⟩ d))
    (hs : ∀ (r : Fin 64) (d : Fin 256), s (ix2 r d) = U ⟨o + r.val, by have := r.isLt; omega⟩ d)
    (inb : ∀ k, ![0, o, 0] k + ![1, 64, 256] k ≤ S1x2048x256.size k) (j : (⟨3, ![1, 64, 256]⟩ : Shape).Idx) :
    rowOut w' a b c z' s j = outG xs w z U ((Rect.unit (s := S1x2048x256) ![0, o, 0] ![1, 64, 256] inb).emb j) := by
  subst hw hz
  obtain ⟨r, d, rfl⟩ : ∃ (r : Fin 64) (d : Fin 256), j = ix3 0 r d := ⟨j 1, j 2, ix3_of j⟩
  rw [rowOut_at]
  have e1 : ((Rect.unit (s := S1x2048x256) ![0, o, 0] ![1, 64, 256] inb).emb (ix3 0 r d)) 1 = (⟨o + r.val, by have := r.isLt; omega⟩ : Fin 2048) :=
    Fin.ext (ValueKit.rect_emb_unit_val ..)
  have e2 : ((Rect.unit (s := S1x2048x256) ![0, o, 0] ![1, 64, 256] inb).emb (ix3 0 r d)) 2 = d :=
    Fin.ext ((ValueKit.rect_emb_unit_val ..).trans (Nat.zero_add _))
  unfold outG
  rw [e1, e2]
  unfold stepAt
  rw [hs]
  refine congrArg (fun v => gated v _) (conv9_congr _ _ _ _ _ _ _ _ _ _ _ _ rfl rfl ?_ r.isLt ?_ ?_ ?_)
  · show r.val = (o + r.val) % 64
    have := r.isLt
    omega
  all_goals
    intro y hy
    rw [rowsOf_lt _ _ _ hy]
    unfold gateAt
    have := r.isLt
    rw [dif_pos (show _ < 2176 by dsimp only; omega)]
    first | rw [ha] | rw [hb] | rw [hc]
    refine congrArg (fun q => xs (ix2 q d)) (Fin.ext ?_)
    dsimp only
    omega

end Cert.FfnActEq

end
-- ==== Proof.FfnActPay.lean ====
/- The values one grid point computes, read by index. -/
module

public import proofs.«01_k».proof.Proof.FfnActRow

@[expose] public section

set_option maxRecDepth 16384

noncomputable section

namespace Cert.FfnActEq

open Idealize.ShloMosaic Idealize.ShloMosaic.TcCoe Idealize.ShloMosaic.Tactic Idealize.SL.Sem
open Cert.FfnActIdeal Cert.FfnActIdeal.Gen Cert.FfnActIdeal.Own

/-- The values of a chunk, before the gate. -/
def valU (x : Vec Ideal S1x2048x1024 .bf16) (w : Vec Ideal S1024x256 .bf16) (s : Fin 2048) (d : Fin 256) : EReal :=
  ∑ k : Fin 1024, x (ix3 0 s k) * w (ix2 k d)

theorem pay12_at (A : Vec Ideal S1x512x1024 .bf16) (B : Vec Ideal S1024x256 .bf16) (q : Fin 512) (d : Fin 256) :
    k0_pay12 A B (ix2 q d) = ∑ k : Fin 1024, A (ix3 0 q k) * B (ix2 k d) := by
  pointwise [k0_pay12]

theorem gate_ld (arg9 : Memref sig .tc .vmem S2176x256 .f32) (harg9 : arg9.IsWhole) (xs : Vec Ideal S2176x256 .f32) (o o' : ℕ) (ho : o' + 64 ≤ 2176) (e : o' = o)
    (inb : ∀ k, ![o, 0] k + S64x256.size k ≤ S2176x256.size k) (r : Fin 64) (d : Fin 256) :
    View.readAt (Elt Ideal) arg9.view (Rect.unit (s := S2176x256) ![o, 0] S64x256.size inb).toLoadRect (harg9.unread xs) (ix2 r d)
      = xs (ix2 ⟨o' + r.val, by have := r.isLt; omega⟩ d) := by
  subst e
  rw [View.readAt_eq_ld, harg9.read_unread]
  refine congrArg xs ?_
  funext a
  match a with
  | ⟨0, _⟩ => exact Fin.ext (ValueKit.rect_emb_unit_val ..)
  | ⟨1, _⟩ => exact Fin.ext ((ValueKit.rect_emb_unit_val ..).trans (Nat.zero_add _))

theorem tok_ld (arg2 : Memref sig .tc .vmem S1x2048x1024 .bf16) (harg2 : arg2.IsWhole) (x : Vec Ideal S1x2048x1024 .bf16) (o : ℕ) (ho : o + 512 ≤ 2048)
    (inb : ∀ k, ![0, o, 0] k + S1x512x1024.size k ≤ S1x2048x1024.size k) (q : Fin 512) (k : Fin 1024) :
    View.readAt (Elt Ideal) arg2.view (Rect.unit (s := S1x2048x1024) ![0, o, 0] S1x512x1024.size inb).toLoadRect (harg2.unread x) (ix3 0 q k)
      = x (ix3 0 ⟨o + q.val, by have := q.isLt; omega⟩ k) := by
  rw [View.readAt_eq_ld, harg2.read_unread]
  refine congrArg x ?_
  funext a
  match a with
  | ⟨0, _⟩ => exact Fin.ext ((ValueKit.rect_emb_unit_val ..).trans (Nat.zero_add _))
  | ⟨1, _⟩ => exact Fin.ext (ValueKit.rect_emb_unit_val ..)
  | ⟨2, _⟩ => exact Fin.ext ((ValueKit.rect_emb_unit_val ..).trans (Nat.zero_add _))

theorem whole_ld {S : Shape} {e : EltTy} (hS : S.rank = 2) (arg : Memref sig .tc .vmem S e) (harg : arg.IsWhole) (x : Vec Ideal S e) (s : Fin S.rank → ℕ) (hs : s = 0)
    (inb : ∀ k, s k + S.size k ≤ S.size k) : View.readAt (Elt Ideal) arg.view (Rect.unit s S.size inb).toLoadRect (harg.unread x) = x := by
  subst hs
  rw [View.readAt_eq_ld, harg.read_unread]
  exact View.ld_unit_zero (S := S) (off := 0) rfl _ x

theorem val_ld (arg11 : Memref sig .tc .vmem S2048x256 .f32) (L : List (View.Piece (Elt Ideal) S2048x256 .f32)) (t0 o : ℕ) (h1 : t0 ≤ o) (h2 : o + 64 ≤ t0 + 512) (h3 : o + 64 ≤ 2048)
    (arg2 : Memref sig .tc .vmem S1x2048x1024 .bf16) (harg2 : arg2.IsWhole) (x : Vec Ideal S1x2048x1024 .bf16) (B w : Vec Ideal S1024x256 .bf16) (hB : B = w)
    (i0 : ∀ k, ![0, t0, 0] k + S1x512x1024.size k ≤ S1x2048x1024.size k)
    (P : FVec Ideal S512x256 .f32) (hP : P = k0_pay12 (View.readAt (Elt Ideal) arg2.view (Rect.unit (s := S1x2048x1024) ![0, t0, 0] S1x512x1024.size i0).toLoadRect (harg2.unread x)) B)
    (i1 : ∀ k, ![t0, 0] k + S512x256.size k ≤ S2048x256.size k) (i2 : ∀ k, ![o, 0] k + S64x256.size k ≤ S2048x256.size k) (r : Fin 64) (d : Fin 256) :
    arg11.view.readCov (⟨Rect.unit (s := S2048x256) ![t0, 0] S512x256.size i1, P⟩ :: L)
      (Rect.unit (s := S2048x256) ![o, 0] S64x256.size i2).toLoadRect (ix2 r d) = valU x w ⟨o + r.val, by have := r.isLt; omega⟩ d := by
  subst hB hP
  have hr := r.isLt
  have hi : t0 + 512 ≤ 2048 := i1 0
  rw [View.readCov_eq_canon']
  have e : (Rect.unit (s := S2048x256) ![o, 0] S64x256.size i2).toLoadRect.idx (ix2 r d)
      = (Rect.unit (s := S2048x256) ![t0, 0] S512x256.size i1).emb (ix2 (⟨o - t0 + r.val, by omega⟩ : Fin 512) d) := by
    have e0 : (((Rect.unit (s := S2048x256) ![t0, 0] S512x256.size i1).emb (ix2 (⟨o - t0 + r.val, by omega⟩ : Fin 512) d)) 0).val = t0 + (o - t0 + r.val) := ValueKit.rect_emb_unit_val ..
    have e1 : (((Rect.unit (s := S2048x256) ![t0, 0] S512x256.size i1).emb (ix2 (⟨o - t0 + r.val, by omega⟩ : Fin 512) d)) 1).val = 0 + d.val := ValueKit.rect_emb_unit_val ..
    funext a
    match a with
    | ⟨0, _⟩ => exact Fin.ext ((ValueKit.rect_emb_unit_val ..).trans (Eq.trans (show o + r.val = t0 + (o - t0 + r.val) by omega) e0.symm))
    | ⟨1, _⟩ => exact Fin.ext ((ValueKit.rect_emb_unit_val ..).trans e1.symm)
  dsimp only
  rw [e, View.canon_cons_emb, pay12_at]
  refine Finset.sum_congr rfl fun k _ => congrArg (· * _) ?_
  rw [tok_ld _ _ _ _ hi]
  refine congrArg (fun q => x (ix3 0 q k)) (Fin.ext ?_)
  show t0 + (o - t0 + r.val) = o + r.val
  omega

/-- A gate buffer: a chunk's gate between the two strips of zero rows. -/
def gateBuf (x : Vec Ideal S1x2048x1024 .bf16) (w : Vec Ideal S1024x256 .bf16) : Vec Ideal S2176x256 .f32 := fun y =>
  if h : 64 ≤ (y 0).val ∧ (y 0).val < 2112 then valU x w ⟨(y 0).val - 64, by omega⟩ (y 1) else 0

theorem gate_piece (t0 o : ℕ) (ho : o = t0 + 64) (arg2 : Memref sig .tc .vmem S1x2048x1024 .bf16) (harg2 : arg2.IsWhole) (x : Vec Ideal S1x2048x1024 .bf16) (B w : Vec Ideal S1024x256 .bf16) (hB : B = w)
    (i0 : ∀ k, ![0, t0, 0] k + S1x512x1024.size k ≤ S1x2048x1024.size k)
    (P : FVec Ideal S512x256 .f32) (hP : P = k0_pay12 (View.readAt (Elt Ideal) arg2.view (Rect.unit (s := S1x2048x1024) ![0, t0, 0] S1x512x1024.size i0).toLoadRect (harg2.unread x)) B)
    (i1 : ∀ k, ![o, 0] k + ![512, 256] k ≤ S2176x256.size k) (j : (⟨2, ![512, 256]⟩ : Shape).Idx) :
    P j = gateBuf x w ((Rect.unit (s := S2176x256) ![o, 0] ![512, 256] i1).emb j) := by
  subst hB hP ho
  obtain ⟨q, d, rfl⟩ : ∃ (q : Fin 512) (d : Fin 256), j = ix2 q d := ⟨j 0, j 1, eq_ix2 j⟩
  have hq := q.isLt
  have hi : t0 + 512 ≤ 2048 := i0 1
  have e1 : (((Rect.unit (s := S2176x256) ![t0 + 64, 0] ![512, 256] i1).emb (ix2 q d)) 0).val = t0 + 64 + q.val := ValueKit.rect_emb_unit_val ..
  have e2 : ((Rect.unit (s := S2176x256) ![t0 + 64, 0] ![512, 256] i1).emb (ix2 q d)) 1 = d := Fin.ext ((ValueKit.rect_emb_unit_val ..).trans (Nat.zero_add _))
  unfold gateBuf
  rw [dif_pos (by rw [e1]; omega), e2, pay12_at]
  refine Finset.sum_congr rfl fun k _ => congrArg (· * _) ?_
  rw [tok_ld _ _ _ _ hi]
  refine congrArg (fun q => x (ix3 0 q k)) (Fin.ext ?_)
  dsimp only
  rw [e1]
  omega

theorem zero_piece (o : ℕ) (ho : o = 0 ∨ o = 2112) (x : Vec Ideal S1x2048x1024 .bf16) (w : Vec Ideal S1024x256 .bf16) (P : FVec Ideal S64x256 .f32) (hP : P = k0_pay4)
    (i1 : ∀ k, ![o, 0] k + ![64, 256] k ≤ S2176x256.size k) (j : (⟨2, ![64, 256]⟩ : Shape).Idx) :
    P j = gateBuf x w ((Rect.unit (s := S2176x256) ![o, 0] ![64, 256] i1).emb j) := by
  subst hP
  obtain ⟨q, d, rfl⟩ : ∃ (q : Fin 64) (d : Fin 256), j = ix2 q d := ⟨j 0, j 1, eq_ix2 j⟩
  have hq := q.isLt
  have e1 : (((Rect.unit (s := S2176x256) ![o, 0] ![64, 256] i1).emb (ix2 q d)) 0).val = o + q.val := ValueKit.rect_emb_unit_val ..
  unfold gateBuf
  rw [dif_neg (by rw [e1]; omega)]
  pointwise [k0_pay4, k0_pay3]

theorem mem_rows (o n : ℕ) (inb : ∀ k, ![o, 0] k + ![n, 256] k ≤ S2176x256.size k) (y : S2176x256.Idx) (h : o ≤ (y 0).val ∧ (y 0).val < o + n) :
    y ∈ (Rect.unit (s := S2176x256) ![o, 0] ![n, 256] inb).set := by
  rw [Rect.mem_set_unit]
  intro a
  match a with
  | ⟨0, _⟩ => exact h
  | ⟨1, _⟩ => exact ⟨Nat.zero_le _, (y 1).isLt.trans_eq (Nat.zero_add 256).symm⟩

theorem not_mem_rows (o n : ℕ) (inb : ∀ k, ![o, 0] k + ![n, 256] k ≤ S2176x256.size k) (y : S2176x256.Idx) (h : (y 0).val < o ∨ o + n ≤ (y 0).val) :
    y ∉ (Rect.unit (s := S2176x256) ![o, 0] ![n, 256] inb).set := by
  rw [Rect.mem_set_unit]
  intro hh
  have h0 : o ≤ (y 0).val ∧ (y 0).val < o + n := hh 0
  omega

theorem gateA_ld (arg9 : Memref sig .tc .vmem S2176x256 .f32) (L : List (View.Piece (Elt Ideal) S2176x256 .f32)) (xs : Vec Ideal S2176x256 .f32) (hL : ∀ y, View.canon L y = xs y)
    (o o' : ℕ) (ho : o' + 64 ≤ 2176) (e : o' = o) (inb : ∀ k, ![o, 0] k + S64x256.size k ≤ S2176x256.size k) (r : Fin 64) (d : Fin 256) :
    arg9.view.readCov L (Rect.unit (s := S2176x256) ![o, 0] S64x256.size inb).toLoadRect (ix2 r d) = xs (ix2 ⟨o' + r.val, by have := r.isLt; omega⟩ d) := by
  subst e
  rw [View.readCov_eq_canon']
  dsimp only
  rw [hL]
  refine congrArg xs ?_
  funext a
  match a with
  | ⟨0, _⟩ => exact Fin.ext (ValueKit.rect_emb_unit_val ..)
  | ⟨1, _⟩ => exact Fin.ext ((ValueKit.rect_emb_unit_val ..).trans (Nat.zero_add _))

theorem prod_1 (A : Vec Ideal S1x512x1024 .bf16) (B : Vec Ideal S1024x256 .bf16) : k0_pay1 A B = k0_pay12 A B := rfl
theorem prod_2 (A : Vec Ideal S1x512x1024 .bf16) (B : Vec Ideal S1024x256 .bf16) : k0_pay2 A B = k0_pay12 A B := rfl
theorem prod_8 (A : Vec Ideal S1x512x1024 .bf16) (B : Vec Ideal S1024x256 .bf16) : k0_pay8 A B = k0_pay12 A B := rfl
theorem prod_9 (A : Vec Ideal S1x512x1024 .bf16) (B : Vec Ideal S1024x256 .bf16) : k0_pay9 A B = k0_pay12 A B := rfl
theorem prod_11 (A : Vec Ideal S1x512x1024 .bf16) (B : Vec Ideal S1024x256 .bf16) : k0_pay11 A B = k0_pay12 A B := rfl
theorem prod_54 (A : Vec Ideal S1x512x1024 .bf16) (B : Vec Ideal S1024x256 .bf16) : k0_pay54 A B = k0_pay12 A B := rfl
theorem prod_92 (A : Vec Ideal S1x512x1024 .bf16) (B : Vec Ideal S1024x256 .bf16) : k0_pay92 A B = k0_pay12 A B := rfl
theorem prod_55 (A : Vec Ideal S1x512x1024 .bf16) (B : Vec Ideal S1024x256 .bf16) : k0_pay55 A B = k0_pay12 A B := rfl
theorem prod_134 (A : Vec Ideal S1x512x1024 .bf16) (B : Vec Ideal S1024x256 .bf16) : k0_pay134 A B = k0_pay12 A B := rfl
theorem prod_170 (A : Vec Ideal S1x512x1024 .bf16) (B : Vec Ideal S1024x256 .bf16) : k0_pay170 A B = k0_pay12 A B := rfl
theorem prod_213 (A : Vec Ideal S1x512x1024 .bf16) (B : Vec Ideal S1024x256 .bf16) : k0_pay213 A B = k0_pay12 A B := rfl
theorem prod_251 (A : Vec Ideal S1x512x1024 .bf16) (B : Vec Ideal S1024x256 .bf16) : k0_pay251 A B = k0_pay12 A B := rfl
theorem prod_94 (A : Vec Ideal S1x512x1024 .bf16) (B : Vec Ideal S1024x256 .bf16) : k0_pay94 (k0_pay93 A B) = k0_pay12 A B := rfl
theorem prod_133 (A : Vec Ideal S1x512x1024 .bf16) (B : Vec Ideal S1024x256 .bf16) : k0_pay133 (k0_pay132 A B) = k0_pay12 A B := rfl
theorem prod_292 (A : Vec Ideal S1x512x1024 .bf16) (B : Vec Ideal S1024x256 .bf16) : k0_pay292 (k0_pay291 A B) = k0_pay12 A B := rfl
theorem zero_5 : k0_pay5 (F := Ideal) = k0_pay4 := rfl
theorem zero_6 : k0_pay6 (F := Ideal) = k0_pay4 := rfl
theorem zero_7 : k0_pay7 (F := Ideal) = k0_pay4 := rfl
theorem prod_171 (A : Vec Ideal S1x512x1024 .bf16) (B : Vec Ideal S1024x256 .bf16) : k0_pay171 A B = k0_pay12 A B := rfl
theorem prod_214 (A : Vec Ideal S1x512x1024 .bf16) (B : Vec Ideal S1024x256 .bf16) : k0_pay214 A B = k0_pay12 A B := rfl
theorem prod_253 (A : Vec Ideal S1x512x1024 .bf16) (B : Vec Ideal S1024x256 .bf16) : k0_pay253 (k0_pay252 A B) = k0_pay12 A B := rfl
theorem prod_293 (A : Vec Ideal S1x512x1024 .bf16) (B : Vec Ideal S1024x256 .bf16) : k0_pay293 A B = k0_pay12 A B := rfl

theorem pay_C_0 (w : Vec Ideal S9x256 .f32) (a b c : Vec Ideal S64x256 .f32) (z : Vec Ideal S1x256 .f32) (s : Vec Ideal S64x256 .f32) :
    k0_pay17 (k0_pay15 (iota Kind.tc S8x256 32 [0] iota_S8x256_d0_w32) (k0_pay10 w) a b c (k0_pay13 w a b c) (k0_pay14 w) z) (k0_pay16 (iota Kind.tc S8x256 32 [0] iota_S8x256_d0_w32) (k0_pay10 w) a b c (k0_pay13 w a b c) (k0_pay14 w) z) s = rowOut w a b c z s := rfl
theorem pay_C_1 (w : Vec Ideal S9x256 .f32) (a b c : Vec Ideal S64x256 .f32) (z : Vec Ideal S1x256 .f32) (s : Vec Ideal S64x256 .f32) :
    k0_pay21 (iota Kind.tc S8x256 32 [0] iota_S8x256_d0_w32) (k0_pay18 (k0_pay10 w) a b c) (k0_pay19 (k0_pay10 w) a b c) (k0_pay20 (k0_pay10 w) a b c) (0#32) z s = rowOut w a b c z s := rfl
theorem pay_C_2 (w : Vec Ideal S9x256 .f32) (a b c : Vec Ideal S64x256 .f32) (z : Vec Ideal S1x256 .f32) (s : Vec Ideal S64x256 .f32) :
    k0_pay24 (k0_pay23 (iota Kind.tc S8x256 32 [0] iota_S8x256_d0_w32) (k0_pay10 w) a b c (k0_pay22 (k0_pay10 w) a) z) s = rowOut w a b c z s := rfl
theorem pay_C_3 (w : Vec Ideal S9x256 .f32) (a b c : Vec Ideal S64x256 .f32) (z : Vec Ideal S1x256 .f32) (s : Vec Ideal S64x256 .f32) :
    k0_pay29 (iota Kind.tc S8x256 32 [0] iota_S8x256_d0_w32) (k0_pay10 w) c (k0_pay25 (k0_pay10 w) a b c) (k0_pay26 (k0_pay10 w) a b c) (k0_pay27 (k0_pay10 w) a) (k0_pay28 (k0_pay10 w) b) z s = rowOut w a b c z s := rfl
theorem pay_C_4 (w : Vec Ideal S9x256 .f32) (a b c : Vec Ideal S64x256 .f32) (z : Vec Ideal S1x256 .f32) (s : Vec Ideal S64x256 .f32) :
    k0_pay37 (k0_pay30 (k0_pay10 w) a b c) (k0_pay32 (iota Kind.tc S8x256 32 [0] iota_S8x256_d0_w32) (k0_pay10 w) a b c) (k0_pay33 (k0_pay10 w) a b c) (k0_pay34 (iota Kind.tc S8x256 32 [0] iota_S8x256_d0_w32)) (k0_pay35 (k0_pay10 w) a b c) k0_pay36 z s = rowOut w a b c z s := rfl
theorem pay_C_5 (w : Vec Ideal S9x256 .f32) (a b c : Vec Ideal S64x256 .f32) (z : Vec Ideal S1x256 .f32) (s : Vec Ideal S64x256 .f32) :
    k0_pay41 (k0_pay40 (iota Kind.tc S8x256 32 [0] iota_S8x256_d0_w32) (k0_pay10 w) a b c (k0_pay38 (k0_pay10 w) a b c) (k0_pay39 (k0_pay10 w) a b) z s) = rowOut w a b c z s := rfl
theorem pay_C_6 (w : Vec Ideal S9x256 .f32) (a b c : Vec Ideal S64x256 .f32) (z : Vec Ideal S1x256 .f32) (s : Vec Ideal S64x256 .f32) :
    k0_pay48 (iota Kind.tc S8x256 32 [0] iota_S8x256_d0_w32) (k0_pay42 (k0_pay10 w) a b c) (k0_pay43 (k0_pay10 w) a b c) (k0_pay44 (k0_pay10 w) a b c) (k0_pay45 (iota Kind.tc S8x256 32 [0] iota_S8x256_d0_w32)) (k0_pay46 (k0_pay10 w) a b c) k0_pay47 z s = rowOut w a b c z s := rfl
theorem pay_C_7 (w : Vec Ideal S9x256 .f32) (a b c : Vec Ideal S64x256 .f32) (z : Vec Ideal S1x256 .f32) (s : Vec Ideal S64x256 .f32) :
    k0_pay53 (k0_pay51 (iota Kind.tc S8x256 32 [0] iota_S8x256_d0_w32) (k0_pay10 w) a b c (k0_pay49 (k0_pay10 w) a b) (k0_pay50 (k0_pay10 w)) z) (k0_pay52 (iota Kind.tc S8x256 32 [0] iota_S8x256_d0_w32) (k0_pay10 w) a b c (k0_pay49 (k0_pay10 w) a b) (k0_pay50 (k0_pay10 w)) z) (FloatOps.ofBits FTy.f32 1065353216#32) s = rowOut w a b c z s := rfl
theorem pay_C_8 (w : Vec Ideal S9x256 .f32) (a b c : Vec Ideal S64x256 .f32) (z : Vec Ideal S1x256 .f32) (s : Vec Ideal S64x256 .f32) :
    k0_pay57 (k0_pay56 (iota Kind.tc S8x256 32 [0] iota_S8x256_d0_w32) (k0_pay10 w) a b c) z s = rowOut w a b c z s := rfl
theorem pay_C_9 (w : Vec Ideal S9x256 .f32) (a b c : Vec Ideal S64x256 .f32) (z : Vec Ideal S1x256 .f32) (s : Vec Ideal S64x256 .f32) :
    k0_pay62 (k0_pay61 (iota Kind.tc S8x256 32 [0] iota_S8x256_d0_w32) (k0_pay10 w) a b c (k0_pay58 (k0_pay10 w) a b c) (k0_pay59 (k0_pay10 w) a b c) (k0_pay60 (k0_pay10 w)) z s) = rowOut w a b c z s := rfl
theorem pay_C_10 (w : Vec Ideal S9x256 .f32) (a b c : Vec Ideal S64x256 .f32) (z : Vec Ideal S1x256 .f32) (s : Vec Ideal S64x256 .f32) :
    k0_pay68 (iota Kind.tc S8x256 32 [0] iota_S8x256_d0_w32) (k0_pay63 (k0_pay10 w) a b c) (k0_pay64 (k0_pay10 w) a b c) (k0_pay65 (iota Kind.tc S8x256 32 [0] iota_S8x256_d0_w32) (k0_pay10 w) a b c) (k0_pay66 (k0_pay10 w) a b c) k0_pay67 z s = rowOut w a b c z s := rfl
theorem pay_C_11 (w : Vec Ideal S9x256 .f32) (a b c : Vec Ideal S64x256 .f32) (z : Vec Ideal S1x256 .f32) (s : Vec Ideal S64x256 .f32) :
    k0_pay72 (k0_pay71 (iota Kind.tc S8x256 32 [0] iota_S8x256_d0_w32) (k0_pay10 w) a b c (k0_pay69 (k0_pay10 w) a b c) (k0_pay70 (k0_pay10 w) a) z) s = rowOut w a b c z s := rfl
theorem pay_C_12 (w : Vec Ideal S9x256 .f32) (a b c : Vec Ideal S64x256 .f32) (z : Vec Ideal S1x256 .f32) (s : Vec Ideal S64x256 .f32) :
    k0_pay77 (iota Kind.tc S8x256 32 [0] iota_S8x256_d0_w32) (k0_pay73 (k0_pay10 w) a b c) (k0_pay74 (k0_pay10 w) a b c) (k0_pay75 (k0_pay10 w) a b c) k0_pay76 z s = rowOut w a b c z s := rfl
theorem pay_C_13 (w : Vec Ideal S9x256 .f32) (a b c : Vec Ideal S64x256 .f32) (z : Vec Ideal S1x256 .f32) (s : Vec Ideal S64x256 .f32) :
    k0_pay81 (k0_pay80 (iota Kind.tc S8x256 32 [0] iota_S8x256_d0_w32) (k0_pay10 w) a b c (k0_pay78 (k0_pay10 w) a) (k0_pay79 (k0_pay10 w)) z) (FloatOps.ofBits FTy.f32 0#32) s = rowOut w a b c z s := rfl
theorem pay_C_14 (w : Vec Ideal S9x256 .f32) (a b c : Vec Ideal S64x256 .f32) (z : Vec Ideal S1x256 .f32) (s : Vec Ideal S64x256 .f32) :
    k0_pay85 (iota Kind.tc S8x256 32 [0] iota_S8x256_d0_w32) (k0_pay10 w) c (k0_pay82 (k0_pay10 w) a b c) (k0_pay83 (k0_pay10 w) a b c) (k0_pay84 (k0_pay10 w) a b) z s = rowOut w a b c z s := rfl
theorem pay_C_15 (w : Vec Ideal S9x256 .f32) (a b c : Vec Ideal S64x256 .f32) (z : Vec Ideal S1x256 .f32) (s : Vec Ideal S64x256 .f32) :
    k0_pay91 (k0_pay86 (k0_pay10 w) a b c) (k0_pay88 (iota Kind.tc S8x256 32 [0] iota_S8x256_d0_w32) (k0_pay10 w) a b c) (k0_pay89 (k0_pay10 w) a b c) (k0_pay90 (iota Kind.tc S8x256 32 [0] iota_S8x256_d0_w32) (k0_pay10 w) a b c) z s = rowOut w a b c z s := rfl
theorem pay_C_16 (w : Vec Ideal S9x256 .f32) (a b c : Vec Ideal S64x256 .f32) (z : Vec Ideal S1x256 .f32) (s : Vec Ideal S64x256 .f32) :
    k0_pay100 (iota Kind.tc S8x256 32 [0] iota_S8x256_d0_w32) (k0_pay95 (k0_pay10 w) a b c) (k0_pay97 (k0_pay10 w) a b c) (k0_pay98 (iota Kind.tc S8x256 32 [0] iota_S8x256_d0_w32) (k0_pay10 w) a b c) (k0_pay99 (k0_pay10 w) a b c) z s = rowOut w a b c z s := rfl
theorem pay_C_17 (w : Vec Ideal S9x256 .f32) (a b c : Vec Ideal S64x256 .f32) (z : Vec Ideal S1x256 .f32) (s : Vec Ideal S64x256 .f32) :
    k0_pay105 (k0_pay103 (iota Kind.tc S8x256 32 [0] iota_S8x256_d0_w32) (k0_pay10 w) a b c (k0_pay101 (k0_pay10 w) a b) (k0_pay102 (k0_pay10 w) c) z) (k0_pay104 (iota Kind.tc S8x256 32 [0] iota_S8x256_d0_w32) (k0_pay10 w) a b c (k0_pay101 (k0_pay10 w) a b) (k0_pay102 (k0_pay10 w) c) z) s = rowOut w a b c z s := rfl
theorem pay_C_18 (w : Vec Ideal S9x256 .f32) (a b c : Vec Ideal S64x256 .f32) (z : Vec Ideal S1x256 .f32) (s : Vec Ideal S64x256 .f32) :
    k0_pay109 (iota Kind.tc S8x256 32 [0] iota_S8x256_d0_w32) (k0_pay106 (k0_pay10 w) a b c) (k0_pay107 (k0_pay10 w) a b c) (k0_pay108 (k0_pay10 w) a b c) z s = rowOut w a b c z s := rfl
theorem pay_C_19 (w : Vec Ideal S9x256 .f32) (a b c : Vec Ideal S64x256 .f32) (z : Vec Ideal S1x256 .f32) (s : Vec Ideal S64x256 .f32) :
    k0_pay111 (k0_pay110 (iota Kind.tc S8x256 32 [0] iota_S8x256_d0_w32) (k0_pay10 w) a b c) z s = rowOut w a b c z s := rfl
theorem pay_C_20 (w : Vec Ideal S9x256 .f32) (a b c : Vec Ideal S64x256 .f32) (z : Vec Ideal S1x256 .f32) (s : Vec Ideal S64x256 .f32) :
    k0_pay115 (iota Kind.tc S8x256 32 [0] iota_S8x256_d0_w32) (k0_pay10 w) b c (k0_pay112 (k0_pay10 w) a b c) (k0_pay113 (k0_pay10 w) a b c) (k0_pay114 (k0_pay10 w) a) z s = rowOut w a b c z s := rfl
theorem pay_C_21 (w : Vec Ideal S9x256 .f32) (a b c : Vec Ideal S64x256 .f32) (z : Vec Ideal S1x256 .f32) (s : Vec Ideal S64x256 .f32) :
    k0_pay121 (k0_pay116 (k0_pay10 w) a b c) (k0_pay117 (k0_pay10 w) a b c) (k0_pay118 (iota Kind.tc S8x256 32 [0] iota_S8x256_d0_w32) (k0_pay10 w) a b c) (k0_pay119 (k0_pay10 w) a b c) (k0_pay120 (iota Kind.tc S8x256 32 [0] iota_S8x256_d0_w32)) z s = rowOut w a b c z s := rfl
theorem pay_C_22 (w : Vec Ideal S9x256 .f32) (a b c : Vec Ideal S64x256 .f32) (z : Vec Ideal S1x256 .f32) (s : Vec Ideal S64x256 .f32) :
    k0_pay126 (k0_pay125 (iota Kind.tc S8x256 32 [0] iota_S8x256_d0_w32) (k0_pay10 w) a b c (k0_pay122 (k0_pay10 w) a b c) (k0_pay123 (k0_pay10 w) a) (k0_pay124 (k0_pay10 w)) z) s = rowOut w a b c z s := rfl
theorem pay_C_23 (w : Vec Ideal S9x256 .f32) (a b c : Vec Ideal S64x256 .f32) (z : Vec Ideal S1x256 .f32) (s : Vec Ideal S64x256 .f32) :
    k0_pay131 (iota Kind.tc S8x256 32 [0] iota_S8x256_d0_w32) (k0_pay127 (k0_pay10 w) a b c) (k0_pay128 (k0_pay10 w) a b c) (k0_pay129 (k0_pay10 w) a b c) (k0_pay130 (iota Kind.tc S8x256 32 [0] iota_S8x256_d0_w32)) z s = rowOut w a b c z s := rfl
theorem pay_C_24 (w : Vec Ideal S9x256 .f32) (a b c : Vec Ideal S64x256 .f32) (z : Vec Ideal S1x256 .f32) (s : Vec Ideal S64x256 .f32) :
    k0_pay139 (iota Kind.tc S8x256 32 [0] iota_S8x256_d0_w32) c (k0_pay135 (k0_pay10 w) a b c) (k0_pay136 (k0_pay10 w) a b c) (k0_pay137 (k0_pay10 w) a b) (k0_pay138 (k0_pay10 w)) z s = rowOut w a b c z s := rfl
theorem pay_C_25 (w : Vec Ideal S9x256 .f32) (a b c : Vec Ideal S64x256 .f32) (z : Vec Ideal S1x256 .f32) (s : Vec Ideal S64x256 .f32) :
    k0_pay142 (k0_pay140 (iota Kind.tc S8x256 32 [0] iota_S8x256_d0_w32) (k0_pay10 w) a b c) (k0_pay141 (iota Kind.tc S8x256 32 [0] iota_S8x256_d0_w32) (k0_pay10 w) a b c) z s = rowOut w a b c z s := rfl
theorem pay_C_26 (w : Vec Ideal S9x256 .f32) (a b c : Vec Ideal S64x256 .f32) (z : Vec Ideal S1x256 .f32) (s : Vec Ideal S64x256 .f32) :
    k0_pay147 (k0_pay146 (iota Kind.tc S8x256 32 [0] iota_S8x256_d0_w32) (k0_pay10 w) a b c (k0_pay143 (k0_pay10 w) a b c) (k0_pay144 (k0_pay10 w) a b) (k0_pay145 (k0_pay10 w) c) z s) = rowOut w a b c z s := rfl
theorem pay_C_27 (w : Vec Ideal S9x256 .f32) (a b c : Vec Ideal S64x256 .f32) (z : Vec Ideal S1x256 .f32) (s : Vec Ideal S64x256 .f32) :
    k0_pay151 (iota Kind.tc S8x256 32 [0] iota_S8x256_d0_w32) (k0_pay148 (k0_pay10 w) a b c) (k0_pay149 (k0_pay10 w) a b c) (k0_pay150 (iota Kind.tc S8x256 32 [0] iota_S8x256_d0_w32) (k0_pay10 w) a b c) z s = rowOut w a b c z s := rfl
theorem pay_C_28 (w : Vec Ideal S9x256 .f32) (a b c : Vec Ideal S64x256 .f32) (z : Vec Ideal S1x256 .f32) (s : Vec Ideal S64x256 .f32) :
    k0_pay155 (k0_pay153 (iota Kind.tc S8x256 32 [0] iota_S8x256_d0_w32) (k0_pay10 w) a b c (k0_pay152 (k0_pay10 w) a b c) z) (k0_pay154 (iota Kind.tc S8x256 32 [0] iota_S8x256_d0_w32) (k0_pay10 w) a b c (k0_pay152 (k0_pay10 w) a b c) z) (FloatOps.ofBits FTy.f32 1065353216#32) s = rowOut w a b c z s := rfl
theorem pay_C_29 (w : Vec Ideal S9x256 .f32) (a b c : Vec Ideal S64x256 .f32) (z : Vec Ideal S1x256 .f32) (s : Vec Ideal S64x256 .f32) :
    k0_pay159 (iota Kind.tc S8x256 32 [0] iota_S8x256_d0_w32) (k0_pay156 (k0_pay10 w) a b c) (k0_pay157 (k0_pay10 w) a b c) (k0_pay158 (k0_pay10 w) a b c) (63#32) z s = rowOut w a b c z s := rfl
theorem pay_C_30 (w : Vec Ideal S9x256 .f32) (a b c : Vec Ideal S64x256 .f32) (z : Vec Ideal S1x256 .f32) (s : Vec Ideal S64x256 .f32) :
    k0_pay163 (k0_pay161 (iota Kind.tc S8x256 32 [0] iota_S8x256_d0_w32) (k0_pay10 w) a b c (k0_pay160 (k0_pay10 w))) (k0_pay162 z) s = rowOut w a b c z s := rfl
theorem pay_C_31 (w : Vec Ideal S9x256 .f32) (a b c : Vec Ideal S64x256 .f32) (z : Vec Ideal S1x256 .f32) (s : Vec Ideal S64x256 .f32) :
    k0_pay168 (iota Kind.tc S8x256 32 [0] iota_S8x256_d0_w32) (k0_pay10 w) b c (k0_pay164 (k0_pay10 w) a b c) (k0_pay165 (k0_pay10 w) a b c) (k0_pay166 (k0_pay10 w) a) (k0_pay167 (k0_pay10 w)) z s = rowOut w a b c z s := rfl
theorem pay_B_0 (w : Vec Ideal S9x256 .f32) (a b c : Vec Ideal S64x256 .f32) (z : Vec Ideal S1x256 .f32) (s : Vec Ideal S64x256 .f32) :
    k0_pay176 (k0_pay174 (iota Kind.tc S8x256 32 [0] iota_S8x256_d0_w32) (k0_pay169 w) a b c (k0_pay172 w a b c) (k0_pay173 w) z) (k0_pay175 (iota Kind.tc S8x256 32 [0] iota_S8x256_d0_w32) (k0_pay169 w) a b c (k0_pay172 w a b c) (k0_pay173 w) z) s = rowOut w a b c z s := rfl
theorem pay_B_1 (w : Vec Ideal S9x256 .f32) (a b c : Vec Ideal S64x256 .f32) (z : Vec Ideal S1x256 .f32) (s : Vec Ideal S64x256 .f32) :
    k0_pay180 (iota Kind.tc S8x256 32 [0] iota_S8x256_d0_w32) (k0_pay177 (k0_pay169 w) a b c) (k0_pay178 (k0_pay169 w) a b c) (k0_pay179 (k0_pay169 w) a b c) (0#32) z s = rowOut w a b c z s := rfl
theorem pay_B_2 (w : Vec Ideal S9x256 .f32) (a b c : Vec Ideal S64x256 .f32) (z : Vec Ideal S1x256 .f32) (s : Vec Ideal S64x256 .f32) :
    k0_pay183 (k0_pay182 (iota Kind.tc S8x256 32 [0] iota_S8x256_d0_w32) (k0_pay169 w) a b c (k0_pay181 (k0_pay169 w) a) z) s = rowOut w a b c z s := rfl
theorem pay_B_3 (w : Vec Ideal S9x256 .f32) (a b c : Vec Ideal S64x256 .f32) (z : Vec Ideal S1x256 .f32) (s : Vec Ideal S64x256 .f32) :
    k0_pay188 (iota Kind.tc S8x256 32 [0] iota_S8x256_d0_w32) (k0_pay169 w) c (k0_pay184 (k0_pay169 w) a b c) (k0_pay185 (k0_pay169 w) a b c) (k0_pay186 (k0_pay169 w) a) (k0_pay187 (k0_pay169 w) b) z s = rowOut w a b c z s := rfl
theorem pay_B_4 (w : Vec Ideal S9x256 .f32) (a b c : Vec Ideal S64x256 .f32) (z : Vec Ideal S1x256 .f32) (s : Vec Ideal S64x256 .f32) :
    k0_pay196 (k0_pay189 (k0_pay169 w) a b c) (k0_pay191 (iota Kind.tc S8x256 32 [0] iota_S8x256_d0_w32) (k0_pay169 w) a b c) (k0_pay192 (k0_pay169 w) a b c) (k0_pay193 (iota Kind.tc S8x256 32 [0] iota_S8x256_d0_w32)) (k0_pay194 (k0_pay169 w) a b c) k0_pay195 z s = rowOut w a b c z s := rfl
theorem pay_B_5 (w : Vec Ideal S9x256 .f32) (a b c : Vec Ideal S64x256 .f32) (z : Vec Ideal S1x256 .f32) (s : Vec Ideal S64x256 .f32) :
    k0_pay200 (k0_pay199 (iota Kind.tc S8x256 32 [0] iota_S8x256_d0_w32) (k0_pay169 w) a b c (k0_pay197 (k0_pay169 w) a b c) (k0_pay198 (k0_pay169 w) a b) z s) = rowOut w a b c z s := rfl
theorem pay_B_6 (w : Vec Ideal S9x256 .f32) (a b c : Vec Ideal S64x256 .f32) (z : Vec Ideal S1x256 .f32) (s : Vec Ideal S64x256 .f32) :
    k0_pay207 (iota Kind.tc S8x256 32 [0] iota_S8x256_d0_w32) (k0_pay201 (k0_pay169 w) a b c) (k0_pay202 (k0_pay169 w) a b c) (k0_pay203 (k0_pay169 w) a b c) (k0_pay204 (iota Kind.tc S8x256 32 [0] iota_S8x256_d0_w32)) (k0_pay205 (k0_pay169 w) a b c) k0_pay206 z s = rowOut w a b c z s := rfl
theorem pay_B_7 (w : Vec Ideal S9x256 .f32) (a b c : Vec Ideal S64x256 .f32) (z : Vec Ideal S1x256 .f32) (s : Vec Ideal S64x256 .f32) :
    k0_pay212 (k0_pay210 (iota Kind.tc S8x256 32 [0] iota_S8x256_d0_w32) (k0_pay169 w) a b c (k0_pay208 (k0_pay169 w) a b) (k0_pay209 (k0_pay169 w)) z) (k0_pay211 (iota Kind.tc S8x256 32 [0] iota_S8x256_d0_w32) (k0_pay169 w) a b c (k0_pay208 (k0_pay169 w) a b) (k0_pay209 (k0_pay169 w)) z) (FloatOps.ofBits FTy.f32 1065353216#32) s = rowOut w a b c z s := rfl
theorem pay_B_8 (w : Vec Ideal S9x256 .f32) (a b c : Vec Ideal S64x256 .f32) (z : Vec Ideal S1x256 .f32) (s : Vec Ideal S64x256 .f32) :
    k0_pay216 (k0_pay215 (iota Kind.tc S8x256 32 [0] iota_S8x256_d0_w32) (k0_pay169 w) a b c) z s = rowOut w a b c z s := rfl
theorem pay_B_9 (w : Vec Ideal S9x256 .f32) (a b c : Vec Ideal S64x256 .f32) (z : Vec Ideal S1x256 .f32) (s : Vec Ideal S64x256 .f32) :
    k0_pay221 (k0_pay220 (iota Kind.tc S8x256 32 [0] iota_S8x256_d0_w32) (k0_pay169 w) a b c (k0_pay217 (k0_pay169 w) a b c) (k0_pay218 (k0_pay169 w) a b c) (k0_pay219 (k0_pay169 w)) z s) = rowOut w a b c z s := rfl
theorem pay_B_10 (w : Vec Ideal S9x256 .f32) (a b c : Vec Ideal S64x256 .f32) (z : Vec Ideal S1x256 .f32) (s : Vec Ideal S64x256 .f32) :
    k0_pay227 (iota Kind.tc S8x256 32 [0] iota_S8x256_d0_w32) (k0_pay222 (k0_pay169 w) a b c) (k0_pay223 (k0_pay169 w) a b c) (k0_pay224 (iota Kind.tc S8x256 32 [0] iota_S8x256_d0_w32) (k0_pay169 w) a b c) (k0_pay225 (k0_pay169 w) a b c) k0_pay226 z s = rowOut w a b c z s := rfl
theorem pay_B_11 (w : Vec Ideal S9x256 .f32) (a b c : Vec Ideal S64x256 .f32) (z : Vec Ideal S1x256 .f32) (s : Vec Ideal S64x256 .f32) :
    k0_pay231 (k0_pay230 (iota Kind.tc S8x256 32 [0] iota_S8x256_d0_w32) (k0_pay169 w) a b c (k0_pay228 (k0_pay169 w) a b c) (k0_pay229 (k0_pay169 w) a) z) s = rowOut w a b c z s := rfl
theorem pay_B_12 (w : Vec Ideal S9x256 .f32) (a b c : Vec Ideal S64x256 .f32) (z : Vec Ideal S1x256 .f32) (s : Vec Ideal S64x256 .f32) :
    k0_pay236 (iota Kind.tc S8x256 32 [0] iota_S8x256_d0_w32) (k0_pay232 (k0_pay169 w) a b c) (k0_pay233 (k0_pay169 w) a b c) (k0_pay234 (k0_pay169 w) a b c) k0_pay235 z s = rowOut w a b c z s := rfl
theorem pay_B_13 (w : Vec Ideal S9x256 .f32) (a b c : Vec Ideal S64x256 .f32) (z : Vec Ideal S1x256 .f32) (s : Vec Ideal S64x256 .f32) :
    k0_pay240 (k0_pay239 (iota Kind.tc S8x256 32 [0] iota_S8x256_d0_w32) (k0_pay169 w) a b c (k0_pay237 (k0_pay169 w) a) (k0_pay238 (k0_pay169 w)) z) (FloatOps.ofBits FTy.f32 0#32) s = rowOut w a b c z s := rfl
theorem pay_B_14 (w : Vec Ideal S9x256 .f32) (a b c : Vec Ideal S64x256 .f32) (z : Vec Ideal S1x256 .f32) (s : Vec Ideal S64x256 .f32) :
    k0_pay244 (iota Kind.tc S8x256 32 [0] iota_S8x256_d0_w32) (k0_pay169 w) c (k0_pay241 (k0_pay169 w) a b c) (k0_pay242 (k0_pay169 w) a b c) (k0_pay243 (k0_pay169 w) a b) z s = rowOut w a b c z s := rfl
theorem pay_B_15 (w : Vec Ideal S9x256 .f32) (a b c : Vec Ideal S64x256 .f32) (z : Vec Ideal S1x256 .f32) (s : Vec Ideal S64x256 .f32) :
    k0_pay250 (k0_pay245 (k0_pay169 w) a b c) (k0_pay247 (iota Kind.tc S8x256 32 [0] iota_S8x256_d0_w32) (k0_pay169 w) a b c) (k0_pay248 (k0_pay169 w) a b c) (k0_pay249 (iota Kind.tc S8x256 32 [0] iota_S8x256_d0_w32) (k0_pay169 w) a b c) z s = rowOut w a b c z s := rfl
theorem pay_B_16 (w : Vec Ideal S9x256 .f32) (a b c : Vec Ideal S64x256 .f32) (z : Vec Ideal S1x256 .f32) (s : Vec Ideal S64x256 .f32) :
    k0_pay259 (iota Kind.tc S8x256 32 [0] iota_S8x256_d0_w32) (k0_pay254 (k0_pay169 w) a b c) (k0_pay256 (k0_pay169 w) a b c) (k0_pay257 (iota Kind.tc S8x256 32 [0] iota_S8x256_d0_w32) (k0_pay169 w) a b c) (k0_pay258 (k0_pay169 w) a b c) z s = rowOut w a b c z s := rfl
theorem pay_B_17 (w : Vec Ideal S9x256 .f32) (a b c : Vec Ideal S64x256 .f32) (z : Vec Ideal S1x256 .f32) (s : Vec Ideal S64x256 .f32) :
    k0_pay264 (k0_pay262 (iota Kind.tc S8x256 32 [0] iota_S8x256_d0_w32) (k0_pay169 w) a b c (k0_pay260 (k0_pay169 w) a b) (k0_pay261 (k0_pay169 w) c) z) (k0_pay263 (iota Kind.tc S8x256 32 [0] iota_S8x256_d0_w32) (k0_pay169 w) a b c (k0_pay260 (k0_pay169 w) a b) (k0_pay261 (k0_pay169 w) c) z) s = rowOut w a b c z s := rfl
theorem pay_B_18 (w : Vec Ideal S9x256 .f32) (a b c : Vec Ideal S64x256 .f32) (z : Vec Ideal S1x256 .f32) (s : Vec Ideal S64x256 .f32) :
    k0_pay268 (iota Kind.tc S8x256 32 [0] iota_S8x256_d0_w32) (k0_pay265 (k0_pay169 w) a b c) (k0_pay266 (k0_pay169 w) a b c) (k0_pay267 (k0_pay169 w) a b c) z s = rowOut w a b c z s := rfl
theorem pay_B_19 (w : Vec Ideal S9x256 .f32) (a b c : Vec Ideal S64x256 .f32) (z : Vec Ideal S1x256 .f32) (s : Vec Ideal S64x256 .f32) :
    k0_pay270 (k0_pay269 (iota Kind.tc S8x256 32 [0] iota_S8x256_d0_w32) (k0_pay169 w) a b c) z s = rowOut w a b c z s := rfl
theorem pay_B_20 (w : Vec Ideal S9x256 .f32) (a b c : Vec Ideal S64x256 .f32) (z : Vec Ideal S1x256 .f32) (s : Vec Ideal S64x256 .f32) :
    k0_pay274 (iota Kind.tc S8x256 32 [0] iota_S8x256_d0_w32) (k0_pay169 w) b c (k0_pay271 (k0_pay169 w) a b c) (k0_pay272 (k0_pay169 w) a b c) (k0_pay273 (k0_pay169 w) a) z s = rowOut w a b c z s := rfl
theorem pay_B_21 (w : Vec Ideal S9x256 .f32) (a b c : Vec Ideal S64x256 .f32) (z : Vec Ideal S1x256 .f32) (s : Vec Ideal S64x256 .f32) :
    k0_pay280 (k0_pay275 (k0_pay169 w) a b c) (k0_pay276 (k0_pay169 w) a b c) (k0_pay277 (iota Kind.tc S8x256 32 [0] iota_S8x256_d0_w32) (k0_pay169 w) a b c) (k0_pay278 (k0_pay169 w) a b c) (k0_pay279 (iota Kind.tc S8x256 32 [0] iota_S8x256_d0_w32)) z s = rowOut w a b c z s := rfl
theorem pay_B_22 (w : Vec Ideal S9x256 .f32) (a b c : Vec Ideal S64x256 .f32) (z : Vec Ideal S1x256 .f32) (s : Vec Ideal S64x256 .f32) :
    k0_pay285 (k0_pay284 (iota Kind.tc S8x256 32 [0] iota_S8x256_d0_w32) (k0_pay169 w) a b c (k0_pay281 (k0_pay169 w) a b c) (k0_pay282 (k0_pay169 w) a) (k0_pay283 (k0_pay169 w)) z) s = rowOut w a b c z s := rfl
theorem pay_B_23 (w : Vec Ideal S9x256 .f32) (a b c : Vec Ideal S64x256 .f32) (z : Vec Ideal S1x256 .f32) (s : Vec Ideal S64x256 .f32) :
    k0_pay290 (iota Kind.tc S8x256 32 [0] iota_S8x256_d0_w32) (k0_pay286 (k0_pay169 w) a b c) (k0_pay287 (k0_pay169 w) a b c) (k0_pay288 (k0_pay169 w) a b c) (k0_pay289 (iota Kind.tc S8x256 32 [0] iota_S8x256_d0_w32)) z s = rowOut w a b c z s := rfl
theorem pay_B_24 (w : Vec Ideal S9x256 .f32) (a b c : Vec Ideal S64x256 .f32) (z : Vec Ideal S1x256 .f32) (s : Vec Ideal S64x256 .f32) :
    k0_pay298 (iota Kind.tc S8x256 32 [0] iota_S8x256_d0_w32) c (k0_pay294 (k0_pay169 w) a b c) (k0_pay295 (k0_pay169 w) a b c) (k0_pay296 (k0_pay169 w) a b) (k0_pay297 (k0_pay169 w)) z s = rowOut w a b c z s := rfl
theorem pay_B_25 (w : Vec Ideal S9x256 .f32) (a b c : Vec Ideal S64x256 .f32) (z : Vec Ideal S1x256 .f32) (s : Vec Ideal S64x256 .f32) :
    k0_pay301 (k0_pay299 (iota Kind.tc S8x256 32 [0] iota_S8x256_d0_w32) (k0_pay169 w) a b c) (k0_pay300 (iota Kind.tc S8x256 32 [0] iota_S8x256_d0_w32) (k0_pay169 w) a b c) z s = rowOut w a b c z s := rfl
theorem pay_B_26 (w : Vec Ideal S9x256 .f32) (a b c : Vec Ideal S64x256 .f32) (z : Vec Ideal S1x256 .f32) (s : Vec Ideal S64x256 .f32) :
    k0_pay306 (k0_pay305 (iota Kind.tc S8x256 32 [0] iota_S8x256_d0_w32) (k0_pay169 w) a b c (k0_pay302 (k0_pay169 w) a b c) (k0_pay303 (k0_pay169 w) a b) (k0_pay304 (k0_pay169 w) c) z s) = rowOut w a b c z s := rfl
theorem pay_B_27 (w : Vec Ideal S9x256 .f32) (a b c : Vec Ideal S64x256 .f32) (z : Vec Ideal S1x256 .f32) (s : Vec Ideal S64x256 .f32) :
    k0_pay310 (iota Kind.tc S8x256 32 [0] iota_S8x256_d0_w32) (k0_pay307 (k0_pay169 w) a b c) (k0_pay308 (k0_pay169 w) a b c) (k0_pay309 (iota Kind.tc S8x256 32 [0] iota_S8x256_d0_w32) (k0_pay169 w) a b c) z s = rowOut w a b c z s := rfl
theorem pay_B_28 (w : Vec Ideal S9x256 .f32) (a b c : Vec Ideal S64x256 .f32) (z : Vec Ideal S1x256 .f32) (s : Vec Ideal S64x256 .f32) :
    k0_pay314 (k0_pay312 (iota Kind.tc S8x256 32 [0] iota_S8x256_d0_w32) (k0_pay169 w) a b c (k0_pay311 (k0_pay169 w) a b c) z) (k0_pay313 (iota Kind.tc S8x256 32 [0] iota_S8x256_d0_w32) (k0_pay169 w) a b c (k0_pay311 (k0_pay169 w) a b c) z) (FloatOps.ofBits FTy.f32 1065353216#32) s = rowOut w a b c z s := rfl
theorem pay_B_29 (w : Vec Ideal S9x256 .f32) (a b c : Vec Ideal S64x256 .f32) (z : Vec Ideal S1x256 .f32) (s : Vec Ideal S64x256 .f32) :
    k0_pay318 (iota Kind.tc S8x256 32 [0] iota_S8x256_d0_w32) (k0_pay315 (k0_pay169 w) a b c) (k0_pay316 (k0_pay169 w) a b c) (k0_pay317 (k0_pay169 w) a b c) (63#32) z s = rowOut w a b c z s := rfl
theorem pay_B_30 (w : Vec Ideal S9x256 .f32) (a b c : Vec Ideal S64x256 .f32) (z : Vec Ideal S1x256 .f32) (s : Vec Ideal S64x256 .f32) :
    k0_pay322 (k0_pay320 (iota Kind.tc S8x256 32 [0] iota_S8x256_d0_w32) (k0_pay169 w) a b c (k0_pay319 (k0_pay169 w))) (k0_pay321 z) s = rowOut w a b c z s := rfl
theorem pay_B_31 (w : Vec Ideal S9x256 .f32) (a b c : Vec Ideal S64x256 .f32) (z : Vec Ideal S1x256 .f32) (s : Vec Ideal S64x256 .f32) :
    k0_pay327 (iota Kind.tc S8x256 32 [0] iota_S8x256_d0_w32) (k0_pay169 w) b c (k0_pay323 (k0_pay169 w) a b c) (k0_pay324 (k0_pay169 w) a b c) (k0_pay325 (k0_pay169 w) a) (k0_pay326 (k0_pay169 w)) z s = rowOut w a b c z s := rfl

end Cert.FfnActEq

end
-- ==== Proof.FfnActOutA.lean ====
/- A batch row's first block: the two gate buffers it fills and the block it writes. -/
module

public import proofs.«01_k».proof.Proof.FfnActPay

@[expose] public section

set_option maxRecDepth 16384

noncomputable section

namespace Cert.FfnActEq

open Idealize.ShloMosaic Idealize.ShloMosaic.TcCoe Idealize.ShloMosaic.Tactic Idealize.SL.Sem
open Cert.FfnActIdeal Cert.FfnActIdeal.Gen Cert.FfnActIdeal.Own

/-- The stores into the first gate buffer at the first chunk, the newest first. -/
def padL (arg2 : Memref sig .tc .vmem S1x2048x1024 .bf16) (harg2 : arg2.IsWhole) (arg3 : Memref sig .tc .vmem S1024x256 .bf16) (harg3 : arg3.IsWhole) (x0 : Vec Ideal S1x2048x1024 .bf16) (x1 : Vec Ideal S1024x256 .bf16) : List (View.Piece (Elt Ideal) S2176x256 .f32) :=
  [⟨Rect.unit (s := S2176x256) ![1600, 0] S512x256.size inb_S2176x256_S512x256_1600_0, k0_pay2 (View.readAt (Elt Ideal) arg2.view (Rect.unit (s := S1x2048x1024) ![0, 1536, 0] S1x512x1024.size inb_S1x2048x1024_S1x512x1024_0_1536_0).toLoadRect (harg2.unread x0)) (View.readAt (Elt Ideal) arg3.view (Rect.unit (s := S1024x256) ![0, 0] S1024x256.size inb_S1024x256_S1024x256_0_0).toLoadRect (harg3.unread x1))⟩,
    ⟨Rect.unit (s := S2176x256) ![1088, 0] S512x256.size inb_S2176x256_S512x256_1088_0, k0_pay1 (View.readAt (Elt Ideal) arg2.view (Rect.unit (s := S1x2048x1024) ![0, 1024, 0] S1x512x1024.size inb_S1x2048x1024_S1x512x1024_0_1024_0).toLoadRect (harg2.unread x0)) (View.readAt (Elt Ideal) arg3.view (Rect.unit (s := S1024x256) ![0, 0] S1024x256.size inb_S1024x256_S1024x256_0_0).toLoadRect (harg3.unread x1))⟩,
    ⟨Rect.unit (s := S2176x256) ![576, 0] S512x256.size inb_S2176x256_S512x256_576_0, k0_pay9 (View.readAt (Elt Ideal) arg2.view (Rect.unit (s := S1x2048x1024) ![0, 512, 0] S1x512x1024.size inb_S1x2048x1024_S1x512x1024_0_512_0).toLoadRect (harg2.unread x0)) (View.readAt (Elt Ideal) arg3.view (Rect.unit (s := S1024x256) ![0, 0] S1024x256.size inb_S1024x256_S1024x256_0_0).toLoadRect (harg3.unread x1))⟩,
    ⟨Rect.unit (s := S2176x256) ![64, 0] S512x256.size inb_S2176x256_S512x256_64_0, k0_pay8 (View.readAt (Elt Ideal) arg2.view (Rect.unit (s := S1x2048x1024) ![0, 0, 0] S1x512x1024.size inb_S1x2048x1024_S1x512x1024_0_0_0).toLoadRect (harg2.unread x0)) (View.readAt (Elt Ideal) arg3.view (Rect.unit (s := S1024x256) ![0, 0] S1024x256.size inb_S1024x256_S1024x256_0_0).toLoadRect (harg3.unread x1))⟩,
    ⟨Rect.unit (s := S2176x256) ![2112, 0] S64x256.size inb_S2176x256_S64x256_2112_0, k0_pay5 (F := Ideal)⟩,
    ⟨Rect.unit (s := S2176x256) ![0, 0] S64x256.size inb_S2176x256_S64x256_0_0, k0_pay4 (F := Ideal)⟩]

set_option maxHeartbeats 1000000 in
theorem padL_canon (arg2 : Memref sig .tc .vmem S1x2048x1024 .bf16) (harg2 : arg2.IsWhole) (arg3 : Memref sig .tc .vmem S1024x256 .bf16) (harg3 : arg3.IsWhole) (x0 : Vec Ideal S1x2048x1024 .bf16) (x1 : Vec Ideal S1024x256 .bf16) (y : S2176x256.Idx) : View.canon (padL arg2 harg2 arg3 harg3 x0 x1) y = gateBuf x0 x1 y := by
  refine View.canon_apply_of_pieces (Val := Elt Ideal) (e := .f32) (gateBuf x0 x1) _ ?_ y ?_
  · unfold padL
    intro p hp j
    simp only [List.mem_cons, List.mem_nil_iff, or_false] at hp
    rcases hp with rfl | rfl | rfl | rfl | rfl | rfl
    · exact gate_piece 1536 1600 rfl arg2 harg2 x0 _ x1 (whole_ld rfl arg3 harg3 x1 _ (by decide) _) _ _ (prod_2 _ _) inb_S2176x256_S512x256_1600_0 j
    · exact gate_piece 1024 1088 rfl arg2 harg2 x0 _ x1 (whole_ld rfl arg3 harg3 x1 _ (by decide) _) _ _ (prod_1 _ _) inb_S2176x256_S512x256_1088_0 j
    · exact gate_piece 512 576 rfl arg2 harg2 x0 _ x1 (whole_ld rfl arg3 harg3 x1 _ (by decide) _) _ _ (prod_9 _ _) inb_S2176x256_S512x256_576_0 j
    · exact gate_piece 0 64 rfl arg2 harg2 x0 _ x1 (whole_ld rfl arg3 harg3 x1 _ (by decide) _) _ _ (prod_8 _ _) inb_S2176x256_S512x256_64_0 j
    · exact zero_piece 2112 (.inr rfl) x0 x1 _ zero_5 inb_S2176x256_S64x256_2112_0 j
    · exact zero_piece 0 (.inl rfl) x0 x1 _ rfl inb_S2176x256_S64x256_0_0 j
  · unfold padL
    have hlt : (y 0).val < 2176 := (y 0).isLt
    obtain h | h | h | h | h | h : (y 0).val < 64 ∨ (64 ≤ (y 0).val ∧ (y 0).val < 64 + 512) ∨ (576 ≤ (y 0).val ∧ (y 0).val < 576 + 512) ∨ (1088 ≤ (y 0).val ∧ (y 0).val < 1088 + 512)
        ∨ (1600 ≤ (y 0).val ∧ (y 0).val < 1600 + 512) ∨ 2112 ≤ (y 0).val := by omega
    · exact ⟨_, .tail _ (.tail _ (.tail _ (.tail _ (.tail _ (.head _))))), mem_rows 0 64 inb_S2176x256_S64x256_0_0 y ⟨Nat.zero_le _, by omega⟩⟩
    · exact ⟨_, .tail _ (.tail _ (.tail _ (.head _))), mem_rows 64 512 inb_S2176x256_S512x256_64_0 y h⟩
    · exact ⟨_, .tail _ (.tail _ (.head _)), mem_rows 576 512 inb_S2176x256_S512x256_576_0 y h⟩
    · exact ⟨_, .tail _ (.head _), mem_rows 1088 512 inb_S2176x256_S512x256_1088_0 y h⟩
    · exact ⟨_, .head _, mem_rows 1600 512 inb_S2176x256_S512x256_1600_0 y h⟩
    · exact ⟨_, .tail _ (.tail _ (.tail _ (.tail _ (.head _)))), mem_rows 2112 64 inb_S2176x256_S64x256_2112_0 y ⟨h, by omega⟩⟩

set_option maxHeartbeats 1000000 in
theorem sout0_A_0_eq (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) :
    sout0_A_0 c i arg2 harg2 arg3 harg3 arg4 harg4 arg5 harg5 arg6 harg6 arg7 harg7 arg8 harg8 arg9 harg9 arg10 harg10 arg11 harg11 hc0 hc1 hc2 x0 x1 x2 x3 x4 x5 = gateBuf x0 x1 := by
  funext y
  unfold sout0_A_0
  rw [View.read_writes_eq_canon _ _ _ (fun y => scover0_A_0 (y := y) ..)]
  refine View.canon_apply_of_pieces (Val := Elt Ideal) (e := .f32) (gateBuf x0 x1) _ ?_ y (scover0_A_0 (y := y) ..)
  unfold kernelRun0_A
  dsimp only
  sl_unfold_words
  intro p hp j
  simp only [List.mem_cons, List.mem_nil_iff, or_false] at hp
  rcases hp with rfl | rfl | rfl | rfl | rfl | rfl
  · exact gate_piece 1536 1600 rfl arg2 harg2 x0 _ x1 (whole_ld rfl arg3 harg3 x1 _ (by decide) _) _ _ (prod_2 _ _) inb_S2176x256_S512x256_1600_0 j
  · exact gate_piece 1024 1088 rfl arg2 harg2 x0 _ x1 (whole_ld rfl arg3 harg3 x1 _ (by decide) _) _ _ (prod_1 _ _) inb_S2176x256_S512x256_1088_0 j
  · exact gate_piece 512 576 rfl arg2 harg2 x0 _ x1 (whole_ld rfl arg3 harg3 x1 _ (by decide) _) _ _ (prod_9 _ _) inb_S2176x256_S512x256_576_0 j
  · exact gate_piece 0 64 rfl arg2 harg2 x0 _ x1 (whole_ld rfl arg3 harg3 x1 _ (by decide) _) _ _ (prod_8 _ _) inb_S2176x256_S512x256_64_0 j
  · exact zero_piece 2112 (.inr rfl) x0 x1 _ zero_5 inb_S2176x256_S64x256_2112_0 j
  · exact zero_piece 0 (.inl rfl) x0 x1 _ rfl inb_S2176x256_S64x256_0_0 j

set_option maxHeartbeats 1000000 in
theorem sout0_A_1_eq (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) :
    sout0_A_1 c i arg2 harg2 arg3 harg3 arg4 harg4 arg5 harg5 arg6 harg6 arg7 harg7 arg8 harg8 arg9 harg9 arg10 harg10 arg11 harg11 hc0 hc1 hc2 x0 x1 x2 x3 x4 x5 = gateBuf x0 x2 := by
  funext y
  unfold sout0_A_1
  rw [View.read_writes_eq_canon _ _ _ (fun y => scover0_A_1 (y := y) ..)]
  refine View.canon_apply_of_pieces (Val := Elt Ideal) (e := .f32) (gateBuf x0 x2) _ ?_ y (scover0_A_1 (y := y) ..)
  unfold kernelRun0_A
  dsimp only
  sl_unfold_words
  intro p hp j
  simp only [List.mem_cons, List.mem_nil_iff, or_false] at hp
  rcases hp with rfl | rfl | rfl | rfl | rfl | rfl
  · exact gate_piece 1536 1600 rfl arg2 harg2 x0 _ x2 (whole_ld rfl arg4 harg4 x2 _ (by decide) _) _ _ (prod_133 _ _) inb_S2176x256_S512x256_1600_0 j
  · exact gate_piece 1024 1088 rfl arg2 harg2 x0 _ x2 (whole_ld rfl arg4 harg4 x2 _ (by decide) _) _ _ (prod_92 _ _) inb_S2176x256_S512x256_1088_0 j
  · exact gate_piece 512 576 rfl arg2 harg2 x0 _ x2 (whole_ld rfl arg4 harg4 x2 _ (by decide) _) _ _ (prod_54 _ _) inb_S2176x256_S512x256_576_0 j
  · exact gate_piece 0 64 rfl arg2 harg2 x0 _ x2 (whole_ld rfl arg4 harg4 x2 _ (by decide) _) _ _ (prod_11 _ _) inb_S2176x256_S512x256_64_0 j
  · exact zero_piece 2112 (.inr rfl) x0 x2 _ zero_7 inb_S2176x256_S64x256_2112_0 j
  · exact zero_piece 0 (.inl rfl) x0 x2 _ zero_6 inb_S2176x256_S64x256_0_0 j

set_option maxHeartbeats 13200000 in
theorem out_A (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : cond0_0 i) (hc1 : cond0_1 i) (hc2 : ¬cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) (y : S1x2048x256.Idx) :
    out0_A_6 c i arg2 harg2 arg3 harg3 arg4 harg4 arg5 harg5 arg6 harg6 arg7 harg7 arg8 harg8 arg9 harg9 arg10 harg10 arg11 harg11 hc0 hc1 hc2 x0 x1 x2 x3 x4 x5 y = outG (gateBuf x0 x1) x4 x5 (valU x0 x3) y := by
  unfold out0_A_6
  rw [View.read_writes_eq_canon _ _ _ (fun y => cover0_A_6 (y := y) ..)]
  refine View.canon_apply_of_pieces (Val := Elt Ideal) (e := .bf16) (outG (gateBuf x0 x1) x4 x5 (valU x0 x3)) _ ?_ y (cover0_A_6 (y := y) ..)
  unfold kernelRun0_A
  dsimp only
  intro p hp j
  simp only [List.mem_cons, List.mem_nil_iff, or_false] at hp
  rcases hp with rfl | hp
  · sl_unfold_words
    refine (congrFun (pay_C_31 _ _ _ _ _ _) j).trans ?_
    refine row_piece (gateBuf x0 x1) x4 x5 (valU x0 x3) 1984 (by decide) (by decide) _ _ _ _ _ _ ?_ ?_ ?_ ?_ ?_ ?_ inb_S1x2048x256_S1x64x256_0_1984_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1984 _ (by decide) rfl inb_S2176x256_S64x256_1984_0
    · exact gateA_ld arg9 _ (gateBuf x0 x1) (padL_canon arg2 harg2 arg3 harg3 x0 x1) 2048 _ (by decide) rfl inb_S2176x256_S64x256_2048_0
    · exact gateA_ld arg9 _ (gateBuf x0 x1) (padL_canon arg2 harg2 arg3 harg3 x0 x1) 2112 _ (by decide) rfl inb_S2176x256_S64x256_2112_0
    · exact val_ld arg11 _ 1536 1984 (by decide) (by decide) (by decide) arg2 harg2 x0 _ x3 (whole_ld rfl arg5 harg5 x3 _ (by decide) _) _ _ (prod_134 _ _) _ _
  rcases hp with rfl | hp
  · sl_unfold_words
    refine (congrFun (pay_C_30 _ _ _ _ _ _) j).trans ?_
    refine row_piece (gateBuf x0 x1) x4 x5 (valU x0 x3) 1920 (by decide) (by decide) _ _ _ _ _ _ ?_ ?_ ?_ ?_ ?_ ?_ inb_S1x2048x256_S1x64x256_0_1920_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1920 _ (by decide) rfl inb_S2176x256_S64x256_1920_0
    · exact gateA_ld arg9 _ (gateBuf x0 x1) (padL_canon arg2 harg2 arg3 harg3 x0 x1) 1984 _ (by decide) rfl inb_S2176x256_S64x256_1984_0
    · exact gateA_ld arg9 _ (gateBuf x0 x1) (padL_canon arg2 harg2 arg3 harg3 x0 x1) 2048 _ (by decide) rfl inb_S2176x256_S64x256_2048_0
    · exact val_ld arg11 _ 1536 1920 (by decide) (by decide) (by decide) arg2 harg2 x0 _ x3 (whole_ld rfl arg5 harg5 x3 _ (by decide) _) _ _ (prod_134 _ _) _ _
  rcases hp with rfl | hp
  · sl_unfold_words
    refine (congrFun (pay_C_29 _ _ _ _ _ _) j).trans ?_
    refine row_piece (gateBuf x0 x1) x4 x5 (valU x0 x3) 1856 (by decide) (by decide) _ _ _ _ _ _ ?_ ?_ ?_ ?_ ?_ ?_ inb_S1x2048x256_S1x64x256_0_1856_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1856 _ (by decide) rfl inb_S2176x256_S64x256_1856_0
    · exact gateA_ld arg9 _ (gateBuf x0 x1) (padL_canon arg2 harg2 arg3 harg3 x0 x1) 1920 _ (by decide) rfl inb_S2176x256_S64x256_1920_0
    · exact gateA_ld arg9 _ (gateBuf x0 x1) (padL_canon arg2 harg2 arg3 harg3 x0 x1) 1984 _ (by decide) rfl inb_S2176x256_S64x256_1984_0
    · exact val_ld arg11 _ 1536 1856 (by decide) (by decide) (by decide) arg2 harg2 x0 _ x3 (whole_ld rfl arg5 harg5 x3 _ (by decide) _) _ _ (prod_134 _ _) _ _
  rcases hp with rfl | hp
  · sl_unfold_words
    refine (congrFun (pay_C_28 _ _ _ _ _ _) j).trans ?_
    refine row_piece (gateBuf x0 x1) x4 x5 (valU x0 x3) 1792 (by decide) (by decide) _ _ _ _ _ _ ?_ ?_ ?_ ?_ ?_ ?_ inb_S1x2048x256_S1x64x256_0_1792_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1792 _ (by decide) rfl inb_S2176x256_S64x256_1792_0
    · exact gateA_ld arg9 _ (gateBuf x0 x1) (padL_canon arg2 harg2 arg3 harg3 x0 x1) 1856 _ (by decide) rfl inb_S2176x256_S64x256_1856_0
    · exact gateA_ld arg9 _ (gateBuf x0 x1) (padL_canon arg2 harg2 arg3 harg3 x0 x1) 1920 _ (by decide) rfl inb_S2176x256_S64x256_1920_0
    · exact val_ld arg11 _ 1536 1792 (by decide) (by decide) (by decide) arg2 harg2 x0 _ x3 (whole_ld rfl arg5 harg5 x3 _ (by decide) _) _ _ (prod_134 _ _) _ _
  rcases hp with rfl | hp
  · sl_unfold_words
    refine (congrFun (pay_C_27 _ _ _ _ _ _) j).trans ?_
    refine row_piece (gateBuf x0 x1) x4 x5 (valU x0 x3) 1728 (by decide) (by decide) _ _ _ _ _ _ ?_ ?_ ?_ ?_ ?_ ?_ inb_S1x2048x256_S1x64x256_0_1728_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1728 _ (by decide) rfl inb_S2176x256_S64x256_1728_0
    · exact gateA_ld arg9 _ (gateBuf x0 x1) (padL_canon arg2 harg2 arg3 harg3 x0 x1) 1792 _ (by decide) rfl inb_S2176x256_S64x256_1792_0
    · exact gateA_ld arg9 _ (gateBuf x0 x1) (padL_canon arg2 harg2 arg3 harg3 x0 x1) 1856 _ (by decide) rfl inb_S2176x256_S64x256_1856_0
    · exact val_ld arg11 _ 1536 1728 (by decide) (by decide) (by decide) arg2 harg2 x0 _ x3 (whole_ld rfl arg5 harg5 x3 _ (by decide) _) _ _ (prod_134 _ _) _ _
  rcases hp with rfl | hp
  · sl_unfold_words
    refine (congrFun (pay_C_26 _ _ _ _ _ _) j).trans ?_
    refine row_piece (gateBuf x0 x1) x4 x5 (valU x0 x3) 1664 (by decide) (by decide) _ _ _ _ _ _ ?_ ?_ ?_ ?_ ?_ ?_ inb_S1x2048x256_S1x64x256_0_1664_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1664 _ (by decide) rfl inb_S2176x256_S64x256_1664_0
    · exact gateA_ld arg9 _ (gateBuf x0 x1) (padL_canon arg2 harg2 arg3 harg3 x0 x1) 1728 _ (by decide) rfl inb_S2176x256_S64x256_1728_0
    · exact gateA_ld arg9 _ (gateBuf x0 x1) (padL_canon arg2 harg2 arg3 harg3 x0 x1) 1792 _ (by decide) rfl inb_S2176x256_S64x256_1792_0
    · exact val_ld arg11 _ 1536 1664 (by decide) (by decide) (by decide) arg2 harg2 x0 _ x3 (whole_ld rfl arg5 harg5 x3 _ (by decide) _) _ _ (prod_134 _ _) _ _
  rcases hp with rfl | hp
  · sl_unfold_words
    refine (congrFun (pay_C_25 _ _ _ _ _ _) j).trans ?_
    refine row_piece (gateBuf x0 x1) x4 x5 (valU x0 x3) 1600 (by decide) (by decide) _ _ _ _ _ _ ?_ ?_ ?_ ?_ ?_ ?_ inb_S1x2048x256_S1x64x256_0_1600_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1600 _ (by decide) rfl inb_S2176x256_S64x256_1600_0
    · exact gateA_ld arg9 _ (gateBuf x0 x1) (padL_canon arg2 harg2 arg3 harg3 x0 x1) 1664 _ (by decide) rfl inb_S2176x256_S64x256_1664_0
    · exact gateA_ld arg9 _ (gateBuf x0 x1) (padL_canon arg2 harg2 arg3 harg3 x0 x1) 1728 _ (by decide) rfl inb_S2176x256_S64x256_1728_0
    · exact val_ld arg11 _ 1536 1600 (by decide) (by decide) (by decide) arg2 harg2 x0 _ x3 (whole_ld rfl arg5 harg5 x3 _ (by decide) _) _ _ (prod_134 _ _) _ _
  rcases hp with rfl | hp
  · sl_unfold_words
    refine (congrFun (pay_C_24 _ _ _ _ _ _) j).trans ?_
    refine row_piece (gateBuf x0 x1) x4 x5 (valU x0 x3) 1536 (by decide) (by decide) _ _ _ _ _ _ ?_ ?_ ?_ ?_ ?_ ?_ inb_S1x2048x256_S1x64x256_0_1536_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1536 _ (by decide) rfl inb_S2176x256_S64x256_1536_0
    · exact gateA_ld arg9 _ (gateBuf x0 x1) (padL_canon arg2 harg2 arg3 harg3 x0 x1) 1600 _ (by decide) rfl inb_S2176x256_S64x256_1600_0
    · exact gateA_ld arg9 _ (gateBuf x0 x1) (padL_canon arg2 harg2 arg3 harg3 x0 x1) 1664 _ (by decide) rfl inb_S2176x256_S64x256_1664_0
    · exact val_ld arg11 _ 1536 1536 (by decide) (by decide) (by decide) arg2 harg2 x0 _ x3 (whole_ld rfl arg5 harg5 x3 _ (by decide) _) _ _ (prod_134 _ _) _ _
  rcases hp with rfl | hp
  · sl_unfold_words
    refine (congrFun (pay_C_23 _ _ _ _ _ _) j).trans ?_
    refine row_piece (gateBuf x0 x1) x4 x5 (valU x0 x3) 1472 (by decide) (by decide) _ _ _ _ _ _ ?_ ?_ ?_ ?_ ?_ ?_ inb_S1x2048x256_S1x64x256_0_1472_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1472 _ (by decide) rfl inb_S2176x256_S64x256_1472_0
    · exact gateA_ld arg9 _ (gateBuf x0 x1) (padL_canon arg2 harg2 arg3 harg3 x0 x1) 1536 _ (by decide) rfl inb_S2176x256_S64x256_1536_0
    · exact gateA_ld arg9 _ (gateBuf x0 x1) (padL_canon arg2 harg2 arg3 harg3 x0 x1) 1600 _ (by decide) rfl inb_S2176x256_S64x256_1600_0
    · exact val_ld arg11 _ 1024 1472 (by decide) (by decide) (by decide) arg2 harg2 x0 _ x3 (whole_ld rfl arg5 harg5 x3 _ (by decide) _) _ _ (prod_94 _ _) _ _
  rcases hp with rfl | hp
  · sl_unfold_words
    refine (congrFun (pay_C_22 _ _ _ _ _ _) j).trans ?_
    refine row_piece (gateBuf x0 x1) x4 x5 (valU x0 x3) 1408 (by decide) (by decide) _ _ _ _ _ _ ?_ ?_ ?_ ?_ ?_ ?_ inb_S1x2048x256_S1x64x256_0_1408_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1408 _ (by decide) rfl inb_S2176x256_S64x256_1408_0
    · exact gateA_ld arg9 _ (gateBuf x0 x1) (padL_canon arg2 harg2 arg3 harg3 x0 x1) 1472 _ (by decide) rfl inb_S2176x256_S64x256_1472_0
    · exact gateA_ld arg9 _ (gateBuf x0 x1) (padL_canon arg2 harg2 arg3 harg3 x0 x1) 1536 _ (by decide) rfl inb_S2176x256_S64x256_1536_0
    · exact val_ld arg11 _ 1024 1408 (by decide) (by decide) (by decide) arg2 harg2 x0 _ x3 (whole_ld rfl arg5 harg5 x3 _ (by decide) _) _ _ (prod_94 _ _) _ _
  rcases hp with rfl | hp
  · sl_unfold_words
    refine (congrFun (pay_C_21 _ _ _ _ _ _) j).trans ?_
    refine row_piece (gateBuf x0 x1) x4 x5 (valU x0 x3) 1344 (by decide) (by decide) _ _ _ _ _ _ ?_ ?_ ?_ ?_ ?_ ?_ inb_S1x2048x256_S1x64x256_0_1344_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1344 _ (by decide) rfl inb_S2176x256_S64x256_1344_0
    · exact gateA_ld arg9 _ (gateBuf x0 x1) (padL_canon arg2 harg2 arg3 harg3 x0 x1) 1408 _ (by decide) rfl inb_S2176x256_S64x256_1408_0
    · exact gateA_ld arg9 _ (gateBuf x0 x1) (padL_canon arg2 harg2 arg3 harg3 x0 x1) 1472 _ (by decide) rfl inb_S2176x256_S64x256_1472_0
    · exact val_ld arg11 _ 1024 1344 (by decide) (by decide) (by decide) arg2 harg2 x0 _ x3 (whole_ld rfl arg5 harg5 x3 _ (by decide) _) _ _ (prod_94 _ _) _ _
  rcases hp with rfl | hp
  · sl_unfold_words
    refine (congrFun (pay_C_20 _ _ _ _ _ _) j).trans ?_
    refine row_piece (gateBuf x0 x1) x4 x5 (valU x0 x3) 1280 (by decide) (by decide) _ _ _ _ _ _ ?_ ?_ ?_ ?_ ?_ ?_ inb_S1x2048x256_S1x64x256_0_1280_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1280 _ (by decide) rfl inb_S2176x256_S64x256_1280_0
    · exact gateA_ld arg9 _ (gateBuf x0 x1) (padL_canon arg2 harg2 arg3 harg3 x0 x1) 1344 _ (by decide) rfl inb_S2176x256_S64x256_1344_0
    · exact gateA_ld arg9 _ (gateBuf x0 x1) (padL_canon arg2 harg2 arg3 harg3 x0 x1) 1408 _ (by decide) rfl inb_S2176x256_S64x256_1408_0
    · exact val_ld arg11 _ 1024 1280 (by decide) (by decide) (by decide) arg2 harg2 x0 _ x3 (whole_ld rfl arg5 harg5 x3 _ (by decide) _) _ _ (prod_94 _ _) _ _
  rcases hp with rfl | hp
  · sl_unfold_words
    refine (congrFun (pay_C_19 _ _ _ _ _ _) j).trans ?_
    refine row_piece (gateBuf x0 x1) x4 x5 (valU x0 x3) 1216 (by decide) (by decide) _ _ _ _ _ _ ?_ ?_ ?_ ?_ ?_ ?_ inb_S1x2048x256_S1x64x256_0_1216_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1216 _ (by decide) rfl inb_S2176x256_S64x256_1216_0
    · exact gateA_ld arg9 _ (gateBuf x0 x1) (padL_canon arg2 harg2 arg3 harg3 x0 x1) 1280 _ (by decide) rfl inb_S2176x256_S64x256_1280_0
    · exact gateA_ld arg9 _ (gateBuf x0 x1) (padL_canon arg2 harg2 arg3 harg3 x0 x1) 1344 _ (by decide) rfl inb_S2176x256_S64x256_1344_0
    · exact val_ld arg11 _ 1024 1216 (by decide) (by decide) (by decide) arg2 harg2 x0 _ x3 (whole_ld rfl arg5 harg5 x3 _ (by decide) _) _ _ (prod_94 _ _) _ _
  rcases hp with rfl | hp
  · sl_unfold_words
    refine (congrFun (pay_C_18 _ _ _ _ _ _) j).trans ?_
    refine row_piece (gateBuf x0 x1) x4 x5 (valU x0 x3) 1152 (by decide) (by decide) _ _ _ _ _ _ ?_ ?_ ?_ ?_ ?_ ?_ inb_S1x2048x256_S1x64x256_0_1152_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1152 _ (by decide) rfl inb_S2176x256_S64x256_1152_0
    · exact gateA_ld arg9 _ (gateBuf x0 x1) (padL_canon arg2 harg2 arg3 harg3 x0 x1) 1216 _ (by decide) rfl inb_S2176x256_S64x256_1216_0
    · exact gateA_ld arg9 _ (gateBuf x0 x1) (padL_canon arg2 harg2 arg3 harg3 x0 x1) 1280 _ (by decide) rfl inb_S2176x256_S64x256_1280_0
    · exact val_ld arg11 _ 1024 1152 (by decide) (by decide) (by decide) arg2 harg2 x0 _ x3 (whole_ld rfl arg5 harg5 x3 _ (by decide) _) _ _ (prod_94 _ _) _ _
  rcases hp with rfl | hp
  · sl_unfold_words
    refine (congrFun (pay_C_17 _ _ _ _ _ _) j).trans ?_
    refine row_piece (gateBuf x0 x1) x4 x5 (valU x0 x3) 1088 (by decide) (by decide) _ _ _ _ _ _ ?_ ?_ ?_ ?_ ?_ ?_ inb_S1x2048x256_S1x64x256_0_1088_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1088 _ (by decide) rfl inb_S2176x256_S64x256_1088_0
    · exact gateA_ld arg9 _ (gateBuf x0 x1) (padL_canon arg2 harg2 arg3 harg3 x0 x1) 1152 _ (by decide) rfl inb_S2176x256_S64x256_1152_0
    · exact gateA_ld arg9 _ (gateBuf x0 x1) (padL_canon arg2 harg2 arg3 harg3 x0 x1) 1216 _ (by decide) rfl inb_S2176x256_S64x256_1216_0
    · exact val_ld arg11 _ 1024 1088 (by decide) (by decide) (by decide) arg2 harg2 x0 _ x3 (whole_ld rfl arg5 harg5 x3 _ (by decide) _) _ _ (prod_94 _ _) _ _
  rcases hp with rfl | hp
  · sl_unfold_words
    refine (congrFun (pay_C_16 _ _ _ _ _ _) j).trans ?_
    refine row_piece (gateBuf x0 x1) x4 x5 (valU x0 x3) 1024 (by decide) (by decide) _ _ _ _ _ _ ?_ ?_ ?_ ?_ ?_ ?_ inb_S1x2048x256_S1x64x256_0_1024_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 1024 _ (by decide) rfl inb_S2176x256_S64x256_1024_0
    · exact gateA_ld arg9 _ (gateBuf x0 x1) (padL_canon arg2 harg2 arg3 harg3 x0 x1) 1088 _ (by decide) rfl inb_S2176x256_S64x256_1088_0
    · exact gateA_ld arg9 _ (gateBuf x0 x1) (padL_canon arg2 harg2 arg3 harg3 x0 x1) 1152 _ (by decide) rfl inb_S2176x256_S64x256_1152_0
    · exact val_ld arg11 _ 1024 1024 (by decide) (by decide) (by decide) arg2 harg2 x0 _ x3 (whole_ld rfl arg5 harg5 x3 _ (by decide) _) _ _ (prod_94 _ _) _ _
  rcases hp with rfl | hp
  · sl_unfold_words
    refine (congrFun (pay_C_15 _ _ _ _ _ _) j).trans ?_
    refine row_piece (gateBuf x0 x1) x4 x5 (valU x0 x3) 960 (by decide) (by decide) _ _ _ _ _ _ ?_ ?_ ?_ ?_ ?_ ?_ inb_S1x2048x256_S1x64x256_0_960_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 960 _ (by decide) rfl inb_S2176x256_S64x256_960_0
    · exact gateA_ld arg9 _ (gateBuf x0 x1) (padL_canon arg2 harg2 arg3 harg3 x0 x1) 1024 _ (by decide) rfl inb_S2176x256_S64x256_1024_0
    · exact gateA_ld arg9 _ (gateBuf x0 x1) (padL_canon arg2 harg2 arg3 harg3 x0 x1) 1088 _ (by decide) rfl inb_S2176x256_S64x256_1088_0
    · exact val_ld arg11 _ 512 960 (by decide) (by decide) (by decide) arg2 harg2 x0 _ x3 (whole_ld rfl arg5 harg5 x3 _ (by decide) _) _ _ (prod_55 _ _) _ _
  rcases hp with rfl | hp
  · sl_unfold_words
    refine (congrFun (pay_C_14 _ _ _ _ _ _) j).trans ?_
    refine row_piece (gateBuf x0 x1) x4 x5 (valU x0 x3) 896 (by decide) (by decide) _ _ _ _ _ _ ?_ ?_ ?_ ?_ ?_ ?_ inb_S1x2048x256_S1x64x256_0_896_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 896 _ (by decide) rfl inb_S2176x256_S64x256_896_0
    · exact gateA_ld arg9 _ (gateBuf x0 x1) (padL_canon arg2 harg2 arg3 harg3 x0 x1) 960 _ (by decide) rfl inb_S2176x256_S64x256_960_0
    · exact gateA_ld arg9 _ (gateBuf x0 x1) (padL_canon arg2 harg2 arg3 harg3 x0 x1) 1024 _ (by decide) rfl inb_S2176x256_S64x256_1024_0
    · exact val_ld arg11 _ 512 896 (by decide) (by decide) (by decide) arg2 harg2 x0 _ x3 (whole_ld rfl arg5 harg5 x3 _ (by decide) _) _ _ (prod_55 _ _) _ _
  rcases hp with rfl | hp
  · sl_unfold_words
    refine (congrFun (pay_C_13 _ _ _ _ _ _) j).trans ?_
    refine row_piece (gateBuf x0 x1) x4 x5 (valU x0 x3) 832 (by decide) (by decide) _ _ _ _ _ _ ?_ ?_ ?_ ?_ ?_ ?_ inb_S1x2048x256_S1x64x256_0_832_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 832 _ (by decide) rfl inb_S2176x256_S64x256_832_0
    · exact gateA_ld arg9 _ (gateBuf x0 x1) (padL_canon arg2 harg2 arg3 harg3 x0 x1) 896 _ (by decide) rfl inb_S2176x256_S64x256_896_0
    · exact gateA_ld arg9 _ (gateBuf x0 x1) (padL_canon arg2 harg2 arg3 harg3 x0 x1) 960 _ (by decide) rfl inb_S2176x256_S64x256_960_0
    · exact val_ld arg11 _ 512 832 (by decide) (by decide) (by decide) arg2 harg2 x0 _ x3 (whole_ld rfl arg5 harg5 x3 _ (by decide) _) _ _ (prod_55 _ _) _ _
  rcases hp with rfl | hp
  · sl_unfold_words
    refine (congrFun (pay_C_12 _ _ _ _ _ _) j).trans ?_
    refine row_piece (gateBuf x0 x1) x4 x5 (valU x0 x3) 768 (by decide) (by decide) _ _ _ _ _ _ ?_ ?_ ?_ ?_ ?_ ?_ inb_S1x2048x256_S1x64x256_0_768_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 768 _ (by decide) rfl inb_S2176x256_S64x256_768_0
    · exact gateA_ld arg9 _ (gateBuf x0 x1) (padL_canon arg2 harg2 arg3 harg3 x0 x1) 832 _ (by decide) rfl inb_S2176x256_S64x256_832_0
    · exact gateA_ld arg9 _ (gateBuf x0 x1) (padL_canon arg2 harg2 arg3 harg3 x0 x1) 896 _ (by decide) rfl inb_S2176x256_S64x256_896_0
    · exact val_ld arg11 _ 512 768 (by decide) (by decide) (by decide) arg2 harg2 x0 _ x3 (whole_ld rfl arg5 harg5 x3 _ (by decide) _) _ _ (prod_55 _ _) _ _
  rcases hp with rfl | hp
  · sl_unfold_words
    refine (congrFun (pay_C_11 _ _ _ _ _ _) j).trans ?_
    refine row_piece (gateBuf x0 x1) x4 x5 (valU x0 x3) 704 (by decide) (by decide) _ _ _ _ _ _ ?_ ?_ ?_ ?_ ?_ ?_ inb_S1x2048x256_S1x64x256_0_704_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 704 _ (by decide) rfl inb_S2176x256_S64x256_704_0
    · exact gateA_ld arg9 _ (gateBuf x0 x1) (padL_canon arg2 harg2 arg3 harg3 x0 x1) 768 _ (by decide) rfl inb_S2176x256_S64x256_768_0
    · exact gateA_ld arg9 _ (gateBuf x0 x1) (padL_canon arg2 harg2 arg3 harg3 x0 x1) 832 _ (by decide) rfl inb_S2176x256_S64x256_832_0
    · exact val_ld arg11 _ 512 704 (by decide) (by decide) (by decide) arg2 harg2 x0 _ x3 (whole_ld rfl arg5 harg5 x3 _ (by decide) _) _ _ (prod_55 _ _) _ _
  rcases hp with rfl | hp
  · sl_unfold_words
    refine (congrFun (pay_C_10 _ _ _ _ _ _) j).trans ?_
    refine row_piece (gateBuf x0 x1) x4 x5 (valU x0 x3) 640 (by decide) (by decide) _ _ _ _ _ _ ?_ ?_ ?_ ?_ ?_ ?_ inb_S1x2048x256_S1x64x256_0_640_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 640 _ (by decide) rfl inb_S2176x256_S64x256_640_0
    · exact gateA_ld arg9 _ (gateBuf x0 x1) (padL_canon arg2 harg2 arg3 harg3 x0 x1) 704 _ (by decide) rfl inb_S2176x256_S64x256_704_0
    · exact gateA_ld arg9 _ (gateBuf x0 x1) (padL_canon arg2 harg2 arg3 harg3 x0 x1) 768 _ (by decide) rfl inb_S2176x256_S64x256_768_0
    · exact val_ld arg11 _ 512 640 (by decide) (by decide) (by decide) arg2 harg2 x0 _ x3 (whole_ld rfl arg5 harg5 x3 _ (by decide) _) _ _ (prod_55 _ _) _ _
  rcases hp with rfl | hp
  · sl_unfold_words
    refine (congrFun (pay_C_9 _ _ _ _ _ _) j).trans ?_
    refine row_piece (gateBuf x0 x1) x4 x5 (valU x0 x3) 576 (by decide) (by decide) _ _ _ _ _ _ ?_ ?_ ?_ ?_ ?_ ?_ inb_S1x2048x256_S1x64x256_0_576_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 576 _ (by decide) rfl inb_S2176x256_S64x256_576_0
    · exact gateA_ld arg9 _ (gateBuf x0 x1) (padL_canon arg2 harg2 arg3 harg3 x0 x1) 640 _ (by decide) rfl inb_S2176x256_S64x256_640_0
    · exact gateA_ld arg9 _ (gateBuf x0 x1) (padL_canon arg2 harg2 arg3 harg3 x0 x1) 704 _ (by decide) rfl inb_S2176x256_S64x256_704_0
    · exact val_ld arg11 _ 512 576 (by decide) (by decide) (by decide) arg2 harg2 x0 _ x3 (whole_ld rfl arg5 harg5 x3 _ (by decide) _) _ _ (prod_55 _ _) _ _
  rcases hp with rfl | hp
  · sl_unfold_words
    refine (congrFun (pay_C_8 _ _ _ _ _ _) j).trans ?_
    refine row_piece (gateBuf x0 x1) x4 x5 (valU x0 x3) 512 (by decide) (by decide) _ _ _ _ _ _ ?_ ?_ ?_ ?_ ?_ ?_ inb_S1x2048x256_S1x64x256_0_512_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 512 _ (by decide) rfl inb_S2176x256_S64x256_512_0
    · exact gateA_ld arg9 _ (gateBuf x0 x1) (padL_canon arg2 harg2 arg3 harg3 x0 x1) 576 _ (by decide) rfl inb_S2176x256_S64x256_576_0
    · exact gateA_ld arg9 _ (gateBuf x0 x1) (padL_canon arg2 harg2 arg3 harg3 x0 x1) 640 _ (by decide) rfl inb_S2176x256_S64x256_640_0
    · exact val_ld arg11 _ 512 512 (by decide) (by decide) (by decide) arg2 harg2 x0 _ x3 (whole_ld rfl arg5 harg5 x3 _ (by decide) _) _ _ (prod_55 _ _) _ _
  rcases hp with rfl | hp
  · sl_unfold_words
    refine (congrFun (pay_C_7 _ _ _ _ _ _) j).trans ?_
    refine row_piece (gateBuf x0 x1) x4 x5 (valU x0 x3) 448 (by decide) (by decide) _ _ _ _ _ _ ?_ ?_ ?_ ?_ ?_ ?_ inb_S1x2048x256_S1x64x256_0_448_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 448 _ (by decide) rfl inb_S2176x256_S64x256_448_0
    · exact gateA_ld arg9 _ (gateBuf x0 x1) (padL_canon arg2 harg2 arg3 harg3 x0 x1) 512 _ (by decide) rfl inb_S2176x256_S64x256_512_0
    · exact gateA_ld arg9 _ (gateBuf x0 x1) (padL_canon arg2 harg2 arg3 harg3 x0 x1) 576 _ (by decide) rfl inb_S2176x256_S64x256_576_0
    · exact val_ld arg11 _ 0 448 (by decide) (by decide) (by decide) arg2 harg2 x0 _ x3 (whole_ld rfl arg5 harg5 x3 _ (by decide) _) _ _ rfl _ _
  rcases hp with rfl | hp
  · sl_unfold_words
    refine (congrFun (pay_C_6 _ _ _ _ _ _) j).trans ?_
    refine row_piece (gateBuf x0 x1) x4 x5 (valU x0 x3) 384 (by decide) (by decide) _ _ _ _ _ _ ?_ ?_ ?_ ?_ ?_ ?_ inb_S1x2048x256_S1x64x256_0_384_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 384 _ (by decide) rfl inb_S2176x256_S64x256_384_0
    · exact gateA_ld arg9 _ (gateBuf x0 x1) (padL_canon arg2 harg2 arg3 harg3 x0 x1) 448 _ (by decide) rfl inb_S2176x256_S64x256_448_0
    · exact gateA_ld arg9 _ (gateBuf x0 x1) (padL_canon arg2 harg2 arg3 harg3 x0 x1) 512 _ (by decide) rfl inb_S2176x256_S64x256_512_0
    · exact val_ld arg11 _ 0 384 (by decide) (by decide) (by decide) arg2 harg2 x0 _ x3 (whole_ld rfl arg5 harg5 x3 _ (by decide) _) _ _ rfl _ _
  rcases hp with rfl | hp
  · sl_unfold_words
    refine (congrFun (pay_C_5 _ _ _ _ _ _) j).trans ?_
    refine row_piece (gateBuf x0 x1) x4 x5 (valU x0 x3) 320 (by decide) (by decide) _ _ _ _ _ _ ?_ ?_ ?_ ?_ ?_ ?_ inb_S1x2048x256_S1x64x256_0_320_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 320 _ (by decide) rfl inb_S2176x256_S64x256_320_0
    · exact gateA_ld arg9 _ (gateBuf x0 x1) (padL_canon arg2 harg2 arg3 harg3 x0 x1) 384 _ (by decide) rfl inb_S2176x256_S64x256_384_0
    · exact gateA_ld arg9 _ (gateBuf x0 x1) (padL_canon arg2 harg2 arg3 harg3 x0 x1) 448 _ (by decide) rfl inb_S2176x256_S64x256_448_0
    · exact val_ld arg11 _ 0 320 (by decide) (by decide) (by decide) arg2 harg2 x0 _ x3 (whole_ld rfl arg5 harg5 x3 _ (by decide) _) _ _ rfl _ _
  rcases hp with rfl | hp
  · sl_unfold_words
    refine (congrFun (pay_C_4 _ _ _ _ _ _) j).trans ?_
    refine row_piece (gateBuf x0 x1) x4 x5 (valU x0 x3) 256 (by decide) (by decide) _ _ _ _ _ _ ?_ ?_ ?_ ?_ ?_ ?_ inb_S1x2048x256_S1x64x256_0_256_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 256 _ (by decide) rfl inb_S2176x256_S64x256_256_0
    · exact gateA_ld arg9 _ (gateBuf x0 x1) (padL_canon arg2 harg2 arg3 harg3 x0 x1) 320 _ (by decide) rfl inb_S2176x256_S64x256_320_0
    · exact gateA_ld arg9 _ (gateBuf x0 x1) (padL_canon arg2 harg2 arg3 harg3 x0 x1) 384 _ (by decide) rfl inb_S2176x256_S64x256_384_0
    · exact val_ld arg11 _ 0 256 (by decide) (by decide) (by decide) arg2 harg2 x0 _ x3 (whole_ld rfl arg5 harg5 x3 _ (by decide) _) _ _ rfl _ _
  rcases hp with rfl | hp
  · sl_unfold_words
    refine (congrFun (pay_C_3 _ _ _ _ _ _) j).trans ?_
    refine row_piece (gateBuf x0 x1) x4 x5 (valU x0 x3) 192 (by decide) (by decide) _ _ _ _ _ _ ?_ ?_ ?_ ?_ ?_ ?_ inb_S1x2048x256_S1x64x256_0_192_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 192 _ (by decide) rfl inb_S2176x256_S64x256_192_0
    · exact gateA_ld arg9 _ (gateBuf x0 x1) (padL_canon arg2 harg2 arg3 harg3 x0 x1) 256 _ (by decide) rfl inb_S2176x256_S64x256_256_0
    · exact gateA_ld arg9 _ (gateBuf x0 x1) (padL_canon arg2 harg2 arg3 harg3 x0 x1) 320 _ (by decide) rfl inb_S2176x256_S64x256_320_0
    · exact val_ld arg11 _ 0 192 (by decide) (by decide) (by decide) arg2 harg2 x0 _ x3 (whole_ld rfl arg5 harg5 x3 _ (by decide) _) _ _ rfl _ _
  rcases hp with rfl | hp
  · sl_unfold_words
    refine (congrFun (pay_C_2 _ _ _ _ _ _) j).trans ?_
    refine row_piece (gateBuf x0 x1) x4 x5 (valU x0 x3) 128 (by decide) (by decide) _ _ _ _ _ _ ?_ ?_ ?_ ?_ ?_ ?_ inb_S1x2048x256_S1x64x256_0_128_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 128 _ (by decide) rfl inb_S2176x256_S64x256_128_0
    · exact gateA_ld arg9 _ (gateBuf x0 x1) (padL_canon arg2 harg2 arg3 harg3 x0 x1) 192 _ (by decide) rfl inb_S2176x256_S64x256_192_0
    · exact gateA_ld arg9 _ (gateBuf x0 x1) (padL_canon arg2 harg2 arg3 harg3 x0 x1) 256 _ (by decide) rfl inb_S2176x256_S64x256_256_0
    · exact val_ld arg11 _ 0 128 (by decide) (by decide) (by decide) arg2 harg2 x0 _ x3 (whole_ld rfl arg5 harg5 x3 _ (by decide) _) _ _ rfl _ _
  rcases hp with rfl | hp
  · sl_unfold_words
    refine (congrFun (pay_C_1 _ _ _ _ _ _) j).trans ?_
    refine row_piece (gateBuf x0 x1) x4 x5 (valU x0 x3) 64 (by decide) (by decide) _ _ _ _ _ _ ?_ ?_ ?_ ?_ ?_ ?_ inb_S1x2048x256_S1x64x256_0_64_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 64 _ (by decide) rfl inb_S2176x256_S64x256_64_0
    · exact gateA_ld arg9 _ (gateBuf x0 x1) (padL_canon arg2 harg2 arg3 harg3 x0 x1) 128 _ (by decide) rfl inb_S2176x256_S64x256_128_0
    · exact gateA_ld arg9 _ (gateBuf x0 x1) (padL_canon arg2 harg2 arg3 harg3 x0 x1) 192 _ (by decide) rfl inb_S2176x256_S64x256_192_0
    · exact val_ld arg11 _ 0 64 (by decide) (by decide) (by decide) arg2 harg2 x0 _ x3 (whole_ld rfl arg5 harg5 x3 _ (by decide) _) _ _ rfl _ _
  rcases hp with rfl
  · sl_unfold_words
    refine (congrFun (pay_C_0 _ _ _ _ _ _) j).trans ?_
    refine row_piece (gateBuf x0 x1) x4 x5 (valU x0 x3) 0 (by decide) (by decide) _ _ _ _ _ _ ?_ ?_ ?_ ?_ ?_ ?_ inb_S1x2048x256_S1x64x256_0_0_0 j
    · exact whole_ld rfl arg6 harg6 x4 _ (by decide) _
    · exact whole_ld rfl arg7 harg7 x5 _ (by decide) _
    · exact gateA_ld arg9 _ (gateBuf x0 x1) (padL_canon arg2 harg2 arg3 harg3 x0 x1) 0 _ (by decide) rfl inb_S2176x256_S64x256_0_0
    · exact gateA_ld arg9 _ (gateBuf x0 x1) (padL_canon arg2 harg2 arg3 harg3 x0 x1) 64 _ (by decide) rfl inb_S2176x256_S64x256_64_0
    · exact gateA_ld arg9 _ (gateBuf x0 x1) (padL_canon arg2 harg2 arg3 harg3 x0 x1) 128 _ (by decide) rfl inb_S2176x256_S64x256_128_0
    · exact val_ld arg11 _ 0 0 (by decide) (by decide) (by decide) arg2 harg2 x0 _ x3 (whole_ld rfl arg5 harg5 x3 _ (by decide) _) _ _ rfl _ _

end Cert.FfnActEq

end
-- ==== Proof.FfnActOutB.lean ====
/- A block at an odd position: the gate buffer it refills and the block it writes. -/
module

public import proofs.«01_k».proof.Proof.FfnActPay

@[expose] public section

set_option maxRecDepth 16384

noncomputable section

namespace Cert.FfnActEq

open Idealize.ShloMosaic Idealize.ShloMosaic.TcCoe Idealize.ShloMosaic.Tactic Idealize.SL.Sem
open Cert.FfnActIdeal Cert.FfnActIdeal.Gen Cert.FfnActIdeal.Own

set_option maxHeartbeats 1000000 in
theorem sout0_B_0_eq (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) (xs1 : Vec Ideal S2176x256 .f32) (xs0 : Vec Ideal S2176x256 .f32) (x' : Vec Ideal S1x2048x1024 .bf16) (w' : Vec Ideal S1024x256 .bf16) (hx : xs0 = gateBuf x' w') :
    sout0_B_0 c i arg2 harg2 arg3 harg3 arg4 harg4 arg5 harg5 arg6 harg6 arg7 harg7 arg8 harg8 arg9 harg9 arg10 harg10 arg11 harg11 hc0 hc1 hc2 x0 x1 x2 x3 x4 x5 xs1 xs0 = gateBuf x0 x2 := by
  funext y
  unfold sout0_B_0
  by_cases hy : 64 ≤ (y 0).val ∧ (y 0).val < 2112
  · refine View.read_writes_apply_of_pieces (Val := Elt Ideal) _ _ (gateBuf x0 x2) _ ?_ y ?_
    · unfold kernelRun0_B
      dsimp only
      intro p hp j
      simp only [List.mem_cons, List.mem_nil_iff, or_false] at hp
      sl_unfold_words
      rcases hp with rfl | rfl | rfl | rfl
      · exact gate_piece 1536 1600 rfl arg2 harg2 x0 _ x2 (whole_ld rfl arg4 harg4 x2 _ (by decide) _) _ _ (prod_292 _ _) inb_S2176x256_S512x256_1600_0 j
      · exact gate_piece 1024 1088 rfl arg2 harg2 x0 _ x2 (whole_ld rfl arg4 harg4 x2 _ (by decide) _) _ _ (prod_251 _ _) inb_S2176x256_S512x256_1088_0 j
      · exact gate_piece 512 576 rfl arg2 harg2 x0 _ x2 (whole_ld rfl arg4 harg4 x2 _ (by decide) _) _ _ (prod_213 _ _) inb_S2176x256_S512x256_576_0 j
      · exact gate_piece 0 64 rfl arg2 harg2 x0 _ x2 (whole_ld rfl arg4 harg4 x2 _ (by decide) _) _ _ (prod_170 _ _) inb_S2176x256_S512x256_64_0 j
    · unfold kernelRun0_B
      dsimp only
      sl_unfold_words
      obtain h | h | h | h : (64 ≤ (y 0).val ∧ (y 0).val < 64 + 512) ∨ (576 ≤ (y 0).val ∧ (y 0).val < 576 + 512) ∨ (1088 ≤ (y 0).val ∧ (y 0).val < 1088 + 512)
        ∨ (1600 ≤ (y 0).val ∧ (y 0).val < 1600 + 512) := by omega
      · exact ⟨_, .tail _ (.tail _ (.tail _ (.head _))), mem_rows 64 512 inb_S2176x256_S512x256_64_0 y h⟩
      · exact ⟨_, .tail _ (.tail _ (.head _)), mem_rows 576 512 inb_S2176x256_S512x256_576_0 y h⟩
      · exact ⟨_, .tail _ (.head _), mem_rows 1088 512 inb_S2176x256_S512x256_1088_0 y h⟩
      · exact ⟨_, .head _, mem_rows 1600 512 inb_S2176x256_S512x256_1600_0 y h⟩
  · rw [View.read_writes_apply_of_forall_not_mem]
    · rw [harg9.read_unread, hx]
      unfold gateBuf
      rw [dif_neg hy, dif_neg hy]
    · unfold kernelRun0_B
      dsimp only
      intro p hp
      simp only [List.mem_cons, List.mem_nil_iff, or_false] at hp
      sl_unfold_words
      rcases hp with rfl | rfl | rfl | rfl
      · exact not_mem_rows 1600 512 inb_S2176x256_S512x256_1600_0 y (by omega)
      · exact not_mem_rows 1088 512 inb_S2176x256_S512x256_1088_0 y (by omega)
      · exact not_mem_rows 576 512 inb_S2176x256_S512x256_576_0 y (by omega)
      · exact not_mem_rows 64 512 inb_S2176x256_S512x256_64_0 y (by omega)

set_option maxHeartbeats 13200000 in
theorem out_B (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : ¬cond0_1 i) (hc2 : cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) (xs1 : Vec Ideal S2176x256 .f32) (y : S1x2048x256.Idx) :
    out0_B_6 c i arg2 harg2 arg3 harg3 arg4 harg4 arg5 harg5 arg6 harg6 arg7 harg7 arg8 harg8 arg9 harg9 arg10 harg10 arg11 harg11 hc0 hc1 hc2 x0 x1 x2 x3 x4 x5 xs1 y = outG xs1 x4 x5 (valU x0 x3) y := by
  unfold out0_B_6
  rw [View.read_writes_eq_canon _ _ _ (fun y => cover0_B_6 (y := y) ..)]
  refine View.canon_apply_of_pieces (Val := Elt Ideal) (e := .bf16) (outG xs1 x4 x5 (valU x0 x3)) _ ?_ y (cover0_B_6 (y := y) ..)
  unfold kernelRun0_B
  dsimp only
  intro p hp j
  simp only [List.mem_cons, List.mem_nil_iff, or_false] at hp
  rcases hp with rfl | hp
  · sl_unfold_words
    refine (congrFun (pay_B_31 _ _ _ _ _ _) j).trans ?_
    refine row_piece xs1 x4 x5 (valU x0 x3) 1984 (by decide) (by decide) _ _ _ _ _ _ ?_ ?_ ?_ ?_ ?_ ?_ inb_S1x2048x256_S1x64x256_0_1984_0 j
    · exact whole_ld rfl arg6 harg6 x4 _ (by decide) _
    · exact whole_ld rfl arg7 harg7 x5 _ (by decide) _
    · exact gate_ld arg10 harg10 xs1 1984 _ (by decide) rfl inb_S2176x256_S64x256_1984_0
    · exact gate_ld arg10 harg10 xs1 2048 _ (by decide) rfl inb_S2176x256_S64x256_2048_0
    · exact gate_ld arg10 harg10 xs1 2112 _ (by decide) rfl inb_S2176x256_S64x256_2112_0
    · exact val_ld arg11 _ 1536 1984 (by decide) (by decide) (by decide) arg2 harg2 x0 _ x3 (whole_ld rfl arg5 harg5 x3 _ (by decide) _) _ _ (prod_293 _ _) _ _
  rcases hp with rfl | hp
  · sl_unfold_words
    refine (congrFun (pay_B_30 _ _ _ _ _ _) j).trans ?_
    refine row_piece xs1 x4 x5 (valU x0 x3) 1920 (by decide) (by decide) _ _ _ _ _ _ ?_ ?_ ?_ ?_ ?_ ?_ inb_S1x2048x256_S1x64x256_0_1920_0 j
    · exact whole_ld rfl arg6 harg6 x4 _ (by decide) _
    · exact whole_ld rfl arg7 harg7 x5 _ (by decide) _
    · exact gate_ld arg10 harg10 xs1 1920 _ (by decide) rfl inb_S2176x256_S64x256_1920_0
    · exact gate_ld arg10 harg10 xs1 1984 _ (by decide) rfl inb_S2176x256_S64x256_1984_0
    · exact gate_ld arg10 harg10 xs1 2048 _ (by decide) rfl inb_S2176x256_S64x256_2048_0
    · exact val_ld arg11 _ 1536 1920 (by decide) (by decide) (by decide) arg2 harg2 x0 _ x3 (whole_ld rfl arg5 harg5 x3 _ (by decide) _) _ _ (prod_293 _ _) _ _
  rcases hp with rfl | hp
  · sl_unfold_words
    refine (congrFun (pay_B_29 _ _ _ _ _ _) j).trans ?_
    refine row_piece xs1 x4 x5 (valU x0 x3) 1856 (by decide) (by decide) _ _ _ _ _ _ ?_ ?_ ?_ ?_ ?_ ?_ inb_S1x2048x256_S1x64x256_0_1856_0 j
    · exact whole_ld rfl arg6 harg6 x4 _ (by decide) _
    · exact whole_ld rfl arg7 harg7 x5 _ (by decide) _
    · exact gate_ld arg10 harg10 xs1 1856 _ (by decide) rfl inb_S2176x256_S64x256_1856_0
    · exact gate_ld arg10 harg10 xs1 1920 _ (by decide) rfl inb_S2176x256_S64x256_1920_0
    · exact gate_ld arg10 harg10 xs1 1984 _ (by decide) rfl inb_S2176x256_S64x256_1984_0
    · exact val_ld arg11 _ 1536 1856 (by decide) (by decide) (by decide) arg2 harg2 x0 _ x3 (whole_ld rfl arg5 harg5 x3 _ (by decide) _) _ _ (prod_293 _ _) _ _
  rcases hp with rfl | hp
  · sl_unfold_words
    refine (congrFun (pay_B_28 _ _ _ _ _ _) j).trans ?_
    refine row_piece xs1 x4 x5 (valU x0 x3) 1792 (by decide) (by decide) _ _ _ _ _ _ ?_ ?_ ?_ ?_ ?_ ?_ inb_S1x2048x256_S1x64x256_0_1792_0 j
    · exact whole_ld rfl arg6 harg6 x4 _ (by decide) _
    · exact whole_ld rfl arg7 harg7 x5 _ (by decide) _
    · exact gate_ld arg10 harg10 xs1 1792 _ (by decide) rfl inb_S2176x256_S64x256_1792_0
    · exact gate_ld arg10 harg10 xs1 1856 _ (by decide) rfl inb_S2176x256_S64x256_1856_0
    · exact gate_ld arg10 harg10 xs1 1920 _ (by decide) rfl inb_S2176x256_S64x256_1920_0
    · exact val_ld arg11 _ 1536 1792 (by decide) (by decide) (by decide) arg2 harg2 x0 _ x3 (whole_ld rfl arg5 harg5 x3 _ (by decide) _) _ _ (prod_293 _ _) _ _
  rcases hp with rfl | hp
  · sl_unfold_words
    refine (congrFun (pay_B_27 _ _ _ _ _ _) j).trans ?_
    refine row_piece xs1 x4 x5 (valU x0 x3) 1728 (by decide) (by decide) _ _ _ _ _ _ ?_ ?_ ?_ ?_ ?_ ?_ inb_S1x2048x256_S1x64x256_0_1728_0 j
    · exact whole_ld rfl arg6 harg6 x4 _ (by decide) _
    · exact whole_ld rfl arg7 harg7 x5 _ (by decide) _
    · exact gate_ld arg10 harg10 xs1 1728 _ (by decide) rfl inb_S2176x256_S64x256_1728_0
    · exact gate_ld arg10 harg10 xs1 1792 _ (by decide) rfl inb_S2176x256_S64x256_1792_0
    · exact gate_ld arg10 harg10 xs1 1856 _ (by decide) rfl inb_S2176x256_S64x256_1856_0
    · exact val_ld arg11 _ 1536 1728 (by decide) (by decide) (by decide) arg2 harg2 x0 _ x3 (whole_ld rfl arg5 harg5 x3 _ (by decide) _) _ _ (prod_293 _ _) _ _
  rcases hp with rfl | hp
  · sl_unfold_words
    refine (congrFun (pay_B_26 _ _ _ _ _ _) j).trans ?_
    refine row_piece xs1 x4 x5 (valU x0 x3) 1664 (by decide) (by decide) _ _ _ _ _ _ ?_ ?_ ?_ ?_ ?_ ?_ inb_S1x2048x256_S1x64x256_0_1664_0 j
    · exact whole_ld rfl arg6 harg6 x4 _ (by decide) _
    · exact whole_ld rfl arg7 harg7 x5 _ (by decide) _
    · exact gate_ld arg10 harg10 xs1 1664 _ (by decide) rfl inb_S2176x256_S64x256_1664_0
    · exact gate_ld arg10 harg10 xs1 1728 _ (by decide) rfl inb_S2176x256_S64x256_1728_0
    · exact gate_ld arg10 harg10 xs1 1792 _ (by decide) rfl inb_S2176x256_S64x256_1792_0
    · exact val_ld arg11 _ 1536 1664 (by decide) (by decide) (by decide) arg2 harg2 x0 _ x3 (whole_ld rfl arg5 harg5 x3 _ (by decide) _) _ _ (prod_293 _ _) _ _
  rcases hp with rfl | hp
  · sl_unfold_words
    refine (congrFun (pay_B_25 _ _ _ _ _ _) j).trans ?_
    refine row_piece xs1 x4 x5 (valU x0 x3) 1600 (by decide) (by decide) _ _ _ _ _ _ ?_ ?_ ?_ ?_ ?_ ?_ inb_S1x2048x256_S1x64x256_0_1600_0 j
    · exact whole_ld rfl arg6 harg6 x4 _ (by decide) _
    · exact whole_ld rfl arg7 harg7 x5 _ (by decide) _
    · exact gate_ld arg10 harg10 xs1 1600 _ (by decide) rfl inb_S2176x256_S64x256_1600_0
    · exact gate_ld arg10 harg10 xs1 1664 _ (by decide) rfl inb_S2176x256_S64x256_1664_0
    · exact gate_ld arg10 harg10 xs1 1728 _ (by decide) rfl inb_S2176x256_S64x256_1728_0
    · exact val_ld arg11 _ 1536 1600 (by decide) (by decide) (by decide) arg2 harg2 x0 _ x3 (whole_ld rfl arg5 harg5 x3 _ (by decide) _) _ _ (prod_293 _ _) _ _
  rcases hp with rfl | hp
  · sl_unfold_words
    refine (congrFun (pay_B_24 _ _ _ _ _ _) j).trans ?_
    refine row_piece xs1 x4 x5 (valU x0 x3) 1536 (by decide) (by decide) _ _ _ _ _ _ ?_ ?_ ?_ ?_ ?_ ?_ inb_S1x2048x256_S1x64x256_0_1536_0 j
    · exact whole_ld rfl arg6 harg6 x4 _ (by decide) _
    · exact whole_ld rfl arg7 harg7 x5 _ (by decide) _
    · exact gate_ld arg10 harg10 xs1 1536 _ (by decide) rfl inb_S2176x256_S64x256_1536_0
    · exact gate_ld arg10 harg10 xs1 1600 _ (by decide) rfl inb_S2176x256_S64x256_1600_0
    · exact gate_ld arg10 harg10 xs1 1664 _ (by decide) rfl inb_S2176x256_S64x256_1664_0
    · exact val_ld arg11 _ 1536 1536 (by decide) (by decide) (by decide) arg2 harg2 x0 _ x3 (whole_ld rfl arg5 harg5 x3 _ (by decide) _) _ _ (prod_293 _ _) _ _
  rcases hp with rfl | hp
  · sl_unfold_words
    refine (congrFun (pay_B_23 _ _ _ _ _ _) j).trans ?_
    refine row_piece xs1 x4 x5 (valU x0 x3) 1472 (by decide) (by decide) _ _ _ _ _ _ ?_ ?_ ?_ ?_ ?_ ?_ inb_S1x2048x256_S1x64x256_0_1472_0 j
    · exact whole_ld rfl arg6 harg6 x4 _ (by decide) _
    · exact whole_ld rfl arg7 harg7 x5 _ (by decide) _
    · exact gate_ld arg10 harg10 xs1 1472 _ (by decide) rfl inb_S2176x256_S64x256_1472_0
    · exact gate_ld arg10 harg10 xs1 1536 _ (by decide) rfl inb_S2176x256_S64x256_1536_0
    · exact gate_ld arg10 harg10 xs1 1600 _ (by decide) rfl inb_S2176x256_S64x256_1600_0
    · exact val_ld arg11 _ 1024 1472 (by decide) (by decide) (by decide) arg2 harg2 x0 _ x3 (whole_ld rfl arg5 harg5 x3 _ (by decide) _) _ _ (prod_253 _ _) _ _
  rcases hp with rfl | hp
  · sl_unfold_words
    refine (congrFun (pay_B_22 _ _ _ _ _ _) j).trans ?_
    refine row_piece xs1 x4 x5 (valU x0 x3) 1408 (by decide) (by decide) _ _ _ _ _ _ ?_ ?_ ?_ ?_ ?_ ?_ inb_S1x2048x256_S1x64x256_0_1408_0 j
    · exact whole_ld rfl arg6 harg6 x4 _ (by decide) _
    · exact whole_ld rfl arg7 harg7 x5 _ (by decide) _
    · exact gate_ld arg10 harg10 xs1 1408 _ (by decide) rfl inb_S2176x256_S64x256_1408_0
    · exact gate_ld arg10 harg10 xs1 1472 _ (by decide) rfl inb_S2176x256_S64x256_1472_0
    · exact gate_ld arg10 harg10 xs1 1536 _ (by decide) rfl inb_S2176x256_S64x256_1536_0
    · exact val_ld arg11 _ 1024 1408 (by decide) (by decide) (by decide) arg2 harg2 x0 _ x3 (whole_ld rfl arg5 harg5 x3 _ (by decide) _) _ _ (prod_253 _ _) _ _
  rcases hp with rfl | hp
  · sl_unfold_words
    refine (congrFun (pay_B_21 _ _ _ _ _ _) j).trans ?_
    refine row_piece xs1 x4 x5 (valU x0 x3) 1344 (by decide) (by decide) _ _ _ _ _ _ ?_ ?_ ?_ ?_ ?_ ?_ inb_S1x2048x256_S1x64x256_0_1344_0 j
    · exact whole_ld rfl arg6 harg6 x4 _ (by decide) _
    · exact whole_ld rfl arg7 harg7 x5 _ (by decide) _
    · exact gate_ld arg10 harg10 xs1 1344 _ (by decide) rfl inb_S2176x256_S64x256_1344_0
    · exact gate_ld arg10 harg10 xs1 1408 _ (by decide) rfl inb_S2176x256_S64x256_1408_0
    · exact gate_ld arg10 harg10 xs1 1472 _ (by decide) rfl inb_S2176x256_S64x256_1472_0
    · exact val_ld arg11 _ 1024 1344 (by decide) (by decide) (by decide) arg2 harg2 x0 _ x3 (whole_ld rfl arg5 harg5 x3 _ (by decide) _) _ _ (prod_253 _ _) _ _
  rcases hp with rfl | hp
  · sl_unfold_words
    refine (congrFun (pay_B_20 _ _ _ _ _ _) j).trans ?_
    refine row_piece xs1 x4 x5 (valU x0 x3) 1280 (by decide) (by decide) _ _ _ _ _ _ ?_ ?_ ?_ ?_ ?_ ?_ inb_S1x2048x256_S1x64x256_0_1280_0 j
    · exact whole_ld rfl arg6 harg6 x4 _ (by decide) _
    · exact whole_ld rfl arg7 harg7 x5 _ (by decide) _
    · exact gate_ld arg10 harg10 xs1 1280 _ (by decide) rfl inb_S2176x256_S64x256_1280_0
    · exact gate_ld arg10 harg10 xs1 1344 _ (by decide) rfl inb_S2176x256_S64x256_1344_0
    · exact gate_ld arg10 harg10 xs1 1408 _ (by decide) rfl inb_S2176x256_S64x256_1408_0
    · exact val_ld arg11 _ 1024 1280 (by decide) (by decide) (by decide) arg2 harg2 x0 _ x3 (whole_ld rfl arg5 harg5 x3 _ (by decide) _) _ _ (prod_253 _ _) _ _
  rcases hp with rfl | hp
  · sl_unfold_words
    refine (congrFun (pay_B_19 _ _ _ _ _ _) j).trans ?_
    refine row_piece xs1 x4 x5 (valU x0 x3) 1216 (by decide) (by decide) _ _ _ _ _ _ ?_ ?_ ?_ ?_ ?_ ?_ inb_S1x2048x256_S1x64x256_0_1216_0 j
    · exact whole_ld rfl arg6 harg6 x4 _ (by decide) _
    · exact whole_ld rfl arg7 harg7 x5 _ (by decide) _
    · exact gate_ld arg10 harg10 xs1 1216 _ (by decide) rfl inb_S2176x256_S64x256_1216_0
    · exact gate_ld arg10 harg10 xs1 1280 _ (by decide) rfl inb_S2176x256_S64x256_1280_0
    · exact gate_ld arg10 harg10 xs1 1344 _ (by decide) rfl inb_S2176x256_S64x256_1344_0
    · exact val_ld arg11 _ 1024 1216 (by decide) (by decide) (by decide) arg2 harg2 x0 _ x3 (whole_ld rfl arg5 harg5 x3 _ (by decide) _) _ _ (prod_253 _ _) _ _
  rcases hp with rfl | hp
  · sl_unfold_words
    refine (congrFun (pay_B_18 _ _ _ _ _ _) j).trans ?_
    refine row_piece xs1 x4 x5 (valU x0 x3) 1152 (by decide) (by decide) _ _ _ _ _ _ ?_ ?_ ?_ ?_ ?_ ?_ inb_S1x2048x256_S1x64x256_0_1152_0 j
    · exact whole_ld rfl arg6 harg6 x4 _ (by decide) _
    · exact whole_ld rfl arg7 harg7 x5 _ (by decide) _
    · exact gate_ld arg10 harg10 xs1 1152 _ (by decide) rfl inb_S2176x256_S64x256_1152_0
    · exact gate_ld arg10 harg10 xs1 1216 _ (by decide) rfl inb_S2176x256_S64x256_1216_0
    · exact gate_ld arg10 harg10 xs1 1280 _ (by decide) rfl inb_S2176x256_S64x256_1280_0
    · exact val_ld arg11 _ 1024 1152 (by decide) (by decide) (by decide) arg2 harg2 x0 _ x3 (whole_ld rfl arg5 harg5 x3 _ (by decide) _) _ _ (prod_253 _ _) _ _
  rcases hp with rfl | hp
  · sl_unfold_words
    refine (congrFun (pay_B_17 _ _ _ _ _ _) j).trans ?_
    refine row_piece xs1 x4 x5 (valU x0 x3) 1088 (by decide) (by decide) _ _ _ _ _ _ ?_ ?_ ?_ ?_ ?_ ?_ inb_S1x2048x256_S1x64x256_0_1088_0 j
    · exact whole_ld rfl arg6 harg6 x4 _ (by decide) _
    · exact whole_ld rfl arg7 harg7 x5 _ (by decide) _
    · exact gate_ld arg10 harg10 xs1 1088 _ (by decide) rfl inb_S2176x256_S64x256_1088_0
    · exact gate_ld arg10 harg10 xs1 1152 _ (by decide) rfl inb_S2176x256_S64x256_1152_0
    · exact gate_ld arg10 harg10 xs1 1216 _ (by decide) rfl inb_S2176x256_S64x256_1216_0
    · exact val_ld arg11 _ 1024 1088 (by decide) (by decide) (by decide) arg2 harg2 x0 _ x3 (whole_ld rfl arg5 harg5 x3 _ (by decide) _) _ _ (prod_253 _ _) _ _
  rcases hp with rfl | hp
  · sl_unfold_words
    refine (congrFun (pay_B_16 _ _ _ _ _ _) j).trans ?_
    refine row_piece xs1 x4 x5 (valU x0 x3) 1024 (by decide) (by decide) _ _ _ _ _ _ ?_ ?_ ?_ ?_ ?_ ?_ inb_S1x2048x256_S1x64x256_0_1024_0 j
    · exact whole_ld rfl arg6 harg6 x4 _ (by decide) _
    · exact whole_ld rfl arg7 harg7 x5 _ (by decide) _
    · exact gate_ld arg10 harg10 xs1 1024 _ (by decide) rfl inb_S2176x256_S64x256_1024_0
    · exact gate_ld arg10 harg10 xs1 1088 _ (by decide) rfl inb_S2176x256_S64x256_1088_0
    · exact gate_ld arg10 harg10 xs1 1152 _ (by decide) rfl inb_S2176x256_S64x256_1152_0
    · exact val_ld arg11 _ 1024 1024 (by decide) (by decide) (by decide) arg2 harg2 x0 _ x3 (whole_ld rfl arg5 harg5 x3 _ (by decide) _) _ _ (prod_253 _ _) _ _
  rcases hp with rfl | hp
  · sl_unfold_words
    refine (congrFun (pay_B_15 _ _ _ _ _ _) j).trans ?_
    refine row_piece xs1 x4 x5 (valU x0 x3) 960 (by decide) (by decide) _ _ _ _ _ _ ?_ ?_ ?_ ?_ ?_ ?_ inb_S1x2048x256_S1x64x256_0_960_0 j
    · exact whole_ld rfl arg6 harg6 x4 _ (by decide) _
    · exact whole_ld rfl arg7 harg7 x5 _ (by decide) _
    · exact gate_ld arg10 harg10 xs1 960 _ (by decide) rfl inb_S2176x256_S64x256_960_0
    · exact gate_ld arg10 harg10 xs1 1024 _ (by decide) rfl inb_S2176x256_S64x256_1024_0
    · exact gate_ld arg10 harg10 xs1 1088 _ (by decide) rfl inb_S2176x256_S64x256_1088_0
    · exact val_ld arg11 _ 512 960 (by decide) (by decide) (by decide) arg2 harg2 x0 _ x3 (whole_ld rfl arg5 harg5 x3 _ (by decide) _) _ _ (prod_214 _ _) _ _
  rcases hp with rfl | hp
  · sl_unfold_words
    refine (congrFun (pay_B_14 _ _ _ _ _ _) j).trans ?_
    refine row_piece xs1 x4 x5 (valU x0 x3) 896 (by decide) (by decide) _ _ _ _ _ _ ?_ ?_ ?_ ?_ ?_ ?_ inb_S1x2048x256_S1x64x256_0_896_0 j
    · exact whole_ld rfl arg6 harg6 x4 _ (by decide) _
    · exact whole_ld rfl arg7 harg7 x5 _ (by decide) _
    · exact gate_ld arg10 harg10 xs1 896 _ (by decide) rfl inb_S2176x256_S64x256_896_0
    · exact gate_ld arg10 harg10 xs1 960 _ (by decide) rfl inb_S2176x256_S64x256_960_0
    · exact gate_ld arg10 harg10 xs1 1024 _ (by decide) rfl inb_S2176x256_S64x256_1024_0
    · exact val_ld arg11 _ 512 896 (by decide) (by decide) (by decide) arg2 harg2 x0 _ x3 (whole_ld rfl arg5 harg5 x3 _ (by decide) _) _ _ (prod_214 _ _) _ _
  rcases hp with rfl | hp
  · sl_unfold_words
    refine (congrFun (pay_B_13 _ _ _ _ _ _) j).trans ?_
    refine row_piece xs1 x4 x5 (valU x0 x3) 832 (by decide) (by decide) _ _ _ _ _ _ ?_ ?_ ?_ ?_ ?_ ?_ inb_S1x2048x256_S1x64x256_0_832_0 j
    · exact whole_ld rfl arg6 harg6 x4 _ (by decide) _
    · exact whole_ld rfl arg7 harg7 x5 _ (by decide) _
    · exact gate_ld arg10 harg10 xs1 832 _ (by decide) rfl inb_S2176x256_S64x256_832_0
    · exact gate_ld arg10 harg10 xs1 896 _ (by decide) rfl inb_S2176x256_S64x256_896_0
    · exact gate_ld arg10 harg10 xs1 960 _ (by decide) rfl inb_S2176x256_S64x256_960_0
    · exact val_ld arg11 _ 512 832 (by decide) (by decide) (by decide) arg2 harg2 x0 _ x3 (whole_ld rfl arg5 harg5 x3 _ (by decide) _) _ _ (prod_214 _ _) _ _
  rcases hp with rfl | hp
  · sl_unfold_words
    refine (congrFun (pay_B_12 _ _ _ _ _ _) j).trans ?_
    refine row_piece xs1 x4 x5 (valU x0 x3) 768 (by decide) (by decide) _ _ _ _ _ _ ?_ ?_ ?_ ?_ ?_ ?_ inb_S1x2048x256_S1x64x256_0_768_0 j
    · exact whole_ld rfl arg6 harg6 x4 _ (by decide) _
    · exact whole_ld rfl arg7 harg7 x5 _ (by decide) _
    · exact gate_ld arg10 harg10 xs1 768 _ (by decide) rfl inb_S2176x256_S64x256_768_0
    · exact gate_ld arg10 harg10 xs1 832 _ (by decide) rfl inb_S2176x256_S64x256_832_0
    · exact gate_ld arg10 harg10 xs1 896 _ (by decide) rfl inb_S2176x256_S64x256_896_0
    · exact val_ld arg11 _ 512 768 (by decide) (by decide) (by decide) arg2 harg2 x0 _ x3 (whole_ld rfl arg5 harg5 x3 _ (by decide) _) _ _ (prod_214 _ _) _ _
  rcases hp with rfl | hp
  · sl_unfold_words
    refine (congrFun (pay_B_11 _ _ _ _ _ _) j).trans ?_
    refine row_piece xs1 x4 x5 (valU x0 x3) 704 (by decide) (by decide) _ _ _ _ _ _ ?_ ?_ ?_ ?_ ?_ ?_ inb_S1x2048x256_S1x64x256_0_704_0 j
    · exact whole_ld rfl arg6 harg6 x4 _ (by decide) _
    · exact whole_ld rfl arg7 harg7 x5 _ (by decide) _
    · exact gate_ld arg10 harg10 xs1 704 _ (by decide) rfl inb_S2176x256_S64x256_704_0
    · exact gate_ld arg10 harg10 xs1 768 _ (by decide) rfl inb_S2176x256_S64x256_768_0
    · exact gate_ld arg10 harg10 xs1 832 _ (by decide) rfl inb_S2176x256_S64x256_832_0
    · exact val_ld arg11 _ 512 704 (by decide) (by decide) (by decide) arg2 harg2 x0 _ x3 (whole_ld rfl arg5 harg5 x3 _ (by decide) _) _ _ (prod_214 _ _) _ _
  rcases hp with rfl | hp
  · sl_unfold_words
    refine (congrFun (pay_B_10 _ _ _ _ _ _) j).trans ?_
    refine row_piece xs1 x4 x5 (valU x0 x3) 640 (by decide) (by decide) _ _ _ _ _ _ ?_ ?_ ?_ ?_ ?_ ?_ inb_S1x2048x256_S1x64x256_0_640_0 j
    · exact whole_ld rfl arg6 harg6 x4 _ (by decide) _
    · exact whole_ld rfl arg7 harg7 x5 _ (by decide) _
    · exact gate_ld arg10 harg10 xs1 640 _ (by decide) rfl inb_S2176x256_S64x256_640_0
    · exact gate_ld arg10 harg10 xs1 704 _ (by decide) rfl inb_S2176x256_S64x256_704_0
    · exact gate_ld arg10 harg10 xs1 768 _ (by decide) rfl inb_S2176x256_S64x256_768_0
    · exact val_ld arg11 _ 512 640 (by decide) (by decide) (by decide) arg2 harg2 x0 _ x3 (whole_ld rfl arg5 harg5 x3 _ (by decide) _) _ _ (prod_214 _ _) _ _
  rcases hp with rfl | hp
  · sl_unfold_words
    refine (congrFun (pay_B_9 _ _ _ _ _ _) j).trans ?_
    refine row_piece xs1 x4 x5 (valU x0 x3) 576 (by decide) (by decide) _ _ _ _ _ _ ?_ ?_ ?_ ?_ ?_ ?_ inb_S1x2048x256_S1x64x256_0_576_0 j
    · exact whole_ld rfl arg6 harg6 x4 _ (by decide) _
    · exact whole_ld rfl arg7 harg7 x5 _ (by decide) _
    · exact gate_ld arg10 harg10 xs1 576 _ (by decide) rfl inb_S2176x256_S64x256_576_0
    · exact gate_ld arg10 harg10 xs1 640 _ (by decide) rfl inb_S2176x256_S64x256_640_0
    · exact gate_ld arg10 harg10 xs1 704 _ (by decide) rfl inb_S2176x256_S64x256_704_0
    · exact val_ld arg11 _ 512 576 (by decide) (by decide) (by decide) arg2 harg2 x0 _ x3 (whole_ld rfl arg5 harg5 x3 _ (by decide) _) _ _ (prod_214 _ _) _ _
  rcases hp with rfl | hp
  · sl_unfold_words
    refine (congrFun (pay_B_8 _ _ _ _ _ _) j).trans ?_
    refine row_piece xs1 x4 x5 (valU x0 x3) 512 (by decide) (by decide) _ _ _ _ _ _ ?_ ?_ ?_ ?_ ?_ ?_ inb_S1x2048x256_S1x64x256_0_512_0 j
    · exact whole_ld rfl arg6 harg6 x4 _ (by decide) _
    · exact whole_ld rfl arg7 harg7 x5 _ (by decide) _
    · exact gate_ld arg10 harg10 xs1 512 _ (by decide) rfl inb_S2176x256_S64x256_512_0
    · exact gate_ld arg10 harg10 xs1 576 _ (by decide) rfl inb_S2176x256_S64x256_576_0
    · exact gate_ld arg10 harg10 xs1 640 _ (by decide) rfl inb_S2176x256_S64x256_640_0
    · exact val_ld arg11 _ 512 512 (by decide) (by decide) (by decide) arg2 harg2 x0 _ x3 (whole_ld rfl arg5 harg5 x3 _ (by decide) _) _ _ (prod_214 _ _) _ _
  rcases hp with rfl | hp
  · sl_unfold_words
    refine (congrFun (pay_B_7 _ _ _ _ _ _) j).trans ?_
    refine row_piece xs1 x4 x5 (valU x0 x3) 448 (by decide) (by decide) _ _ _ _ _ _ ?_ ?_ ?_ ?_ ?_ ?_ inb_S1x2048x256_S1x64x256_0_448_0 j
    · exact whole_ld rfl arg6 harg6 x4 _ (by decide) _
    · exact whole_ld rfl arg7 harg7 x5 _ (by decide) _
    · exact gate_ld arg10 harg10 xs1 448 _ (by decide) rfl inb_S2176x256_S64x256_448_0
    · exact gate_ld arg10 harg10 xs1 512 _ (by decide) rfl inb_S2176x256_S64x256_512_0
    · exact gate_ld arg10 harg10 xs1 576 _ (by decide) rfl inb_S2176x256_S64x256_576_0
    · exact val_ld arg11 _ 0 448 (by decide) (by decide) (by decide) arg2 harg2 x0 _ x3 (whole_ld rfl arg5 harg5 x3 _ (by decide) _) _ _ (prod_171 _ _) _ _
  rcases hp with rfl | hp
  · sl_unfold_words
    refine (congrFun (pay_B_6 _ _ _ _ _ _) j).trans ?_
    refine row_piece xs1 x4 x5 (valU x0 x3) 384 (by decide) (by decide) _ _ _ _ _ _ ?_ ?_ ?_ ?_ ?_ ?_ inb_S1x2048x256_S1x64x256_0_384_0 j
    · exact whole_ld rfl arg6 harg6 x4 _ (by decide) _
    · exact whole_ld rfl arg7 harg7 x5 _ (by decide) _
    · exact gate_ld arg10 harg10 xs1 384 _ (by decide) rfl inb_S2176x256_S64x256_384_0
    · exact gate_ld arg10 harg10 xs1 448 _ (by decide) rfl inb_S2176x256_S64x256_448_0
    · exact gate_ld arg10 harg10 xs1 512 _ (by decide) rfl inb_S2176x256_S64x256_512_0
    · exact val_ld arg11 _ 0 384 (by decide) (by decide) (by decide) arg2 harg2 x0 _ x3 (whole_ld rfl arg5 harg5 x3 _ (by decide) _) _ _ (prod_171 _ _) _ _
  rcases hp with rfl | hp
  · sl_unfold_words
    refine (congrFun (pay_B_5 _ _ _ _ _ _) j).trans ?_
    refine row_piece xs1 x4 x5 (valU x0 x3) 320 (by decide) (by decide) _ _ _ _ _ _ ?_ ?_ ?_ ?_ ?_ ?_ inb_S1x2048x256_S1x64x256_0_320_0 j
    · exact whole_ld rfl arg6 harg6 x4 _ (by decide) _
    · exact whole_ld rfl arg7 harg7 x5 _ (by decide) _
    · exact gate_ld arg10 harg10 xs1 320 _ (by decide) rfl inb_S2176x256_S64x256_320_0
    · exact gate_ld arg10 harg10 xs1 384 _ (by decide) rfl inb_S2176x256_S64x256_384_0
    · exact gate_ld arg10 harg10 xs1 448 _ (by decide) rfl inb_S2176x256_S64x256_448_0
    · exact val_ld arg11 _ 0 320 (by decide) (by decide) (by decide) arg2 harg2 x0 _ x3 (whole_ld rfl arg5 harg5 x3 _ (by decide) _) _ _ (prod_171 _ _) _ _
  rcases hp with rfl | hp
  · sl_unfold_words
    refine (congrFun (pay_B_4 _ _ _ _ _ _) j).trans ?_
    refine row_piece xs1 x4 x5 (valU x0 x3) 256 (by decide) (by decide) _ _ _ _ _ _ ?_ ?_ ?_ ?_ ?_ ?_ inb_S1x2048x256_S1x64x256_0_256_0 j
    · exact whole_ld rfl arg6 harg6 x4 _ (by decide) _
    · exact whole_ld rfl arg7 harg7 x5 _ (by decide) _
    · exact gate_ld arg10 harg10 xs1 256 _ (by decide) rfl inb_S2176x256_S64x256_256_0
    · exact gate_ld arg10 harg10 xs1 320 _ (by decide) rfl inb_S2176x256_S64x256_320_0
    · exact gate_ld arg10 harg10 xs1 384 _ (by decide) rfl inb_S2176x256_S64x256_384_0
    · exact val_ld arg11 _ 0 256 (by decide) (by decide) (by decide) arg2 harg2 x0 _ x3 (whole_ld rfl arg5 harg5 x3 _ (by decide) _) _ _ (prod_171 _ _) _ _
  rcases hp with rfl | hp
  · sl_unfold_words
    refine (congrFun (pay_B_3 _ _ _ _ _ _) j).trans ?_
    refine row_piece xs1 x4 x5 (valU x0 x3) 192 (by decide) (by decide) _ _ _ _ _ _ ?_ ?_ ?_ ?_ ?_ ?_ inb_S1x2048x256_S1x64x256_0_192_0 j
    · exact whole_ld rfl arg6 harg6 x4 _ (by decide) _
    · exact whole_ld rfl arg7 harg7 x5 _ (by decide) _
    · exact gate_ld arg10 harg10 xs1 192 _ (by decide) rfl inb_S2176x256_S64x256_192_0
    · exact gate_ld arg10 harg10 xs1 256 _ (by decide) rfl inb_S2176x256_S64x256_256_0
    · exact gate_ld arg10 harg10 xs1 320 _ (by decide) rfl inb_S2176x256_S64x256_320_0
    · exact val_ld arg11 _ 0 192 (by decide) (by decide) (by decide) arg2 harg2 x0 _ x3 (whole_ld rfl arg5 harg5 x3 _ (by decide) _) _ _ (prod_171 _ _) _ _
  rcases hp with rfl | hp
  · sl_unfold_words
    refine (congrFun (pay_B_2 _ _ _ _ _ _) j).trans ?_
    refine row_piece xs1 x4 x5 (valU x0 x3) 128 (by decide) (by decide) _ _ _ _ _ _ ?_ ?_ ?_ ?_ ?_ ?_ inb_S1x2048x256_S1x64x256_0_128_0 j
    · exact whole_ld rfl arg6 harg6 x4 _ (by decide) _
    · exact whole_ld rfl arg7 harg7 x5 _ (by decide) _
    · exact gate_ld arg10 harg10 xs1 128 _ (by decide) rfl inb_S2176x256_S64x256_128_0
    · exact gate_ld arg10 harg10 xs1 192 _ (by decide) rfl inb_S2176x256_S64x256_192_0
    · exact gate_ld arg10 harg10 xs1 256 _ (by decide) rfl inb_S2176x256_S64x256_256_0
    · exact val_ld arg11 _ 0 128 (by decide) (by decide) (by decide) arg2 harg2 x0 _ x3 (whole_ld rfl arg5 harg5 x3 _ (by decide) _) _ _ (prod_171 _ _) _ _
  rcases hp with rfl | hp
  · sl_unfold_words
    refine (congrFun (pay_B_1 _ _ _ _ _ _) j).trans ?_
    refine row_piece xs1 x4 x5 (valU x0 x3) 64 (by decide) (by decide) _ _ _ _ _ _ ?_ ?_ ?_ ?_ ?_ ?_ inb_S1x2048x256_S1x64x256_0_64_0 j
    · exact whole_ld rfl arg6 harg6 x4 _ (by decide) _
    · exact whole_ld rfl arg7 harg7 x5 _ (by decide) _
    · exact gate_ld arg10 harg10 xs1 64 _ (by decide) rfl inb_S2176x256_S64x256_64_0
    · exact gate_ld arg10 harg10 xs1 128 _ (by decide) rfl inb_S2176x256_S64x256_128_0
    · exact gate_ld arg10 harg10 xs1 192 _ (by decide) rfl inb_S2176x256_S64x256_192_0
    · exact val_ld arg11 _ 0 64 (by decide) (by decide) (by decide) arg2 harg2 x0 _ x3 (whole_ld rfl arg5 harg5 x3 _ (by decide) _) _ _ (prod_171 _ _) _ _
  rcases hp with rfl
  · sl_unfold_words
    refine (congrFun (pay_B_0 _ _ _ _ _ _) j).trans ?_
    refine row_piece xs1 x4 x5 (valU x0 x3) 0 (by decide) (by decide) _ _ _ _ _ _ ?_ ?_ ?_ ?_ ?_ ?_ inb_S1x2048x256_S1x64x256_0_0_0 j
    · exact whole_ld rfl arg6 harg6 x4 _ (by decide) _
    · exact whole_ld rfl arg7 harg7 x5 _ (by decide) _
    · exact gate_ld arg10 harg10 xs1 0 _ (by decide) rfl inb_S2176x256_S64x256_0_0
    · exact gate_ld arg10 harg10 xs1 64 _ (by decide) rfl inb_S2176x256_S64x256_64_0
    · exact gate_ld arg10 harg10 xs1 128 _ (by decide) rfl inb_S2176x256_S64x256_128_0
    · exact val_ld arg11 _ 0 0 (by decide) (by decide) (by decide) arg2 harg2 x0 _ x3 (whole_ld rfl arg5 harg5 x3 _ (by decide) _) _ _ (prod_171 _ _) _ _

end Cert.FfnActEq

end
-- ==== Proof.FfnActOutC.lean ====
/- A later block at an even position: the gate buffer it refills and the block it writes. -/
module

public import proofs.«01_k».proof.Proof.FfnActPay

@[expose] public section

set_option maxRecDepth 16384

noncomputable section

namespace Cert.FfnActEq

open Idealize.ShloMosaic Idealize.ShloMosaic.TcCoe Idealize.ShloMosaic.Tactic Idealize.SL.Sem
open Cert.FfnActIdeal Cert.FfnActIdeal.Gen Cert.FfnActIdeal.Own

set_option maxHeartbeats 1000000 in
theorem sout0_C_1_eq (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) (xs0 : Vec Ideal S2176x256 .f32) (xs1 : Vec Ideal S2176x256 .f32) (x' : Vec Ideal S1x2048x1024 .bf16) (w' : Vec Ideal S1024x256 .bf16) (hx : xs1 = gateBuf x' w') :
    sout0_C_1 c i arg2 harg2 arg3 harg3 arg4 harg4 arg5 harg5 arg6 harg6 arg7 harg7 arg8 harg8 arg9 harg9 arg10 harg10 arg11 harg11 hc0 hc1 hc2 x0 x1 x2 x3 x4 x5 xs0 xs1 = gateBuf x0 x2 := by
  funext y
  unfold sout0_C_1
  by_cases hy : 64 ≤ (y 0).val ∧ (y 0).val < 2112
  · refine View.read_writes_apply_of_pieces (Val := Elt Ideal) _ _ (gateBuf x0 x2) _ ?_ y ?_
    · unfold kernelRun0_C
      dsimp only
      intro p hp j
      simp only [List.mem_cons, List.mem_nil_iff, or_false] at hp
      sl_unfold_words
      rcases hp with rfl | rfl | rfl | rfl
      · exact gate_piece 1536 1600 rfl arg2 harg2 x0 _ x2 (whole_ld rfl arg4 harg4 x2 _ (by decide) _) _ _ (prod_133 _ _) inb_S2176x256_S512x256_1600_0 j
      · exact gate_piece 1024 1088 rfl arg2 harg2 x0 _ x2 (whole_ld rfl arg4 harg4 x2 _ (by decide) _) _ _ (prod_92 _ _) inb_S2176x256_S512x256_1088_0 j
      · exact gate_piece 512 576 rfl arg2 harg2 x0 _ x2 (whole_ld rfl arg4 harg4 x2 _ (by decide) _) _ _ (prod_54 _ _) inb_S2176x256_S512x256_576_0 j
      · exact gate_piece 0 64 rfl arg2 harg2 x0 _ x2 (whole_ld rfl arg4 harg4 x2 _ (by decide) _) _ _ (prod_11 _ _) inb_S2176x256_S512x256_64_0 j
    · unfold kernelRun0_C
      dsimp only
      sl_unfold_words
      obtain h | h | h | h : (64 ≤ (y 0).val ∧ (y 0).val < 64 + 512) ∨ (576 ≤ (y 0).val ∧ (y 0).val < 576 + 512) ∨ (1088 ≤ (y 0).val ∧ (y 0).val < 1088 + 512)
        ∨ (1600 ≤ (y 0).val ∧ (y 0).val < 1600 + 512) := by omega
      · exact ⟨_, .tail _ (.tail _ (.tail _ (.head _))), mem_rows 64 512 inb_S2176x256_S512x256_64_0 y h⟩
      · exact ⟨_, .tail _ (.tail _ (.head _)), mem_rows 576 512 inb_S2176x256_S512x256_576_0 y h⟩
      · exact ⟨_, .tail _ (.head _), mem_rows 1088 512 inb_S2176x256_S512x256_1088_0 y h⟩
      · exact ⟨_, .head _, mem_rows 1600 512 inb_S2176x256_S512x256_1600_0 y h⟩
  · rw [View.read_writes_apply_of_forall_not_mem]
    · rw [harg10.read_unread, hx]
      unfold gateBuf
      rw [dif_neg hy, dif_neg hy]
    · unfold kernelRun0_C
      dsimp only
      intro p hp
      simp only [List.mem_cons, List.mem_nil_iff, or_false] at hp
      sl_unfold_words
      rcases hp with rfl | rfl | rfl | rfl
      · exact not_mem_rows 1600 512 inb_S2176x256_S512x256_1600_0 y (by omega)
      · exact not_mem_rows 1088 512 inb_S2176x256_S512x256_1088_0 y (by omega)
      · exact not_mem_rows 576 512 inb_S2176x256_S512x256_576_0 y (by omega)
      · exact not_mem_rows 64 512 inb_S2176x256_S512x256_64_0 y (by omega)

set_option maxHeartbeats 13200000 in
theorem out_C (c : Dev nD) (i : grid0.Coords) (arg2 : Memref sig .tc .vmem S1x2048x1024 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S9x256 .f32) (harg6 : arg6.IsWhole) (arg7 : Memref sig .tc .vmem S1x256 .f32) (harg7 : arg7.IsWhole) (arg8 : Memref sig .tc .vmem S1x2048x256 .bf16) (harg8 : arg8.IsWhole) (arg9 : Memref sig .tc .vmem S2176x256 .f32) (harg9 : arg9.IsWhole) (arg10 : Memref sig .tc .vmem S2176x256 .f32) (harg10 : arg10.IsWhole) (arg11 : Memref sig .tc .vmem S2048x256 .f32) (harg11 : arg11.IsWhole) (hc0 : ¬cond0_0 i) (hc1 : cond0_1 i) (hc2 : ¬cond0_2 i)
    (x0 : Vec Ideal S1x2048x1024 .bf16) (x1 : Vec Ideal S1024x256 .bf16) (x2 : Vec Ideal S1024x256 .bf16) (x3 : Vec Ideal S1024x256 .bf16) (x4 : Vec Ideal S9x256 .f32) (x5 : Vec Ideal S1x256 .f32) (xs0 : Vec Ideal S2176x256 .f32) (y : S1x2048x256.Idx) :
    out0_C_6 c i arg2 harg2 arg3 harg3 arg4 harg4 arg5 harg5 arg6 harg6 arg7 harg7 arg8 harg8 arg9 harg9 arg10 harg10 arg11 harg11 hc0 hc1 hc2 x0 x1 x2 x3 x4 x5 xs0 y = outG xs0 x4 x5 (valU x0 x3) y := by
  unfold out0_C_6
  rw [View.read_writes_eq_canon _ _ _ (fun y => cover0_C_6 (y := y) ..)]
  refine View.canon_apply_of_pieces (Val := Elt Ideal) (e := .bf16) (outG xs0 x4 x5 (valU x0 x3)) _ ?_ y (cover0_C_6 (y := y) ..)
  unfold kernelRun0_C
  dsimp only
  intro p hp j
  simp only [List.mem_cons, List.mem_nil_iff, or_false] at hp
  rcases hp with rfl | hp
  · sl_unfold_words
    refine (congrFun (pay_C_31 _ _ _ _ _ _) j).trans ?_
    refine row_piece xs0 x4 x5 (valU x0 x3) 1984 (by decide) (by decide) _ _ _ _ _ _ ?_ ?_ ?_ ?_ ?_ ?_ inb_S1x2048x256_S1x64x256_0_1984_0 j
    · exact whole_ld rfl arg6 harg6 x4 _ (by decide) _
    · exact whole_ld rfl arg7 harg7 x5 _ (by decide) _
    · exact gate_ld arg9 harg9 xs0 1984 _ (by decide) rfl inb_S2176x256_S64x256_1984_0
    · exact gate_ld arg9 harg9 xs0 2048 _ (by decide) rfl inb_S2176x256_S64x256_2048_0
    · exact gate_ld arg9 harg9 xs0 2112 _ (by decide) rfl inb_S2176x256_S64x256_2112_0
    · exact val_ld arg11 _ 1536 1984 (by decide) (by decide) (by decide) arg2 harg2 x0 _ x3 (whole_ld rfl arg5 harg5 x3 _ (by decide) _) _ _ (prod_134 _ _) _ _
  rcases hp with rfl | hp
  · sl_unfold_words
    refine (congrFun (pay_C_30 _ _ _ _ _ _) j).trans ?_
    refine row_piece xs0 x4 x5 (valU x0 x3) 1920 (by decide) (by decide) _ _ _ _ _ _ ?_ ?_ ?_ ?_ ?_ ?_ inb_S1x2048x256_S1x64x256_0_1920_0 j
    · exact whole_ld rfl arg6 harg6 x4 _ (by decide) _
    · exact whole_ld rfl arg7 harg7 x5 _ (by decide) _
    · exact gate_ld arg9 harg9 xs0 1920 _ (by decide) rfl inb_S2176x256_S64x256_1920_0
    · exact gate_ld arg9 harg9 xs0 1984 _ (by decide) rfl inb_S2176x256_S64x256_1984_0
    · exact gate_ld arg9 harg9 xs0 2048 _ (by decide) rfl inb_S2176x256_S64x256_2048_0
    · exact val_ld arg11 _ 1536 1920 (by decide) (by decide) (by decide) arg2 harg2 x0 _ x3 (whole_ld rfl arg5 harg5 x3 _ (by decide) _) _ _ (prod_134 _ _) _ _
  rcases hp with rfl | hp
  · sl_unfold_words
    refine (congrFun (pay_C_29 _ _ _ _ _ _) j).trans ?_
    refine row_piece xs0 x4 x5 (valU x0 x3) 1856 (by decide) (by decide) _ _ _ _ _ _ ?_ ?_ ?_ ?_ ?_ ?_ inb_S1x2048x256_S1x64x256_0_1856_0 j
    · exact whole_ld rfl arg6 harg6 x4 _ (by decide) _
    · exact whole_ld rfl arg7 harg7 x5 _ (by decide) _
    · exact gate_ld arg9 harg9 xs0 1856 _ (by decide) rfl inb_S2176x256_S64x256_1856_0
    · exact gate_ld arg9 harg9 xs0 1920 _ (by decide) rfl inb_S2176x256_S64x256_1920_0
    · exact gate_ld arg9 harg9 xs0 1984 _ (by decide) rfl inb_S2176x256_S64x256_1984_0
    · exact val_ld arg11 _ 1536 1856 (by decide) (by decide) (by decide) arg2 harg2 x0 _ x3 (whole_ld rfl arg5 harg5 x3 _ (by decide) _) _ _ (prod_134 _ _) _ _
  rcases hp with rfl | hp
  · sl_unfold_words
    refine (congrFun (pay_C_28 _ _ _ _ _ _) j).trans ?_
    refine row_piece xs0 x4 x5 (valU x0 x3) 1792 (by decide) (by decide) _ _ _ _ _ _ ?_ ?_ ?_ ?_ ?_ ?_ inb_S1x2048x256_S1x64x256_0_1792_0 j
    · exact whole_ld rfl arg6 harg6 x4 _ (by decide) _
    · exact whole_ld rfl arg7 harg7 x5 _ (by decide) _
    · exact gate_ld arg9 harg9 xs0 1792 _ (by decide) rfl inb_S2176x256_S64x256_1792_0
    · exact gate_ld arg9 harg9 xs0 1856 _ (by decide) rfl inb_S2176x256_S64x256_1856_0
    · exact gate_ld arg9 harg9 xs0 1920 _ (by decide) rfl inb_S2176x256_S64x256_1920_0
    · exact val_ld arg11 _ 1536 1792 (by decide) (by decide) (by decide) arg2 harg2 x0 _ x3 (whole_ld rfl arg5 harg5 x3 _ (by decide) _) _ _ (prod_134 _ _) _ _
  rcases hp with rfl | hp
  · sl_unfold_words
    refine (congrFun (pay_C_27 _ _ _ _ _ _) j).trans ?_
    refine row_piece xs0 x4 x5 (valU x0 x3) 1728 (by decide) (by decide) _ _ _ _ _ _ ?_ ?_ ?_ ?_ ?_ ?_ inb_S1x2048x256_S1x64x256_0_1728_0 j
    · exact whole_ld rfl arg6 harg6 x4 _ (by decide) _
    · exact whole_ld rfl arg7 harg7 x5 _ (by decide) _
    · exact gate_ld arg9 harg9 xs0 1728 _ (by decide) rfl inb_S2176x256_S64x256_1728_0
    · exact gate_ld arg9 harg9 xs0 1792 _ (by decide) rfl inb_S2176x256_S64x256_1792_0
    · exact gate_ld arg9 harg9 xs0 1856 _ (by decide) rfl inb_S2176x256_S64x256_1856_0
    · exact val_ld arg11 _ 1536 1728 (by decide) (by decide) (by decide) arg2 harg2 x0 _ x3 (whole_ld rfl arg5 harg5 x3 _ (by decide) _) _ _ (prod_134 _ _) _ _
  rcases hp with rfl | hp
  · sl_unfold_words
    refine (congrFun (pay_C_26 _ _ _ _ _ _) j).trans ?_
    refine row_piece xs0 x4 x5 (valU x0 x3) 1664 (by decide) (by decide) _ _ _ _ _ _ ?_ ?_ ?_ ?_ ?_ ?_ inb_S1x2048x256_S1x64x256_0_1664_0 j
    · exact whole_ld rfl arg6 harg6 x4 _ (by decide) _
    · exact whole_ld rfl arg7 harg7 x5 _ (by decide) _
    · exact gate_ld arg9 harg9 xs0 1664 _ (by decide) rfl inb_S2176x256_S64x256_1664_0
    · exact gate_ld arg9 harg9 xs0 1728 _ (by decide) rfl inb_S2176x256_S64x256_1728_0
    · exact gate_ld arg9 harg9 xs0 1792 _ (by decide) rfl inb_S2176x256_S64x256_1792_0
    · exact val_ld arg11 _ 1536 1664 (by decide) (by decide) (by decide) arg2 harg2 x0 _ x3 (whole_ld rfl arg5 harg5 x3 _ (by decide) _) _ _ (prod_134 _ _) _ _
  rcases hp with rfl | hp
  · sl_unfold_words
    refine (congrFun (pay_C_25 _ _ _ _ _ _) j).trans ?_
    refine row_piece xs0 x4 x5 (valU x0 x3) 1600 (by decide) (by decide) _ _ _ _ _ _ ?_ ?_ ?_ ?_ ?_ ?_ inb_S1x2048x256_S1x64x256_0_1600_0 j
    · exact whole_ld rfl arg6 harg6 x4 _ (by decide) _
    · exact whole_ld rfl arg7 harg7 x5 _ (by decide) _
    · exact gate_ld arg9 harg9 xs0 1600 _ (by decide) rfl inb_S2176x256_S64x256_1600_0
    · exact gate_ld arg9 harg9 xs0 1664 _ (by decide) rfl inb_S2176x256_S64x256_1664_0
    · exact gate_ld arg9 harg9 xs0 1728 _ (by decide) rfl inb_S2176x256_S64x256_1728_0
    · exact val_ld arg11 _ 1536 1600 (by decide) (by decide) (by decide) arg2 harg2 x0 _ x3 (whole_ld rfl arg5 harg5 x3 _ (by decide) _) _ _ (prod_134 _ _) _ _
  rcases hp with rfl | hp
  · sl_unfold_words
    refine (congrFun (pay_C_24 _ _ _ _ _ _) j).trans ?_
    refine row_piece xs0 x4 x5 (valU x0 x3) 1536 (by decide) (by decide) _ _ _ _ _ _ ?_ ?_ ?_ ?_ ?_ ?_ inb_S1x2048x256_S1x64x256_0_1536_0 j
    · exact whole_ld rfl arg6 harg6 x4 _ (by decide) _
    · exact whole_ld rfl arg7 harg7 x5 _ (by decide) _
    · exact gate_ld arg9 harg9 xs0 1536 _ (by decide) rfl inb_S2176x256_S64x256_1536_0
    · exact gate_ld arg9 harg9 xs0 1600 _ (by decide) rfl inb_S2176x256_S64x256_1600_0
    · exact gate_ld arg9 harg9 xs0 1664 _ (by decide) rfl inb_S2176x256_S64x256_1664_0
    · exact val_ld arg11 _ 1536 1536 (by decide) (by decide) (by decide) arg2 harg2 x0 _ x3 (whole_ld rfl arg5 harg5 x3 _ (by decide) _) _ _ (prod_134 _ _) _ _
  rcases hp with rfl | hp
  · sl_unfold_words
    refine (congrFun (pay_C_23 _ _ _ _ _ _) j).trans ?_
    refine row_piece xs0 x4 x5 (valU x0 x3) 1472 (by decide) (by decide) _ _ _ _ _ _ ?_ ?_ ?_ ?_ ?_ ?_ inb_S1x2048x256_S1x64x256_0_1472_0 j
    · exact whole_ld rfl arg6 harg6 x4 _ (by decide) _
    · exact whole_ld rfl arg7 harg7 x5 _ (by decide) _
    · exact gate_ld arg9 harg9 xs0 1472 _ (by decide) rfl inb_S2176x256_S64x256_1472_0
    · exact gate_ld arg9 harg9 xs0 1536 _ (by decide) rfl inb_S2176x256_S64x256_1536_0
    · exact gate_ld arg9 harg9 xs0 1600 _ (by decide) rfl inb_S2176x256_S64x256_1600_0
    · exact val_ld arg11 _ 1024 1472 (by decide) (by decide) (by decide) arg2 harg2 x0 _ x3 (whole_ld rfl arg5 harg5 x3 _ (by decide) _) _ _ (prod_94 _ _) _ _
  rcases hp with rfl | hp
  · sl_unfold_words
    refine (congrFun (pay_C_22 _ _ _ _ _ _) j).trans ?_
    refine row_piece xs0 x4 x5 (valU x0 x3) 1408 (by decide) (by decide) _ _ _ _ _ _ ?_ ?_ ?_ ?_ ?_ ?_ inb_S1x2048x256_S1x64x256_0_1408_0 j
    · exact whole_ld rfl arg6 harg6 x4 _ (by decide) _
    · exact whole_ld rfl arg7 harg7 x5 _ (by decide) _
    · exact gate_ld arg9 harg9 xs0 1408 _ (by decide) rfl inb_S2176x256_S64x256_1408_0
    · exact gate_ld arg9 harg9 xs0 1472 _ (by decide) rfl inb_S2176x256_S64x256_1472_0
    · exact gate_ld arg9 harg9 xs0 1536 _ (by decide) rfl inb_S2176x256_S64x256_1536_0
    · exact val_ld arg11 _ 1024 1408 (by decide) (by decide) (by decide) arg2 harg2 x0 _ x3 (whole_ld rfl arg5 harg5 x3 _ (by decide) _) _ _ (prod_94 _ _) _ _
  rcases hp with rfl | hp
  · sl_unfold_words
    refine (congrFun (pay_C_21 _ _ _ _ _ _) j).trans ?_
    refine row_piece xs0 x4 x5 (valU x0 x3) 1344 (by decide) (by decide) _ _ _ _ _ _ ?_ ?_ ?_ ?_ ?_ ?_ inb_S1x2048x256_S1x64x256_0_1344_0 j
    · exact whole_ld rfl arg6 harg6 x4 _ (by decide) _
    · exact whole_ld rfl arg7 harg7 x5 _ (by decide) _
    · exact gate_ld arg9 harg9 xs0 1344 _ (by decide) rfl inb_S2176x256_S64x256_1344_0
    · exact gate_ld arg9 harg9 xs0 1408 _ (by decide) rfl inb_S2176x256_S64x256_1408_0
    · exact gate_ld arg9 harg9 xs0 1472 _ (by decide) rfl inb_S2176x256_S64x256_1472_0
    · exact val_ld arg11 _ 1024 1344 (by decide) (by decide) (by decide) arg2 harg2 x0 _ x3 (whole_ld rfl arg5 harg5 x3 _ (by decide) _) _ _ (prod_94 _ _) _ _
  rcases hp with rfl | hp
  · sl_unfold_words
    refine (congrFun (pay_C_20 _ _ _ _ _ _) j).trans ?_
    refine row_piece xs0 x4 x5 (valU x0 x3) 1280 (by decide) (by decide) _ _ _ _ _ _ ?_ ?_ ?_ ?_ ?_ ?_ inb_S1x2048x256_S1x64x256_0_1280_0 j
    · exact whole_ld rfl arg6 harg6 x4 _ (by decide) _
    · exact whole_ld rfl arg7 harg7 x5 _ (by decide) _
    · exact gate_ld arg9 harg9 xs0 1280 _ (by decide) rfl inb_S2176x256_S64x256_1280_0
    · exact gate_ld arg9 harg9 xs0 1344 _ (by decide) rfl inb_S2176x256_S64x256_1344_0
    · exact gate_ld arg9 harg9 xs0 1408 _ (by decide) rfl inb_S2176x256_S64x256_1408_0
    · exact val_ld arg11 _ 1024 1280 (by decide) (by decide) (by decide) arg2 harg2 x0 _ x3 (whole_ld rfl arg5 harg5 x3 _ (by decide) _) _ _ (prod_94 _ _) _ _
  rcases hp with rfl | hp
  · sl_unfold_words
    refine (congrFun (pay_C_19 _ _ _ _ _ _) j).trans ?_
    refine row_piece xs0 x4 x5 (valU x0 x3) 1216 (by decide) (by decide) _ _ _ _ _ _ ?_ ?_ ?_ ?_ ?_ ?_ inb_S1x2048x256_S1x64x256_0_1216_0 j
    · exact whole_ld rfl arg6 harg6 x4 _ (by decide) _
    · exact whole_ld rfl arg7 harg7 x5 _ (by decide) _
    · exact gate_ld arg9 harg9 xs0 1216 _ (by decide) rfl inb_S2176x256_S64x256_1216_0
    · exact gate_ld arg9 harg9 xs0 1280 _ (by decide) rfl inb_S2176x256_S64x256_1280_0
    · exact gate_ld arg9 harg9 xs0 1344 _ (by decide) rfl inb_S2176x256_S64x256_1344_0
    · exact val_ld arg11 _ 1024 1216 (by decide) (by decide) (by decide) arg2 harg2 x0 _ x3 (whole_ld rfl arg5 harg5 x3 _ (by decide) _) _ _ (prod_94 _ _) _ _
  rcases hp with rfl | hp
  · sl_unfold_words
    refine (congrFun (pay_C_18 _ _ _ _ _ _) j).trans ?_
    refine row_piece xs0 x4 x5 (valU x0 x3) 1152 (by decide) (by decide) _ _ _ _ _ _ ?_ ?_ ?_ ?_ ?_ ?_ inb_S1x2048x256_S1x64x256_0_1152_0 j
    · exact whole_ld rfl arg6 harg6 x4 _ (by decide) _
    · exact whole_ld rfl arg7 harg7 x5 _ (by decide) _
    · exact gate_ld arg9 harg9 xs0 1152 _ (by decide) rfl inb_S2176x256_S64x256_1152_0
    · exact gate_ld arg9 harg9 xs0 1216 _ (by decide) rfl inb_S2176x256_S64x256_1216_0
    · exact gate_ld arg9 harg9 xs0 1280 _ (by decide) rfl inb_S2176x256_S64x256_1280_0
    · exact val_ld arg11 _ 1024 1152 (by decide) (by decide) (by decide) arg2 harg2 x0 _ x3 (whole_ld rfl arg5 harg5 x3 _ (by decide) _) _ _ (prod_94 _ _) _ _
  rcases hp with rfl | hp
  · sl_unfold_words
    refine (congrFun (pay_C_17 _ _ _ _ _ _) j).trans ?_
    refine row_piece xs0 x4 x5 (valU x0 x3) 1088 (by decide) (by decide) _ _ _ _ _ _ ?_ ?_ ?_ ?_ ?_ ?_ inb_S1x2048x256_S1x64x256_0_1088_0 j
    · exact whole_ld rfl arg6 harg6 x4 _ (by decide) _
    · exact whole_ld rfl arg7 harg7 x5 _ (by decide) _
    · exact gate_ld arg9 harg9 xs0 1088 _ (by decide) rfl inb_S2176x256_S64x256_1088_0
    · exact gate_ld arg9 harg9 xs0 1152 _ (by decide) rfl inb_S2176x256_S64x256_1152_0
    · exact gate_ld arg9 harg9 xs0 1216 _ (by decide) rfl inb_S2176x256_S64x256_1216_0
    · exact val_ld arg11 _ 1024 1088 (by decide) (by decide) (by decide) arg2 harg2 x0 _ x3 (whole_ld rfl arg5 harg5 x3 _ (by decide) _) _ _ (prod_94 _ _) _ _
  rcases hp with rfl | hp
  · sl_unfold_words
    refine (congrFun (pay_C_16 _ _ _ _ _ _) j).trans ?_
    refine row_piece xs0 x4 x5 (valU x0 x3) 1024 (by decide) (by decide) _ _ _ _ _ _ ?_ ?_ ?_ ?_ ?_ ?_ inb_S1x2048x256_S1x64x256_0_1024_0 j
    · exact whole_ld rfl arg6 harg6 x4 _ (by decide) _
    · exact whole_ld rfl arg7 harg7 x5 _ (by decide) _
    · exact gate_ld arg9 harg9 xs0 1024 _ (by decide) rfl inb_S2176x256_S64x256_1024_0
    · exact gate_ld arg9 harg9 xs0 1088 _ (by decide) rfl inb_S2176x256_S64x256_1088_0
    · exact gate_ld arg9 harg9 xs0 1152 _ (by decide) rfl inb_S2176x256_S64x256_1152_0
    · exact val_ld arg11 _ 1024 1024 (by decide) (by decide) (by decide) arg2 harg2 x0 _ x3 (whole_ld rfl arg5 harg5 x3 _ (by decide) _) _ _ (prod_94 _ _) _ _
  rcases hp with rfl | hp
  · sl_unfold_words
    refine (congrFun (pay_C_15 _ _ _ _ _ _) j).trans ?_
    refine row_piece xs0 x4 x5 (valU x0 x3) 960 (by decide) (by decide) _ _ _ _ _ _ ?_ ?_ ?_ ?_ ?_ ?_ inb_S1x2048x256_S1x64x256_0_960_0 j
    · exact whole_ld rfl arg6 harg6 x4 _ (by decide) _
    · exact whole_ld rfl arg7 harg7 x5 _ (by decide) _
    · exact gate_ld arg9 harg9 xs0 960 _ (by decide) rfl inb_S2176x256_S64x256_960_0
    · exact gate_ld arg9 harg9 xs0 1024 _ (by decide) rfl inb_S2176x256_S64x256_1024_0
    · exact gate_ld arg9 harg9 xs0 1088 _ (by decide) rfl inb_S2176x256_S64x256_1088_0
    · exact val_ld arg11 _ 512 960 (by decide) (by decide) (by decide) arg2 harg2 x0 _ x3 (whole_ld rfl arg5 harg5 x3 _ (by decide) _) _ _ (prod_55 _ _) _ _
  rcases hp with rfl | hp
  · sl_unfold_words
    refine (congrFun (pay_C_14 _ _ _ _ _ _) j).trans ?_
    refine row_piece xs0 x4 x5 (valU x0 x3) 896 (by decide) (by decide) _ _ _ _ _ _ ?_ ?_ ?_ ?_ ?_ ?_ inb_S1x2048x256_S1x64x256_0_896_0 j
    · exact whole_ld rfl arg6 harg6 x4 _ (by decide) _
    · exact whole_ld rfl arg7 harg7 x5 _ (by decide) _
    · exact gate_ld arg9 harg9 xs0 896 _ (by decide) rfl inb_S2176x256_S64x256_896_0
    · exact gate_ld arg9 harg9 xs0 960 _ (by decide) rfl inb_S2176x256_S64x256_960_0
    · exact gate_ld arg9 harg9 xs0 1024 _ (by decide) rfl inb_S2176x256_S64x256_1024_0
    · exact val_ld arg11 _ 512 896 (by decide) (by decide) (by decide) arg2 harg2 x0 _ x3 (whole_ld rfl arg5 harg5 x3 _ (by decide) _) _ _ (prod_55 _ _) _ _
  rcases hp with rfl | hp
  · sl_unfold_words
    refine (congrFun (pay_C_13 _ _ _ _ _ _) j).trans ?_
    refine row_piece xs0 x4 x5 (valU x0 x3) 832 (by decide) (by decide) _ _ _ _ _ _ ?_ ?_ ?_ ?_ ?_ ?_ inb_S1x2048x256_S1x64x256_0_832_0 j
    · exact whole_ld rfl arg6 harg6 x4 _ (by decide) _
    · exact whole_ld rfl arg7 harg7 x5 _ (by decide) _
    · exact gate_ld arg9 harg9 xs0 832 _ (by decide) rfl inb_S2176x256_S64x256_832_0
    · exact gate_ld arg9 harg9 xs0 896 _ (by decide) rfl inb_S2176x256_S64x256_896_0
    · exact gate_ld arg9 harg9 xs0 960 _ (by decide) rfl inb_S2176x256_S64x256_960_0
    · exact val_ld arg11 _ 512 832 (by decide) (by decide) (by decide) arg2 harg2 x0 _ x3 (whole_ld rfl arg5 harg5 x3 _ (by decide) _) _ _ (prod_55 _ _) _ _
  rcases hp with rfl | hp
  · sl_unfold_words
    refine (congrFun (pay_C_12 _ _ _ _ _ _) j).trans ?_
    refine row_piece xs0 x4 x5 (valU x0 x3) 768 (by decide) (by decide) _ _ _ _ _ _ ?_ ?_ ?_ ?_ ?_ ?_ inb_S1x2048x256_S1x64x256_0_768_0 j
    · exact whole_ld rfl arg6 harg6 x4 _ (by decide) _
    · exact whole_ld rfl arg7 harg7 x5 _ (by decide) _
    · exact gate_ld arg9 harg9 xs0 768 _ (by decide) rfl inb_S2176x256_S64x256_768_0
    · exact gate_ld arg9 harg9 xs0 832 _ (by decide) rfl inb_S2176x256_S64x256_832_0
    · exact gate_ld arg9 harg9 xs0 896 _ (by decide) rfl inb_S2176x256_S64x256_896_0
    · exact val_ld arg11 _ 512 768 (by decide) (by decide) (by decide) arg2 harg2 x0 _ x3 (whole_ld rfl arg5 harg5 x3 _ (by decide) _) _ _ (prod_55 _ _) _ _
  rcases hp with rfl | hp
  · sl_unfold_words
    refine (congrFun (pay_C_11 _ _ _ _ _ _) j).trans ?_
    refine row_piece xs0 x4 x5 (valU x0 x3) 704 (by decide) (by decide) _ _ _ _ _ _ ?_ ?_ ?_ ?_ ?_ ?_ inb_S1x2048x256_S1x64x256_0_704_0 j
    · exact whole_ld rfl arg6 harg6 x4 _ (by decide) _
    · exact whole_ld rfl arg7 harg7 x5 _ (by decide) _
    · exact gate_ld arg9 harg9 xs0 704 _ (by decide) rfl inb_S2176x256_S64x256_704_0
    · exact gate_ld arg9 harg9 xs0 768 _ (by decide) rfl inb_S2176x256_S64x256_768_0
    · exact gate_ld arg9 harg9 xs0 832 _ (by decide) rfl inb_S2176x256_S64x256_832_0
    · exact val_ld arg11 _ 512 704 (by decide) (by decide) (by decide) arg2 harg2 x0 _ x3 (whole_ld rfl arg5 harg5 x3 _ (by decide) _) _ _ (prod_55 _ _) _ _
  rcases hp with rfl | hp
  · sl_unfold_words
    refine (congrFun (pay_C_10 _ _ _ _ _ _) j).trans ?_
    refine row_piece xs0 x4 x5 (valU x0 x3) 640 (by decide) (by decide) _ _ _ _ _ _ ?_ ?_ ?_ ?_ ?_ ?_ inb_S1x2048x256_S1x64x256_0_640_0 j
    · exact whole_ld rfl arg6 harg6 x4 _ (by decide) _
    · exact whole_ld rfl arg7 harg7 x5 _ (by decide) _
    · exact gate_ld arg9 harg9 xs0 640 _ (by decide) rfl inb_S2176x256_S64x256_640_0
    · exact gate_ld arg9 harg9 xs0 704 _ (by decide) rfl inb_S2176x256_S64x256_704_0
    · exact gate_ld arg9 harg9 xs0 768 _ (by decide) rfl inb_S2176x256_S64x256_768_0
    · exact val_ld arg11 _ 512 640 (by decide) (by decide) (by decide) arg2 harg2 x0 _ x3 (whole_ld rfl arg5 harg5 x3 _ (by decide) _) _ _ (prod_55 _ _) _ _
  rcases hp with rfl | hp
  · sl_unfold_words
    refine (congrFun (pay_C_9 _ _ _ _ _ _) j).trans ?_
    refine row_piece xs0 x4 x5 (valU x0 x3) 576 (by decide) (by decide) _ _ _ _ _ _ ?_ ?_ ?_ ?_ ?_ ?_ inb_S1x2048x256_S1x64x256_0_576_0 j
    · exact whole_ld rfl arg6 harg6 x4 _ (by decide) _
    · exact whole_ld rfl arg7 harg7 x5 _ (by decide) _
    · exact gate_ld arg9 harg9 xs0 576 _ (by decide) rfl inb_S2176x256_S64x256_576_0
    · exact gate_ld arg9 harg9 xs0 640 _ (by decide) rfl inb_S2176x256_S64x256_640_0
    · exact gate_ld arg9 harg9 xs0 704 _ (by decide) rfl inb_S2176x256_S64x256_704_0
    · exact val_ld arg11 _ 512 576 (by decide) (by decide) (by decide) arg2 harg2 x0 _ x3 (whole_ld rfl arg5 harg5 x3 _ (by decide) _) _ _ (prod_55 _ _) _ _
  rcases hp with rfl | hp
  · sl_unfold_words
    refine (congrFun (pay_C_8 _ _ _ _ _ _) j).trans ?_
    refine row_piece xs0 x4 x5 (valU x0 x3) 512 (by decide) (by decide) _ _ _ _ _ _ ?_ ?_ ?_ ?_ ?_ ?_ inb_S1x2048x256_S1x64x256_0_512_0 j
    · exact whole_ld rfl arg6 harg6 x4 _ (by decide) _
    · exact whole_ld rfl arg7 harg7 x5 _ (by decide) _
    · exact gate_ld arg9 harg9 xs0 512 _ (by decide) rfl inb_S2176x256_S64x256_512_0
    · exact gate_ld arg9 harg9 xs0 576 _ (by decide) rfl inb_S2176x256_S64x256_576_0
    · exact gate_ld arg9 harg9 xs0 640 _ (by decide) rfl inb_S2176x256_S64x256_640_0
    · exact val_ld arg11 _ 512 512 (by decide) (by decide) (by decide) arg2 harg2 x0 _ x3 (whole_ld rfl arg5 harg5 x3 _ (by decide) _) _ _ (prod_55 _ _) _ _
  rcases hp with rfl | hp
  · sl_unfold_words
    refine (congrFun (pay_C_7 _ _ _ _ _ _) j).trans ?_
    refine row_piece xs0 x4 x5 (valU x0 x3) 448 (by decide) (by decide) _ _ _ _ _ _ ?_ ?_ ?_ ?_ ?_ ?_ inb_S1x2048x256_S1x64x256_0_448_0 j
    · exact whole_ld rfl arg6 harg6 x4 _ (by decide) _
    · exact whole_ld rfl arg7 harg7 x5 _ (by decide) _
    · exact gate_ld arg9 harg9 xs0 448 _ (by decide) rfl inb_S2176x256_S64x256_448_0
    · exact gate_ld arg9 harg9 xs0 512 _ (by decide) rfl inb_S2176x256_S64x256_512_0
    · exact gate_ld arg9 harg9 xs0 576 _ (by decide) rfl inb_S2176x256_S64x256_576_0
    · exact val_ld arg11 _ 0 448 (by decide) (by decide) (by decide) arg2 harg2 x0 _ x3 (whole_ld rfl arg5 harg5 x3 _ (by decide) _) _ _ rfl _ _
  rcases hp with rfl | hp
  · sl_unfold_words
    refine (congrFun (pay_C_6 _ _ _ _ _ _) j).trans ?_
    refine row_piece xs0 x4 x5 (valU x0 x3) 384 (by decide) (by decide) _ _ _ _ _ _ ?_ ?_ ?_ ?_ ?_ ?_ inb_S1x2048x256_S1x64x256_0_384_0 j
    · exact whole_ld rfl arg6 harg6 x4 _ (by decide) _
    · exact whole_ld rfl arg7 harg7 x5 _ (by decide) _
    · exact gate_ld arg9 harg9 xs0 384 _ (by decide) rfl inb_S2176x256_S64x256_384_0
    · exact gate_ld arg9 harg9 xs0 448 _ (by decide) rfl inb_S2176x256_S64x256_448_0
    · exact gate_ld arg9 harg9 xs0 512 _ (by decide) rfl inb_S2176x256_S64x256_512_0
    · exact val_ld arg11 _ 0 384 (by decide) (by decide) (by decide) arg2 harg2 x0 _ x3 (whole_ld rfl arg5 harg5 x3 _ (by decide) _) _ _ rfl _ _
  rcases hp with rfl | hp
  · sl_unfold_words
    refine (congrFun (pay_C_5 _ _ _ _ _ _) j).trans ?_
    refine row_piece xs0 x4 x5 (valU x0 x3) 320 (by decide) (by decide) _ _ _ _ _ _ ?_ ?_ ?_ ?_ ?_ ?_ inb_S1x2048x256_S1x64x256_0_320_0 j
    · exact whole_ld rfl arg6 harg6 x4 _ (by decide) _
    · exact whole_ld rfl arg7 harg7 x5 _ (by decide) _
    · exact gate_ld arg9 harg9 xs0 320 _ (by decide) rfl inb_S2176x256_S64x256_320_0
    · exact gate_ld arg9 harg9 xs0 384 _ (by decide) rfl inb_S2176x256_S64x256_384_0
    · exact gate_ld arg9 harg9 xs0 448 _ (by decide) rfl inb_S2176x256_S64x256_448_0
    · exact val_ld arg11 _ 0 320 (by decide) (by decide) (by decide) arg2 harg2 x0 _ x3 (whole_ld rfl arg5 harg5 x3 _ (by decide) _) _ _ rfl _ _
  rcases hp with rfl | hp
  · sl_unfold_words
    refine (congrFun (pay_C_4 _ _ _ _ _ _) j).trans ?_
    refine row_piece xs0 x4 x5 (valU x0 x3) 256 (by decide) (by decide) _ _ _ _ _ _ ?_ ?_ ?_ ?_ ?_ ?_ inb_S1x2048x256_S1x64x256_0_256_0 j
    · exact whole_ld rfl arg6 harg6 x4 _ (by decide) _
    · exact whole_ld rfl arg7 harg7 x5 _ (by decide) _
    · exact gate_ld arg9 harg9 xs0 256 _ (by decide) rfl inb_S2176x256_S64x256_256_0
    · exact gate_ld arg9 harg9 xs0 320 _ (by decide) rfl inb_S2176x256_S64x256_320_0
    · exact gate_ld arg9 harg9 xs0 384 _ (by decide) rfl inb_S2176x256_S64x256_384_0
    · exact val_ld arg11 _ 0 256 (by decide) (by decide) (by decide) arg2 harg2 x0 _ x3 (whole_ld rfl arg5 harg5 x3 _ (by decide) _) _ _ rfl _ _
  rcases hp with rfl | hp
  · sl_unfold_words
    refine (congrFun (pay_C_3 _ _ _ _ _ _) j).trans ?_
    refine row_piece xs0 x4 x5 (valU x0 x3) 192 (by decide) (by decide) _ _ _ _ _ _ ?_ ?_ ?_ ?_ ?_ ?_ inb_S1x2048x256_S1x64x256_0_192_0 j
    · exact whole_ld rfl arg6 harg6 x4 _ (by decide) _
    · exact whole_ld rfl arg7 harg7 x5 _ (by decide) _
    · exact gate_ld arg9 harg9 xs0 192 _ (by decide) rfl inb_S2176x256_S64x256_192_0
    · exact gate_ld arg9 harg9 xs0 256 _ (by decide) rfl inb_S2176x256_S64x256_256_0
    · exact gate_ld arg9 harg9 xs0 320 _ (by decide) rfl inb_S2176x256_S64x256_320_0
    · exact val_ld arg11 _ 0 192 (by decide) (by decide) (by decide) arg2 harg2 x0 _ x3 (whole_ld rfl arg5 harg5 x3 _ (by decide) _) _ _ rfl _ _
  rcases hp with rfl | hp
  · sl_unfold_words
    refine (congrFun (pay_C_2 _ _ _ _ _ _) j).trans ?_
    refine row_piece xs0 x4 x5 (valU x0 x3) 128 (by decide) (by decide) _ _ _ _ _ _ ?_ ?_ ?_ ?_ ?_ ?_ inb_S1x2048x256_S1x64x256_0_128_0 j
    · exact whole_ld rfl arg6 harg6 x4 _ (by decide) _
    · exact whole_ld rfl arg7 harg7 x5 _ (by decide) _
    · exact gate_ld arg9 harg9 xs0 128 _ (by decide) rfl inb_S2176x256_S64x256_128_0
    · exact gate_ld arg9 harg9 xs0 192 _ (by decide) rfl inb_S2176x256_S64x256_192_0
    · exact gate_ld arg9 harg9 xs0 256 _ (by decide) rfl inb_S2176x256_S64x256_256_0
    · exact val_ld arg11 _ 0 128 (by decide) (by decide) (by decide) arg2 harg2 x0 _ x3 (whole_ld rfl arg5 harg5 x3 _ (by decide) _) _ _ rfl _ _
  rcases hp with rfl | hp
  · sl_unfold_words
    refine (congrFun (pay_C_1 _ _ _ _ _ _) j).trans ?_
    refine row_piece xs0 x4 x5 (valU x0 x3) 64 (by decide) (by decide) _ _ _ _ _ _ ?_ ?_ ?_ ?_ ?_ ?_ inb_S1x2048x256_S1x64x256_0_64_0 j
    · exact whole_ld rfl arg6 harg6 x4 _ (by decide) _
    · exact whole_ld rfl arg7 harg7 x5 _ (by decide) _
    · exact gate_ld arg9 harg9 xs0 64 _ (by decide) rfl inb_S2176x256_S64x256_64_0
    · exact gate_ld arg9 harg9 xs0 128 _ (by decide) rfl inb_S2176x256_S64x256_128_0
    · exact gate_ld arg9 harg9 xs0 192 _ (by decide) rfl inb_S2176x256_S64x256_192_0
    · exact val_ld arg11 _ 0 64 (by decide) (by decide) (by decide) arg2 harg2 x0 _ x3 (whole_ld rfl arg5 harg5 x3 _ (by decide) _) _ _ rfl _ _
  rcases hp with rfl
  · sl_unfold_words
    refine (congrFun (pay_C_0 _ _ _ _ _ _) j).trans ?_
    refine row_piece xs0 x4 x5 (valU x0 x3) 0 (by decide) (by decide) _ _ _ _ _ _ ?_ ?_ ?_ ?_ ?_ ?_ inb_S1x2048x256_S1x64x256_0_0_0 j
    · exact whole_ld rfl arg6 harg6 x4 _ (by decide) _
    · exact whole_ld rfl arg7 harg7 x5 _ (by decide) _
    · exact gate_ld arg9 harg9 xs0 0 _ (by decide) rfl inb_S2176x256_S64x256_0_0
    · exact gate_ld arg9 harg9 xs0 64 _ (by decide) rfl inb_S2176x256_S64x256_64_0
    · exact gate_ld arg9 harg9 xs0 128 _ (by decide) rfl inb_S2176x256_S64x256_128_0
    · exact val_ld arg11 _ 0 0 (by decide) (by decide) (by decide) arg2 harg2 x0 _ x3 (whole_ld rfl arg5 harg5 x3 _ (by decide) _) _ _ rfl _ _

end Cert.FfnActEq

end
-- ==== Proof.FfnActFinal.lean ====
/- The operands of each grid point, what the two gate buffers hold after it, and the block it writes. -/
module

public import proofs.«01_k».proof.Proof.FfnActOutA
public import proofs.«01_k».proof.Proof.FfnActOutB
public import proofs.«01_k».proof.Proof.FfnActOutC
public import Idealize.ShloMosaic.Lib.Pointwise
public import Idealize.ShloMosaic.Lib.StableHlo.ReadAt

@[expose] public section

set_option maxRecDepth 16384

noncomputable section

namespace Cert.FfnActEq

open Idealize.ShloMosaic Idealize.ShloMosaic.TcCoe Idealize.SL.Sem
open Cert.FfnActIdeal Cert.FfnActIdeal.Gen Cert.FfnActIdeal.Own

variable (m : (ℓ : Loc nD τ sig) → Buf (Elt Ideal) ℓ)

theorem grid_size : cfg0.N = 176 := by decide

/-- The batch row of grid point `t`, and channel `d` of its block of 256. -/
def bOf (t : Fin cfg0.N) : Fin 16 := ⟨t.val / 11, by have := t.isLt; have := grid_size; omega⟩
def chOf (t : Fin cfg0.N) (d : Fin 256) : Fin 2816 := ⟨256 * (t.val % 11) + d.val, by have := d.isLt; omega⟩

/-- Batch row `b` of the hidden states, and block `ch` of the gate's columns. -/
def hB (c : Dev nD) (b : Fin 16) : Vec Ideal S1x2048x1024 .bf16 := fun y => m ((c : Thread nD τ).loc main_arg0) (ix3 b (y 1) (y 2) : S16x2048x1024.Idx)
def gW (c : Dev nD) (ch : ℕ) : Vec Ideal S1024x256 .bf16 := fun y =>
  m ((c : Thread nD τ).loc main_arg1) (ix3 0 (y 0) ⟨(2816 + (256 * ch + (y 1).val)) % 5632, Nat.mod_lt _ (by decide)⟩ : S1x1024x5632.Idx)

theorem idx_facts : ∀ t : Fin cfg0.N,
    (win0_0.index t 0 = t.val / 11 ∧ win0_0.index t 1 = 0 ∧ win0_0.index t 2 = 0)
    ∧ (win0_1.index t 0 = 0 ∧ win0_1.index t 1 = 0)
    ∧ (win0_2.index t 0 = 0 ∧ win0_2.index t 1 = min (t.val % 11 + 1) 10)
    ∧ (win0_3.index t 0 = 0 ∧ win0_3.index t 1 = t.val % 11)
    ∧ (win0_4.index t 0 = 0 ∧ win0_4.index t 1 = t.val % 11)
    ∧ (win0_5.index t 0 = 0 ∧ win0_5.index t 1 = t.val % 11)
    ∧ (win0_6.index t 0 = t.val / 11 ∧ win0_6.index t 1 = 0 ∧ win0_6.index t 2 = t.val % 11) :=
  (by decide +kernel : ∀ t : Fin grid0.N, _)

theorem h_blk (c : Dev nD) (t : Fin cfg0.N) : iblk m c 0 t = hB m c (bOf t) := by
  obtain ⟨⟨h0, h1, h2⟩, -⟩ := idx_facts t
  refine funext fun y => ?_
  obtain ⟨u, s, k, rfl⟩ : ∃ (u : Fin 1) (s : Fin 2048) (k : Fin 1024), y = ix3 u s k := ⟨_, _, _, eq_ix3 (y : S1x2048x1024.Idx)⟩
  show V m c main_arg0 ((win0_0.rect t).emb (ix3 u s k : S1x2048x1024.Idx)) = m ((c : Thread nD τ).loc main_arg0) (ix3 (bOf t) s k : S16x2048x1024.Idx)
  rw [V_main_arg0]
  congr 1
  funext a
  apply Fin.ext
  refine (Pipeline.Window.rect_emb_val win0_0 t _ a).trans ?_
  have hu := u.isLt
  match a with
  | ⟨0, _⟩ => show win0_0.index t 0 * 1 + u.val = t.val / 11; omega
  | ⟨1, _⟩ => show win0_0.index t 1 * 2048 + s.val = s.val; omega
  | ⟨2, _⟩ => show win0_0.index t 2 * 1024 + k.val = k.val; omega

theorem gate_entry (c : Dev nD) (k : Fin 1024) (n : Fin 2816) :
    V m c main_v2 (ix2 k n : S1024x2816.Idx) = m ((c : Thread nD τ).loc main_arg1) (ix3 0 k ⟨2816 + n.val, by have := n.isLt; omega⟩ : S1x1024x5632.Idx) := by
  unfold V
  after_reads_at

theorem val_entry (c : Dev nD) (k : Fin 1024) (n : Fin 2816) :
    V m c main_v4 (ix2 k n : S1024x2816.Idx) = m ((c : Thread nD τ).loc main_arg1) (ix3 0 k ⟨n.val, by have := n.isLt; omega⟩ : S1x1024x5632.Idx) := by
  unfold V
  after_reads_at

theorem taps_entry (c : Dev nD) (k : Fin 9) (n : Fin 2816) :
    V m c main_v6 (ix2 k n : S9x2816.Idx)
      = m ((c : Thread nD τ).loc main_arg2) (ix4 0 ⟨k.val / 3, by have := k.isLt; omega⟩ ⟨k.val % 3, Nat.mod_lt _ (by decide)⟩ n : S1x3x3x2816.Idx) := by
  unfold V
  after_reads_at

theorem bias_entry (c : Dev nD) (n : Fin 2816) :
    V m c main_v8 (ix2 0 n : S1x2816.Idx) = m ((c : Thread nD τ).loc main_arg3) (ix2 0 n : S1x2816.Idx) := by
  unfold V
  after_reads_at

theorem gate0_blk (c : Dev nD) (t : Fin cfg0.N) : iblk m c 1 t = gW m c 0 := by
  obtain ⟨_, ⟨h0, h1⟩, -⟩ := idx_facts t
  refine funext fun y => ?_
  obtain ⟨k, d, rfl⟩ : ∃ (k : Fin 1024) (d : Fin 256), y = ix2 k d := ⟨_, _, eq_ix2 (y : S1024x256.Idx)⟩
  have hd := d.isLt
  have ht := t.isLt
  have hN := grid_size
  refine Eq.trans (b := V m c main_v2 (ix2 k ⟨256 * 0 + d.val, by omega⟩ : S1024x2816.Idx)) ?_ ((gate_entry m c k _).trans ?_)
  · show V m c main_v2 ((win0_1.rect t).emb (ix2 k d : S1024x256.Idx)) = _
    congr 1
    funext a
    apply Fin.ext
    refine (Pipeline.Window.rect_emb_val win0_1 t _ a).trans ?_
    match a with
    | ⟨0, _⟩ => show win0_1.index t 0 * 1024 + k.val = k.val; omega
    | ⟨1, _⟩ => show win0_1.index t 1 * 256 + d.val = 256 * 0 + d.val; omega
  · refine congrArg (fun q => m ((c : Thread nD τ).loc main_arg1) (ix3 0 k q : S1x1024x5632.Idx)) (Fin.ext ?_)
    show 2816 + (256 * 0 + d.val) = (2816 + (256 * 0 + d.val)) % 5632
    exact (Nat.mod_eq_of_lt (by omega)).symm

theorem gate1_blk (c : Dev nD) (t : Fin cfg0.N) : iblk m c 2 t = gW m c (min (t.val % 11 + 1) 10) := by
  obtain ⟨_, _, ⟨h0, h1⟩, -⟩ := idx_facts t
  refine funext fun y => ?_
  obtain ⟨k, d, rfl⟩ : ∃ (k : Fin 1024) (d : Fin 256), y = ix2 k d := ⟨_, _, eq_ix2 (y : S1024x256.Idx)⟩
  have hd := d.isLt
  have ht := t.isLt
  have hN := grid_size
  refine Eq.trans (b := V m c main_v2 (ix2 k ⟨256 * (min (t.val % 11 + 1) 10) + d.val, by omega⟩ : S1024x2816.Idx)) ?_ ((gate_entry m c k _).trans ?_)
  · show V m c main_v2 ((win0_2.rect t).emb (ix2 k d : S1024x256.Idx)) = _
    congr 1
    funext a
    apply Fin.ext
    refine (Pipeline.Window.rect_emb_val win0_2 t _ a).trans ?_
    match a with
    | ⟨0, _⟩ => show win0_2.index t 0 * 1024 + k.val = k.val; omega
    | ⟨1, _⟩ => show win0_2.index t 1 * 256 + d.val = 256 * (min (t.val % 11 + 1) 10) + d.val; omega
  · refine congrArg (fun q => m ((c : Thread nD τ).loc main_arg1) (ix3 0 k q : S1x1024x5632.Idx)) (Fin.ext ?_)
    show 2816 + (256 * (min (t.val % 11 + 1) 10) + d.val) = (2816 + (256 * (min (t.val % 11 + 1) 10) + d.val)) % 5632
    exact (Nat.mod_eq_of_lt (by omega)).symm

theorem val_blk (c : Dev nD) (t : Fin cfg0.N) (k : Fin 1024) (d : Fin 256) :
    iblk m c 3 t (ix2 k d : S1024x256.Idx) = m ((c : Thread nD τ).loc main_arg1) (ix3 0 k ⟨(chOf t d).val, by have := (chOf t d).isLt; omega⟩ : S1x1024x5632.Idx) := by
  obtain ⟨-, -, -, ⟨h0, h1⟩, -⟩ := idx_facts t
  refine Eq.trans (b := V m c main_v4 (ix2 k (chOf t d) : S1024x2816.Idx)) ?_ (val_entry m c k _)
  show V m c main_v4 ((win0_3.rect t).emb (ix2 k d : S1024x256.Idx)) = _
  congr 1
  funext a
  apply Fin.ext
  refine (Pipeline.Window.rect_emb_val win0_3 t _ a).trans ?_
  match a with
  | ⟨0, _⟩ => show win0_3.index t 0 * 1024 + k.val = k.val; omega
  | ⟨1, _⟩ => show win0_3.index t 1 * 256 + d.val = 256 * (t.val % 11) + d.val; omega

theorem taps_blk (c : Dev nD) (t : Fin cfg0.N) (k : Fin 9) (d : Fin 256) :
    iblk m c 4 t (ix2 k d : S9x256.Idx) = m ((c : Thread nD τ).loc main_arg2) (ix4 0 ⟨k.val / 3, by have := k.isLt; omega⟩ ⟨k.val % 3, Nat.mod_lt _ (by decide)⟩ (chOf t d) : S1x3x3x2816.Idx) := by
  obtain ⟨-, -, -, -, ⟨h0, h1⟩, -⟩ := idx_facts t
  refine Eq.trans (b := V m c main_v6 (ix2 k (chOf t d) : S9x2816.Idx)) ?_ (taps_entry m c k _)
  show V m c main_v6 ((win0_4.rect t).emb (ix2 k d : S9x256.Idx)) = _
  congr 1
  funext a
  apply Fin.ext
  refine (Pipeline.Window.rect_emb_val win0_4 t _ a).trans ?_
  match a with
  | ⟨0, _⟩ => show win0_4.index t 0 * 9 + k.val = k.val; omega
  | ⟨1, _⟩ => show win0_4.index t 1 * 256 + d.val = 256 * (t.val % 11) + d.val; omega

theorem bias_blk (c : Dev nD) (t : Fin cfg0.N) (d : Fin 256) :
    iblk m c 5 t (ix2 0 d : S1x256.Idx) = m ((c : Thread nD τ).loc main_arg3) (ix2 0 (chOf t d) : S1x2816.Idx) := by
  obtain ⟨-, -, -, -, -, ⟨h0, h1⟩, -⟩ := idx_facts t
  refine Eq.trans (b := V m c main_v8 (ix2 0 (chOf t d) : S1x2816.Idx)) ?_ (bias_entry m c _)
  show V m c main_v8 ((win0_5.rect t).emb (ix2 0 d : S1x256.Idx)) = _
  congr 1
  funext a
  apply Fin.ext
  refine (Pipeline.Window.rect_emb_val win0_5 t _ a).trans ?_
  match a with
  | ⟨0, _⟩ => show win0_5.index t 0 * 1 + 0 = 0; omega
  | ⟨1, _⟩ => show win0_5.index t 1 * 256 + d.val = 256 * (t.val % 11) + d.val; omega

theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem idx_inj6 : ∀ t t' : Fin cfg0.N, win0_6.index t = win0_6.index t' → t = t' :=
  (by decide +kernel : ∀ t t' : Fin grid0.N, win0_6.index t = win0_6.index t' → t = t')

/-- Two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- What the frame's run leaves: the result array by its blocks, the arguments as they were. -/
theorem run_blocks (ρ) : θ_run defs (onTc (τ := τ) (main (F := Ideal))) ⟨m, fun _ => 0, ρ⟩ fun r => ∀ c : Dev nD,
      r.2.mem ((c : Thread nD τ).loc main_v9) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- What the two gate buffers hold after grid point `n`: the block of this point and the block of the next, in the order
    its parity gives. -/
def Inv (c : Dev nD) (n : ℕ) (hn : n < cfg0.N) : Prop :=
  (n % 11 % 2 = 0 → (outsAt0 m c n hn).2.1 = gateBuf (hB m c (bOf ⟨n, hn⟩)) (gW m c (n % 11))
      ∧ (outsAt0 m c n hn).2.2 = gateBuf (hB m c (bOf ⟨n, hn⟩)) (gW m c (min (n % 11 + 1) 10)))
  ∧ (n % 11 % 2 = 1 → (outsAt0 m c n hn).2.2 = gateBuf (hB m c (bOf ⟨n, hn⟩)) (gW m c (n % 11))
      ∧ (outsAt0 m c n hn).2.1 = gateBuf (hB m c (bOf ⟨n, hn⟩)) (gW m c (min (n % 11 + 1) 10)))

theorem prev_bOf (t : Fin cfg0.N) (h : ¬ t.val % 11 = 0) : bOf ⟨t.val - 1, Nat.lt_of_le_of_lt (Nat.sub_le _ _) t.isLt⟩ = bOf t :=
  Fin.ext (by show (t.val - 1) / 11 = t.val / 11; omega)

theorem inv_at (c : Dev nD) : ∀ (n : ℕ) (hn : n < cfg0.N), Inv m c n hn := by
  intro n
  induction n using Nat.strong_induction_on with
  | _ n ih =>
  intro hn
  have hN := grid_size
  by_cases h0 : n % 11 = 0
  · have e := outsAt0_A m c ⟨n, hn⟩ h0 (by dsimp only; omega) (by dsimp only; omega)
    dsimp only at e
    refine ⟨fun _ => ⟨?_, ?_⟩, fun h => absurd h (by omega)⟩
    · rw [e]
      dsimp only
      rw [sout0_A_0_eq, h_blk, gate0_blk, h0]
    · rw [e]
      dsimp only
      rw [sout0_A_1_eq, h_blk, gate1_blk]
  · have hp := prev_bOf ⟨n, hn⟩ h0
    dsimp only at hp
    have ip := ih (n - 1) (by omega) (Nat.lt_of_le_of_lt (Nat.sub_le _ _) hn)
    unfold Inv at ip
    rw [hp] at ip
    by_cases h2 : n % 11 = 1 ∨ n % 11 = 3 ∨ n % 11 = 5 ∨ n % 11 = 7 ∨ n % 11 = 9
    · obtain ⟨i1, i2⟩ := ip.1 (by omega)
      have e := outsAt0_B m c ⟨n, hn⟩ h0 (not_not_intro h2) h2
      dsimp only at e
      refine ⟨fun h => absurd h (by omega), fun _ => ⟨?_, ?_⟩⟩
      · rw [e]
        refine Eq.trans i2 ?_
        rw [show min ((n - 1) % 11 + 1) 10 = n % 11 by omega]
      · rw [e]
        dsimp only
        rw [sout0_B_0_eq (hx := i1), h_blk, gate1_blk]
    · obtain ⟨i1, i2⟩ := ip.2 (by omega)
      have e := outsAt0_C m c ⟨n, hn⟩ h0 h2 h2
      dsimp only at e
      refine ⟨fun _ => ⟨?_, ?_⟩, fun h => absurd h (by omega)⟩
      · rw [e]
        refine Eq.trans i2 ?_
        rw [show min ((n - 1) % 11 + 1) 10 = n % 11 by omega]
      · rw [e]
        dsimp only
        rw [sout0_C_1_eq (hx := i1), h_blk, gate1_blk]

/-- Grid point `t` writes the activation of its own block of channels. -/
theorem out_at (c : Dev nD) (t : Fin cfg0.N) (y : S1x2048x256.Idx) :
    (outsAt0 m c t.val t.isLt).1 y = outG (gateBuf (hB m c (bOf t)) (gW m c (t.val % 11))) (iblk m c 4 t) (iblk m c 5 t) (valU (iblk m c 0 t) (iblk m c 3 t)) y := by
  have hN := grid_size
  by_cases h0 : t.val % 11 = 0
  · rw [outsAt0_A m c t h0 (by omega) (by omega)]
    dsimp only
    rw [out_A, h_blk, gate0_blk, h0]
  · have hp := prev_bOf t h0
    have ip := inv_at m c (t.val - 1) (Nat.lt_of_le_of_lt (Nat.sub_le _ _) t.isLt)
    unfold Inv at ip
    rw [hp] at ip
    by_cases h2 : t.val % 11 = 1 ∨ t.val % 11 = 3 ∨ t.val % 11 = 5 ∨ t.val % 11 = 7 ∨ t.val % 11 = 9
    · rw [outsAt0_B m c t h0 (not_not_intro h2) h2]
      dsimp only
      rw [out_B, (ip.1 (by omega)).2, show min ((t.val - 1) % 11 + 1) 10 = t.val % 11 by omega]
    · rw [outsAt0_C m c t h0 h2 h2]
      dsimp only
      rw [out_C, (ip.2 (by omega)).2, show min ((t.val - 1) % 11 + 1) 10 = t.val % 11 by omega]

end Cert.FfnActEq

end
-- ==== Proof.FfnActTaps.lean ====
/- The reference's padded grid and its nine shifted products, by index. -/
module

public import proofs.«01_k».proof.Proof.FfnActRow
public import proofs.«01_k».proof.Proof.Gen.FfnActRefIdeal.Read

@[expose] public section

set_option maxRecDepth 16384

noncomputable section

namespace Cert.FfnActEq

open Idealize.ShloMosaic Idealize.ShloMosaic.TcCoe Idealize.SL.Sem

/-- Token `q - 64` of the gate's channel `n`, zero outside the sequence: the rows a gate buffer holds. -/
def gq (a0 : Cert.FfnActRefIdeal.S16x2048x1024.Idx → EReal) (a1 : Cert.FfnActRefIdeal.S1x1024x5632.Idx → EReal) (b : Fin 16) (n : Fin 2816) (q : ℕ) : EReal :=
  if h : 64 ≤ q ∧ q < 2112 then ∑ k : Fin 1024, a0 (ix3 b ⟨q - 64, by omega⟩ k) * a1 (ix3 0 k ⟨2816 + n.val, by have := n.isLt; omega⟩) else 0
/-- The same by grid row and column, one zero row and column on each side. -/
def padAt (a0 : Cert.FfnActRefIdeal.S16x2048x1024.Idx → EReal) (a1 : Cert.FfnActRefIdeal.S1x1024x5632.Idx → EReal) (b : Fin 16) (n : Fin 2816) (y x : ℕ) : EReal :=
  if 1 ≤ x ∧ x ≤ 64 then gq a0 a1 b n (64 * y + (x - 1)) else 0
/-- The activation at token `s`, channel `n`. -/
def actAt (a0 : Cert.FfnActRefIdeal.S16x2048x1024.Idx → EReal) (a1 : Cert.FfnActRefIdeal.S1x1024x5632.Idx → EReal) (a2 : Cert.FfnActRefIdeal.S1x3x3x2816.Idx → EReal)
    (a3 : Cert.FfnActRefIdeal.S1x2816.Idx → EReal) (b : Fin 16) (s : Fin 2048) (n : Fin 2816) : EReal :=
  gated (conv9 (fun k => a2 (ix4 0 ⟨k.val / 3, by have := k.isLt; omega⟩ ⟨k.val % 3, Nat.mod_lt _ (by decide)⟩ n)) (a3 (ix2 0 n)) (s.val % 64)
      (fun x => gq a0 a1 b n (64 * (s.val / 64) + x)) (fun x => gq a0 a1 b n (64 * (s.val / 64) + 64 + x)) (fun x => gq a0 a1 b n (64 * (s.val / 64) + 128 + x)))
    (∑ k : Fin 1024, a0 (ix3 b s k) * a1 (ix3 0 k ⟨n.val, by have := n.isLt; omega⟩))

section Reference

open Cert.FfnActRefIdeal Cert.FfnActRefIdeal.Read

variable (a0 : FVec Ideal S16x2048x1024 .bf16) (a1 : FVec Ideal S1x1024x5632 .f32) (a2 : FVec Ideal S1x3x3x2816 .f32) (a3 : FVec Ideal S1x2816 .f32)

theorem pad_zero : (FloatOps.sitofp FTy.f32 0#32 : Ideal FTy.f32) = (0 : EReal) := by simp [FloatOps.sitofp]

theorem ref_proj (b : Fin 16) (s : Fin 2048) (n : Fin 5632) :
    val_main_v2 (F := Ideal) a0 a1 (ix3 b s n : S16x2048x5632.Idx) = ∑ k : Fin 1024, a0 (ix3 b s k) * a1 (ix3 0 k n) := by
  pointwise [val_main_v2, val_main_v1, val_main_v0]

theorem ref_pad (b : Fin 16) (y : Fin 34) (x : Fin 66) (n : Fin 2816) :
    val_main_v6 (F := Ideal) a0 a1 (ix4 b y x n : S16x34x66x2816.Idx) = padAt a0 a1 b n y.val x.val := by
  pointwise [val_main_v6, val_main_v5, val_main_v4, val_main_call0_v0, val_main_c]
  have hx := x.isLt
  have hy := y.isLt
  unfold padAt gq
  by_cases h : (1 ≤ y.val ∧ y.val - 1 < 32) ∧ 1 ≤ x.val ∧ x.val - 1 < 64
  · obtain ⟨⟨h1, h2⟩, h3, h4⟩ := id h
    rw [dif_pos h, if_pos ⟨h3, by omega⟩, dif_pos (by omega), ref_proj]
    refine Finset.sum_congr rfl fun k _ => congrArg₂ (fun u v : EReal => u * v) (congrArg (fun q => a0 (ix3 b q k)) (Fin.ext ?_)) rfl
    show (y.val - 1) * 64 + (x.val - 1) = 64 * y.val + (x.val - 1) - 64
    omega
  · rw [dif_neg h, pad_zero]
    split
    · rw [dif_neg (by omega)]
    · first | rfl | skip

theorem tap_0 (b : Fin 16) (y : Fin 32) (x : Fin 64) (n : Fin 2816) :
    val_main_v13 (F := Ideal) a0 a1 a2 (ix4 b y x n : S16x32x64x2816.Idx) = padAt a0 a1 b n (y.val + 0) (x.val + 0) * a2 (ix4 0 0 0 n) := by
  pointwise [val_main_v13, val_main_v12, val_main_v11, val_main_v10, val_main_v9, val_main_v8, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_1 (b : Fin 16) (y : Fin 32) (x : Fin 64) (n : Fin 2816) :
    val_main_v21 (F := Ideal) a0 a1 a2 (ix4 b y x n : S16x32x64x2816.Idx) = padAt a0 a1 b n (y.val + 0) (x.val + 1) * a2 (ix4 0 0 1 n) := by
  pointwise [val_main_v21, val_main_v20, val_main_v19, val_main_v18, val_main_v17, val_main_v16, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_2 (b : Fin 16) (y : Fin 32) (x : Fin 64) (n : Fin 2816) :
    val_main_v28 (F := Ideal) a0 a1 a2 (ix4 b y x n : S16x32x64x2816.Idx) = padAt a0 a1 b n (y.val + 0) (x.val + 2) * a2 (ix4 0 0 2 n) := by
  pointwise [val_main_v28, val_main_v27, val_main_v26, val_main_v25, val_main_v24, val_main_v23, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_3 (b : Fin 16) (y : Fin 32) (x : Fin 64) (n : Fin 2816) :
    val_main_v35 (F := Ideal) a0 a1 a2 (ix4 b y x n : S16x32x64x2816.Idx) = padAt a0 a1 b n (y.val + 1) (x.val + 0) * a2 (ix4 0 1 0 n) := by
  pointwise [val_main_v35, val_main_v34, val_main_v33, val_main_v32, val_main_v31, val_main_v30, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_4 (b : Fin 16) (y : Fin 32) (x : Fin 64) (n : Fin 2816) :
    val_main_v42 (F := Ideal) a0 a1 a2 (ix4 b y x n : S16x32x64x2816.Idx) = padAt a0 a1 b n (y.val + 1) (x.val + 1) * a2 (ix4 0 1 1 n) := by
  pointwise [val_main_v42, val_main_v41, val_main_v40, val_main_v39, val_main_v38, val_main_v37, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_5 (b : Fin 16) (y : Fin 32) (x : Fin 64) (n : Fin 2816) :
    val_main_v49 (F := Ideal) a0 a1 a2 (ix4 b y x n : S16x32x64x2816.Idx) = padAt a0 a1 b n (y.val + 1) (x.val + 2) * a2 (ix4 0 1 2 n) := by
  pointwise [val_main_v49, val_main_v48, val_main_v47, val_main_v46, val_main_v45, val_main_v44, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_6 (b : Fin 16) (y : Fin 32) (x : Fin 64) (n : Fin 2816) :
    val_main_v56 (F := Ideal) a0 a1 a2 (ix4 b y x n : S16x32x64x2816.Idx) = padAt a0 a1 b n (y.val + 2) (x.val + 0) * a2 (ix4 0 2 0 n) := by
  pointwise [val_main_v56, val_main_v55, val_main_v54, val_main_v53, val_main_v52, val_main_v51, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_7 (b : Fin 16) (y : Fin 32) (x : Fin 64) (n : Fin 2816) :
    val_main_v63 (F := Ideal) a0 a1 a2 (ix4 b y x n : S16x32x64x2816.Idx) = padAt a0 a1 b n (y.val + 2) (x.val + 1) * a2 (ix4 0 2 1 n) := by
  pointwise [val_main_v63, val_main_v62, val_main_v61, val_main_v60, val_main_v59, val_main_v58, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem tap_8 (b : Fin 16) (y : Fin 32) (x : Fin 64) (n : Fin 2816) :
    val_main_v70 (F := Ideal) a0 a1 a2 (ix4 b y x n : S16x32x64x2816.Idx) = padAt a0 a1 b n (y.val + 2) (x.val + 2) * a2 (ix4 0 2 2 n) := by
  pointwise [val_main_v70, val_main_v69, val_main_v68, val_main_v67, val_main_v66, val_main_v65, val_main_v7]
  refine congrArg₂ (fun u v : EReal => u * v) ((ref_pad a0 a1 ..).trans ?_) rfl
  first | rfl | exact congrArg₂ (padAt a0 a1 b n) (by first | rfl | (dsimp only; omega)) (by first | rfl | (dsimp only; omega))

theorem addf_ideal (u v : Ideal FTy.f32) : FloatOps.addf u v = (u + v : EReal) := rfl

theorem ref_zero (i : S16x32x64x2816.Idx) : val_main_v14 (F := Ideal) i = (0 : EReal) := by
  pointwise [val_main_v14, val_main_cst]

theorem ref_sum (b : Fin 16) (y : Fin 32) (x : Fin 64) (n : Fin 2816) :
    val_main_v71 (F := Ideal) a0 a1 a2 (ix4 b y x n : S16x32x64x2816.Idx)
      = padAt a0 a1 b n (y.val + 0) (x.val + 0) * a2 (ix4 0 0 0 n) + padAt a0 a1 b n (y.val + 0) (x.val + 1) * a2 (ix4 0 0 1 n) + padAt a0 a1 b n (y.val + 0) (x.val + 2) * a2 (ix4 0 0 2 n) + padAt a0 a1 b n (y.val + 1) (x.val + 0) * a2 (ix4 0 1 0 n) + padAt a0 a1 b n (y.val + 1) (x.val + 1) * a2 (ix4 0 1 1 n) + padAt a0 a1 b n (y.val + 1) (x.val + 2) * a2 (ix4 0 1 2 n) + padAt a0 a1 b n (y.val + 2) (x.val + 0) * a2 (ix4 0 2 0 n) + padAt a0 a1 b n (y.val + 2) (x.val + 1) * a2 (ix4 0 2 1 n) + padAt a0 a1 b n (y.val + 2) (x.val + 2) * a2 (ix4 0 2 2 n) := by
  rw [val_main_v71_apply, val_main_v64_apply, val_main_v57_apply, val_main_v50_apply, val_main_v43_apply, val_main_v36_apply, val_main_v29_apply, val_main_v22_apply, val_main_v15_apply, ref_zero, tap_0, tap_1, tap_2, tap_3, tap_4, tap_5, tap_6, tap_7, tap_8]
  simp only [addf_ideal, zero_add]

end Reference
end Cert.FfnActEq

end
-- ==== Proof.FfnActRef.lean ====
/- The reference's activation, by index. -/
module

public import proofs.«01_k».proof.Proof.FfnActTaps

@[expose] public section

set_option maxRecDepth 16384

noncomputable section

namespace Cert.FfnActEq

open Idealize.ShloMosaic Idealize.ShloMosaic.TcCoe Idealize.SL.Sem

section Reference

open Cert.FfnActRefIdeal Cert.FfnActRefIdeal.Read

variable (a0 : FVec Ideal S16x2048x1024 .bf16) (a1 : FVec Ideal S1x1024x5632 .f32) (a2 : FVec Ideal S1x3x3x2816 .f32) (a3 : FVec Ideal S1x2816 .f32)

theorem mulf_ideal (u v : Ideal FTy.f32) : FloatOps.mulf u v = (u * v : EReal) := rfl

theorem silu_ideal (u : Ideal FTy.f32) :
    FloatOps.hostDivf (1 : Ideal FTy.f32) (FloatOps.addf (1 : Ideal FTy.f32) (FloatOps.hostUnary .exp (FloatOps.hostNegf u))) = Ideal.div (1 : EReal) (1 + Ideal.exp (-u)) := rfl

theorem ref_one (i : S16x2048x2816.Idx) : val_main_call1_v2 (F := Ideal) i = (1 : EReal) := by
  pointwise [val_main_call1_v2, val_main_call1_cst]

theorem ref_one' (i : S16x2048x2816.Idx) : val_main_call1_v4 (F := Ideal) i = (1 : EReal) := by
  pointwise [val_main_call1_v4, val_main_call1_cst_0]

theorem idx_grid (b : Fin 16) (s : Fin 2048) (n : Fin 2816) :
    idx_main_v72 (ix3 b s n) = (ix4 b ⟨s.val / 64, by have := s.isLt; omega⟩ ⟨s.val % 64, Nat.mod_lt _ (by decide)⟩ n : S16x32x64x2816.Idx) := by
  have hb := b.isLt
  have hs := s.isLt
  have hn := n.isLt
  funext a
  apply Fin.ext
  match a with
  | ⟨0, _⟩ => show ((b.val * 2048 + s.val) * 2816 + n.val) / 5767168 = b.val; omega
  | ⟨1, _⟩ => show ((b.val * 2048 + s.val) * 2816 + n.val) / 180224 % 32 = s.val / 64; omega
  | ⟨2, _⟩ => show ((b.val * 2048 + s.val) * 2816 + n.val) / 2816 % 64 = s.val % 64; omega
  | ⟨3, _⟩ => show ((b.val * 2048 + s.val) * 2816 + n.val) % 2816 = n.val; omega

theorem ref_sigmoid (b : Fin 16) (s : Fin 2048) (n : Fin 2816) : val_main_call1_v5 (F := Ideal) a0 a1 a2 a3 (ix3 b s n : S16x2048x2816.Idx)
    = Ideal.div 1 (1 + Ideal.exp (-(val_main_v76 (F := Ideal) a0 a1 a2 a3 (ix3 b s n : S16x2048x2816.Idx) : EReal))) := by
  rw [val_main_call1_v5_apply, ref_one', val_main_call1_v3_apply, ref_one, val_main_call1_v1_apply, val_main_call1_v0_apply]
  exact silu_ideal _

theorem ref_bias (b : Fin 16) (s : Fin 2048) (n : Fin 2816) : val_main_v75 (F := Ideal) a3 (ix3 b s n : S16x2048x2816.Idx) = a3 (ix2 0 n) := by
  rw [val_main_v75_apply, val_main_v74_apply, val_main_v73_apply]
  refine congrArg a3 ?_
  funext a
  apply Fin.ext
  match a with
  | ⟨0, _⟩ => rfl
  | ⟨1, _⟩ => exact Nat.mod_eq_of_lt n.isLt

theorem sum_ideal (u v : Ideal FTy.f32) : FloatOps.addf u v = (u + v : EReal) := rfl

theorem ref_conv (b : Fin 16) (s : Fin 2048) (n : Fin 2816) : val_main_v76 (F := Ideal) a0 a1 a2 a3 (ix3 b s n : S16x2048x2816.Idx)
    = (val_main_v71 (F := Ideal) a0 a1 a2 (ix4 b ⟨s.val / 64, by have := s.isLt; omega⟩ ⟨s.val % 64, Nat.mod_lt _ (by decide)⟩ n : S16x32x64x2816.Idx) + a3 (ix2 0 n) : EReal) := by
  rw [val_main_v76_apply, val_main_v72_apply, ref_bias, idx_grid]
  exact sum_ideal _ _

theorem ref_val (b : Fin 16) (s : Fin 2048) (n : Fin 2816) : val_main_v3 (F := Ideal) a0 a1 (ix3 b s n : S16x2048x2816.Idx)
    = val_main_v2 (F := Ideal) a0 a1 (ix3 b s ⟨n.val, by have := n.isLt; omega⟩ : S16x2048x5632.Idx) := by
  pointwise [val_main_v3]

theorem out_ideal (u v w : Ideal FTy.f32) (h : FTy.bf16.bits < FTy.f32.bits) : FloatOps.truncf (F := Ideal) .bf16 h (FloatOps.mulf (FloatOps.mulf u v) w) = (u * v * w : EReal) := rfl

theorem ref_tail (b : Fin 16) (s : Fin 2048) (n : Fin 2816) : val_main_v79 (F := Ideal) a0 a1 a2 a3 (ix3 b s n : S16x2048x2816.Idx)
    = (val_main_v76 (F := Ideal) a0 a1 a2 a3 (ix3 b s n : S16x2048x2816.Idx) * val_main_call1_v5 (F := Ideal) a0 a1 a2 a3 (ix3 b s n : S16x2048x2816.Idx)
        * val_main_v2 (F := Ideal) a0 a1 (ix3 b s ⟨n.val, by have := n.isLt; omega⟩ : S16x2048x5632.Idx) : EReal) := by
  rw [val_main_v79_apply, val_main_v78_apply, val_main_v77_apply, ref_val]
  exact out_ideal _ _ _ _

/-- A column inside the grid reads the gate, the two columns beside the grid read zero. -/
theorem padAt_mid (b : Fin 16) (n : Fin 2816) (y x : ℕ) (hx : x < 64) : padAt a0 a1 b n y (x + 1) = gq a0 a1 b n (64 * y + x) := by
  unfold padAt
  rw [if_pos (by omega), Nat.add_sub_cancel]

theorem padAt_left (b : Fin 16) (n : Fin 2816) (y x : ℕ) (hx : x < 64) : padAt a0 a1 b n y x = if x = 0 then 0 else gq a0 a1 b n (64 * y + (x - 1)) := by
  unfold padAt
  by_cases h : x = 0
  · rw [if_neg (by omega), if_pos h]
  · rw [if_pos (by omega), if_neg h]

theorem padAt_right (b : Fin 16) (n : Fin 2816) (y x : ℕ) (hx : x < 64) : padAt a0 a1 b n y (x + 2) = if x = 63 then 0 else gq a0 a1 b n (64 * y + (x + 1)) := by
  unfold padAt
  by_cases h : x = 63
  · rw [if_neg (by omega), if_pos h]
  · rw [if_pos (by omega), if_neg h]
    rfl

/-- Nine products in reading order are the three columns' sums, a column outside the grid giving nothing. -/
theorem nine_taps (w : Fin 9 → EReal) (z : EReal) (x : ℕ) (a b c : ℕ → EReal) :
    (((((((((if x = 0 then 0 else a (x - 1)) * w 0 + a x * w 1) + (if x = 63 then 0 else a (x + 1)) * w 2) + (if x = 0 then 0 else b (x - 1)) * w 3) + b x * w 4)
      + (if x = 63 then 0 else b (x + 1)) * w 5) + (if x = 0 then 0 else c (x - 1)) * w 6) + c x * w 7) + (if x = 63 then 0 else c (x + 1)) * w 8) + z
    = conv9 w z x a b c := by
  unfold conv9 tap
  split_ifs <;> (try simp only [zero_mul, add_zero, zero_add]) <;> ac_rfl

theorem grid_conv (w : Fin 9 → EReal) (z : EReal) (b : Fin 16) (n : Fin 2816) (y x : ℕ) (hx : x < 64) :
    padAt a0 a1 b n y x * w 0 + padAt a0 a1 b n y (x + 1) * w 1 + padAt a0 a1 b n y (x + 2) * w 2 + padAt a0 a1 b n (y + 1) x * w 3 + padAt a0 a1 b n (y + 1) (x + 1) * w 4 + padAt a0 a1 b n (y + 1) (x + 2) * w 5 + padAt a0 a1 b n (y + 2) x * w 6 + padAt a0 a1 b n (y + 2) (x + 1) * w 7 + padAt a0 a1 b n (y + 2) (x + 2) * w 8 + z
    = conv9 w z x (fun x => gq a0 a1 b n (64 * y + x)) (fun x => gq a0 a1 b n (64 * y + 64 + x)) (fun x => gq a0 a1 b n (64 * y + 128 + x)) := by
  rw [padAt_left a0 a1 b n y x hx, padAt_mid a0 a1 b n y x hx, padAt_right a0 a1 b n y x hx, padAt_left a0 a1 b n (y + 1) x hx, padAt_mid a0 a1 b n (y + 1) x hx, padAt_right a0 a1 b n (y + 1) x hx, padAt_left a0 a1 b n (y + 2) x hx, padAt_mid a0 a1 b n (y + 2) x hx, padAt_right a0 a1 b n (y + 2) x hx]
  rw [show 64 * (y + 1) = 64 * y + 64 by omega, show 64 * (y + 2) = 64 * y + 128 by omega]
  exact nine_taps w z x (fun x => gq a0 a1 b n (64 * y + x)) (fun x => gq a0 a1 b n (64 * y + 64 + x)) (fun x => gq a0 a1 b n (64 * y + 128 + x))

theorem ref_act (b : Fin 16) (s : Fin 2048) (n : Fin 2816) : val_main_v79 (F := Ideal) a0 a1 a2 a3 (ix3 b s n : S16x2048x2816.Idx) = actAt a0 a1 a2 a3 b s n := by
  have hx : s.val % 64 < 64 := Nat.mod_lt _ (by decide)
  rw [ref_tail, ref_sigmoid, ref_proj, ref_conv, ref_sum]
  unfold actAt gated
  rw [zero_sub]
  obtain ⟨w, hw⟩ : ∃ w : Fin 9 → EReal, w = fun k => a2 (ix4 0 ⟨k.val / 3, by have := k.isLt; omega⟩ ⟨k.val % 3, Nat.mod_lt _ (by decide)⟩ n) := ⟨_, rfl⟩
  have w0 : a2 (ix4 0 0 0 n) = w 0 := by rw [hw]; rfl
  have w1 : a2 (ix4 0 0 1 n) = w 1 := by rw [hw]; rfl
  have w2 : a2 (ix4 0 0 2 n) = w 2 := by rw [hw]; rfl
  have w3 : a2 (ix4 0 1 0 n) = w 3 := by rw [hw]; rfl
  have w4 : a2 (ix4 0 1 1 n) = w 4 := by rw [hw]; rfl
  have w5 : a2 (ix4 0 1 2 n) = w 5 := by rw [hw]; rfl
  have w6 : a2 (ix4 0 2 0 n) = w 6 := by rw [hw]; rfl
  have w7 : a2 (ix4 0 2 1 n) = w 7 := by rw [hw]; rfl
  have w8 : a2 (ix4 0 2 2 n) = w 8 := by rw [hw]; rfl
  rw [← hw, w0, w1, w2, w3, w4, w5, w6, w7, w8]
  dsimp only
  rw [Nat.add_zero, Nat.add_zero, grid_conv a0 a1 w _ b n _ _ hx]

end Reference
end Cert.FfnActEq

end
-- ==== Proof.FfnActValue.lean ====
/- The convolved gate times its sigmoid times the value half: what the call's result array holds, element by element, and
   that jnp's zero-padded grid and nine shifted products give the same extended reals. -/
module

public import proofs.«01_k».proof.Defs
public import proofs.«01_k».proof.Proof.FfnActFinal
public import proofs.«01_k».proof.Proof.FfnActRef
public import proofs.«01_k».proof.Proof.Gen.FfnActRefIdeal.Run
public import Idealize.ShloMosaic.Lib.Claim

@[expose] public section

set_option maxRecDepth 16384

noncomputable section

namespace Cert.FfnActEq

open Idealize.ShloMosaic Idealize.ShloMosaic.TcCoe Idealize.SL.Sem
open Idealize.ShloMosaic.Pipeline (Dat)
open Cert.FfnActIdeal Cert.FfnActIdeal.Gen Cert.FfnActIdeal.Own

variable (m : (ℓ : Loc nD τ sig) → Buf (Elt Ideal) ℓ)

/-- The grid point that writes batch row `b`, channel `n`, and the channel's place in its block. -/
def ptOf (b : Fin 16) (n : Fin 2816) : Fin cfg0.N := ⟨11 * b.val + n.val / 256, by have := b.isLt; have := n.isLt; have := grid_size; omega⟩
def inBlk (n : Fin 2816) : Fin 256 := ⟨n.val % 256, Nat.mod_lt _ (by decide)⟩

theorem pt_div (b : Fin 16) (n : Fin 2816) : (ptOf b n).val / 11 = b.val := by
  have := n.isLt
  show (11 * b.val + n.val / 256) / 11 = b.val
  omega

theorem pt_mod (b : Fin 16) (n : Fin 2816) : (ptOf b n).val % 11 = n.val / 256 := by
  have := n.isLt
  show (11 * b.val + n.val / 256) % 11 = n.val / 256
  omega

theorem pt_b (b : Fin 16) (n : Fin 2816) : bOf (ptOf b n) = b := Fin.ext (pt_div b n)

theorem pt_ch (b : Fin 16) (n : Fin 2816) : chOf (ptOf b n) (inBlk n) = n := by
  refine Fin.ext ?_
  show 256 * ((ptOf b n).val % 11) + n.val % 256 = n.val
  rw [pt_mod]
  omega

theorem emb6 (b : Fin 16) (s : Fin 2048) (n : Fin 2816) :
    ((cfg0.win 6).blk (ptOf b n)).view.emb (ix3 0 s (inBlk n) : S1x2048x256.Idx) = (ix3 b s n : S16x2048x2816.Idx) := by
  obtain ⟨-, -, -, -, -, -, ⟨h0, h1, h2⟩⟩ := idx_facts (ptOf b n)
  have hd := pt_div b n
  have hm := pt_mod b n
  funext a
  apply Fin.ext
  refine (Pipeline.Window.rect_emb_val win0_6 (ptOf b n) _ a).trans ?_
  match a with
  | ⟨0, _⟩ => show win0_6.index (ptOf b n) 0 * 1 + 0 = b.val; omega
  | ⟨1, _⟩ => show win0_6.index (ptOf b n) 1 * 2048 + s.val = s.val; omega
  | ⟨2, _⟩ => show win0_6.index (ptOf b n) 2 * 256 + n.val % 256 = n.val; omega

variable (c : Dev nD)

/-- Token `s`, channel `n` of the product's value half. -/
def vq (a0 : S16x2048x1024.Idx → EReal) (a1 : S1x1024x5632.Idx → EReal) (b : Fin 16) (s : Fin 2048) (n : Fin 2816) : EReal :=
  ∑ k : Fin 1024, a0 (ix3 b s k) * a1 (ix3 0 k ⟨n.val, by have := n.isLt; omega⟩)

theorem val_at (b : Fin 16) (s : Fin 2048) (n : Fin 2816) :
    valU (iblk m c 0 (ptOf b n)) (iblk m c 3 (ptOf b n)) s (inBlk n)
      = vq (m ((c : Thread nD τ).loc main_arg0)) (m ((c : Thread nD τ).loc main_arg1)) b s n := by
  unfold valU vq
  refine Finset.sum_congr rfl fun k _ => congrArg₂ (fun u v : EReal => u * v) ?_ ?_
  · rw [h_blk, pt_b]
    rfl
  · rw [val_blk]
    refine congrArg (fun q => m ((c : Thread nD τ).loc main_arg1) (ix3 0 k q : S1x1024x5632.Idx)) (Fin.ext ?_)
    show (chOf (ptOf b n) (inBlk n)).val = n.val
    rw [pt_ch]

theorem gate_at (b : Fin 16) (n : Fin 2816) (q : ℕ) :
    gateAt (gateBuf (hB m c (bOf (ptOf b n))) (gW m c ((ptOf b n).val % 11))) (inBlk n) q
      = gq (m ((c : Thread nD τ).loc main_arg0)) (m ((c : Thread nD τ).loc main_arg1)) b n q := by
  have hn := n.isLt
  unfold gateAt gq
  by_cases h : 64 ≤ q ∧ q < 2112
  · rw [dif_pos (by omega), dif_pos h]
    unfold gateBuf
    refine (dif_pos h).trans ?_
    unfold valU
    refine Finset.sum_congr rfl fun k _ => congrArg₂ (fun u v : EReal => u * v) ?_ ?_
    · rw [pt_b]
      rfl
    · refine congrArg (fun q => m ((c : Thread nD τ).loc main_arg1) (ix3 0 k q : S1x1024x5632.Idx)) (Fin.ext ?_)
      show (2816 + (256 * ((ptOf b n).val % 11) + n.val % 256)) % 5632 = 2816 + n.val
      rw [pt_mod]
      omega
  · rw [dif_neg h]
    split
    · unfold gateBuf
      exact dif_neg h
    · rfl

theorem final (b : Fin 16) (s : Fin 2048) (n : Fin 2816) :
    (dats m 0 c).arrAt 6 cfg0.N (ix3 b s n : S16x2048x2816.Idx)
      = actAt (m ((c : Thread nD τ).loc main_arg0)) (m ((c : Thread nD τ).loc main_arg1)) (m ((c : Thread nD τ).loc main_arg2)) (m ((c : Thread nD τ).loc main_arg3)) b s n := by
  have h := (dats m 0 c).arrAt_emb_eq_flushed 6 disjoint6 (ptOf b n) (flush0_6 _) (ix3 0 s (inBlk n) : S1x2048x256.Idx)
  rw [emb6] at h
  refine h.trans ?_
  rw [flushed6]
  refine (out_at m c (ptOf b n) (ix3 0 s (inBlk n) : S1x2048x256.Idx)).trans ?_
  show stepAt (gateBuf (hB m c (bOf (ptOf b n))) (gW m c ((ptOf b n).val % 11))) (iblk m c 4 (ptOf b n)) (iblk m c 5 (ptOf b n))
    (valU (iblk m c 0 (ptOf b n)) (iblk m c 3 (ptOf b n))) s (inBlk n) = _
  unfold stepAt actAt
  rw [val_at]
  refine congrArg (fun v => gated v _) ?_
  refine conv9_congr _ _ _ _ _ _ _ _ _ _ _ _ ?_ ?_ rfl (Nat.mod_lt _ (by decide)) ?_ ?_ ?_
  · refine funext fun k => ?_
    rw [taps_blk, pt_ch]
  · rw [bias_blk, pt_ch]
  · exact fun x _ => gate_at m c b n _
  · exact fun x _ => gate_at m c b n _
  · exact fun x _ => gate_at m c b n _

theorem algebraic_run : Cert.algebraic_FfnActIdeal_FfnActRefIdeal := by
  intro m g m' g' _ hagree
  refine ⟨fun c => (dats m 0 c).arrAt 6 cfg0.N, run_blocks m g, ?_⟩
  refine (θ_run _ _ _).mono (fun r h c => ⟨(h c).1.trans ?_, (h c).2⟩) (Cert.FfnActRefIdeal.Value.run (F := Ideal) m' g')
  rw [Cert.FfnActRefIdeal.Read.val_main_v79_eq]
  obtain ⟨e0, e1, e2, e3⟩ := hagree c
  refine funext fun i => ?_
  rw [eq_ix3 (i : S16x2048x2816.Idx)]
  refine (ref_act _ _ _ _ _ _ _).trans ?_
  refine Eq.trans ?_ (final m c _ _ _).symm
  rw [e0, e1, e2, e3]

end Cert.FfnActEq

end
-- ==== Proof.GlaIdealRun.lean ====
/- The run of the gated linear attention's body. -/
module

public import proofs.«01_k».proof.Proof.Gen.KernelIdeal.Frame
public import proofs.«01_k».proof.Proof.Gen.KernelIdeal.Loops

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2048x512 .bf16 := win0_17.stage (cfg0.slots t 17)
abbrev hs0_17 (t : Fin cfg0.N) : (ms0_17 t).IsWhole := hstage0_17 ((cfg0.slots t 17).cast nbuf0_17)

abbrev scM0_0 : Memref sig .tc .vmem S2048x256 .f32 := Memref.whole cc0_scratch0
abbrev scM0_1 : Memref sig .tc .vmem S2048x256 .f32 := Memref.whole cc0_scratch1
abbrev scM0_2 : Memref sig .tc .vmem S16x256x128 .f32 := Memref.whole cc0_scratch2
abbrev scM0_3 : Memref sig .tc .vmem S16x256x128 .f32 := Memref.whole cc0_scratch3
abbrev scM0_4 : Memref sig .tc .vmem S2048x512 .f32 := Memref.whole cc0_scratch4
abbrev scM0_5 : Memref sig .tc .vmem S2048x512 .f32 := Memref.whole cc0_scratch5
abbrev scM0_6 : Memref sig .tc .vmem S4x64x128 .f32 := Memref.whole cc0_scratch6
abbrev scM0_7 : Memref sig .tc .vmem S4x64x128 .f32 := Memref.whole cc0_scratch7

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

set_option maxHeartbeats 4000000 in
/-- The body of one batch row: from the staged operands to anything in the output block, the operands kept. -/
theorem kernelRun0_A (c : Dev nD) (i : grid0.Coords) (arg1 : Memref sig .tc .vmem S1x2048x1280 .bf16) (harg1 : arg1.IsWhole) (arg2 : Memref sig .tc .vmem S1x16x256x128 .bf16) (harg2 : arg2.IsWhole) (arg3 : Memref sig .tc .vmem S1x2048x128 .f32) (harg3 : arg3.IsWhole) (arg4 : Memref sig .tc .vmem S1x128x2048 .f32) (harg4 : arg4.IsWhole) (arg5 : Memref sig .tc .vmem S1x4x64x128 .f32) (harg5 : arg5.IsWhole) (arg6 : Memref sig .tc .vmem S1x4x64x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S128x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S256x1 .f32) (harg12 : arg12.IsWhole) (arg13 : Memref sig .tc .vmem S256x128 .f32) (harg13 : arg13.IsWhole) (arg14 : Memref sig .tc .vmem S256x1 .f32) (harg14 : arg14.IsWhole) (arg15 : Memref sig .tc .vmem S128x128 .bf16) (harg15 : arg15.IsWhole) (arg16 : Memref sig .tc .vmem S128x128 .bf16) (harg16 : arg16.IsWhole) (arg17 : Memref sig .tc .vmem S1x512 .f32) (harg17 : arg17.IsWhole) (arg18 : Memref sig .tc .vmem S1x2048x512 .bf16) (harg18 : arg18.IsWhole) (arg19 : Memref sig .tc .vmem S2048x256 .f32) (harg19 : arg19.IsWhole) (arg20 : Memref sig .tc .vmem S2048x256 .f32) (harg20 : arg20.IsWhole) (arg21 : Memref sig .tc .vmem S16x256x128 .f32) (harg21 : arg21.IsWhole) (arg22 : Memref sig .tc .vmem S16x256x128 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S4x64x128 .f32) (harg25 : arg25.IsWhole) (arg26 : Memref sig .tc .vmem S4x64x128 .f32) (harg26 : arg26.IsWhole)
    (x0 : Vec F S1x2048x1280 .bf16) (x1 : Vec F S1x16x256x128 .bf16) (x2 : Vec F S1x2048x128 .f32) (x3 : Vec F S1x128x2048 .f32) (x4 : Vec F S1x4x64x128 .f32) (x5 : Vec F S1x4x64x128 .f32) (x6 : Vec F S128x256 .f32) (x7 : Vec F S1x256 .f32) (x8 : Vec F S128x256 .f32) (x9 : Vec F S1x256 .f32) (x10 : Vec F S256x128 .f32) (x11 : Vec F S256x1 .f32) (x12 : Vec F S256x128 .f32) (x13 : Vec F S256x1 .f32) (x14 : Vec F S128x128 .bf16) (x15 : Vec F S128x128 .bf16) (x16 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_gla i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_gla_eq_skeleton]; unfold cc0_gla_skel
    simp only [k0_part78_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part79_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Own

end
-- ==== Proof.GlaIdealFrame.lean ====
/- The gated linear attention runs at every grid point and leaves its arguments as they were. -/
module

public import Idealize.ShloMosaic.Lib.Claim
public import proofs.«01_k».proof.Proof.GlaIdealRun

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 18 → Bool := fun w => w.val == 17

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, H17, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments a run with a forgotten output keeps. -/
theorem kept_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c)),
      ((h c).2 main_arg14 (Pipeline.mem_restRefs_of main_arg14 (by decide) (by decide))).trans (V_main_arg14 m c)⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  kept_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Own

end
-- ==== Proof.FfnOutValue.lean ====
/- The closing call of the feed-forward part: what its result array holds, element by element, and that jnp's
   residual, sum of squares and scale give the same extended reals. -/
module

public import proofs.«01_k».proof.Defs
public import proofs.«01_k».proof.Proof.Gen.FfnOutIdeal.Value
public import proofs.«01_k».proof.Proof.Gen.FfnOutRefIdeal.Read
public import Idealize.ShloMosaic.Lib.Pointwise
public import Idealize.ShloMosaic.Lib.StableHlo.ReadAt
public import Idealize.ShloMosaic.Lib.Claim

@[expose] public section

noncomputable section

namespace Cert.FfnOutEq

open Idealize.ShloMosaic Idealize.ShloMosaic.TcCoe Idealize.SL.Sem
open Idealize.ShloMosaic.Pipeline (Dat)
open Cert.FfnOutIdeal Cert.FfnOutIdeal.Gen

variable (m : (ℓ : Loc nD τ sig) → Buf (Elt Ideal) ℓ)

theorem grid_size : cfg0.N = 32 := by decide

/-- The batch row and the half of the sequence that grid point `t` works on. -/
def bOf (t : Fin cfg0.N) : Fin 16 := ⟨t.val / 2, by have := t.isLt; have := grid_size; omega⟩
def sOf (t : Fin cfg0.N) (r : Fin 1024) : Fin 2048 := ⟨1024 * (t.val % 2) + r.val, by have := r.isLt; omega⟩

theorem idx_facts : ∀ t : Fin cfg0.N,
    (win0_0.index t 0 = t.val / 2 ∧ win0_0.index t 1 = t.val % 2 ∧ win0_0.index t 2 = 0)
    ∧ (win0_1.index t 0 = t.val / 2 ∧ win0_1.index t 1 = t.val % 2 ∧ win0_1.index t 2 = 0)
    ∧ (win0_2.index t 0 = t.val / 2 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = t.val / 2 ∧ win0_5.index t 1 = t.val % 2 ∧ win0_5.index t 2 = 0) :=
  (by decide +kernel : ∀ t : Fin grid0.N, _)

theorem act_blk (c : Dev nD) (t : Fin cfg0.N) (r : Fin 1024) (k : Fin 2816) :
    iblk m c 0 t (ix3 0 r k : S1x1024x2816.Idx) = m ((c : Thread nD τ).loc main_arg0) (ix3 (bOf t) (sOf t r) k : S16x2048x2816.Idx) := by
  obtain ⟨⟨h0, h1, h2⟩, -⟩ := idx_facts t
  show V m c main_arg0 ((win0_0.rect t).emb (ix3 0 r k : S1x1024x2816.Idx)) = _
  rw [V_main_arg0]
  congr 1
  funext a
  apply Fin.ext
  refine (Pipeline.Window.rect_emb_val win0_0 t _ a).trans ?_
  match a with
  | ⟨0, _⟩ => show win0_0.index t 0 * 1 + 0 = t.val / 2; omega
  | ⟨1, _⟩ => show win0_0.index t 1 * 1024 + r.val = 1024 * (t.val % 2) + r.val; omega
  | ⟨2, _⟩ => show win0_0.index t 2 * 2816 + k.val = k.val; omega

theorem x_blk (c : Dev nD) (t : Fin cfg0.N) (r : Fin 1024) (d : Fin 1024) :
    iblk m c 1 t (ix3 0 r d : S1x1024x1024.Idx) = m ((c : Thread nD τ).loc main_arg1) (ix3 (bOf t) (sOf t r) d : S16x2048x1024.Idx) := by
  obtain ⟨-, ⟨h0, h1, h2⟩, -⟩ := idx_facts t
  show V m c main_arg1 ((win0_1.rect t).emb (ix3 0 r d : S1x1024x1024.Idx)) = _
  rw [V_main_arg1]
  congr 1
  funext a
  apply Fin.ext
  refine (Pipeline.Window.rect_emb_val win0_1 t _ a).trans ?_
  match a with
  | ⟨0, _⟩ => show win0_1.index t 0 * 1 + 0 = t.val / 2; omega
  | ⟨1, _⟩ => show win0_1.index t 1 * 1024 + r.val = 1024 * (t.val % 2) + r.val; omega
  | ⟨2, _⟩ => show win0_1.index t 2 * 1024 + d.val = d.val; omega

theorem g_blk (c : Dev nD) (t : Fin cfg0.N) (d : Fin 1024) :
    iblk m c 2 t (ix3 0 0 d : S1x1x1024.Idx) = m ((c : Thread nD τ).loc main_arg2) (ix3 (bOf t) 0 d : S16x1x1024.Idx) := by
  obtain ⟨-, -, ⟨h0, h1, h2⟩, -⟩ := idx_facts t
  show V m c main_arg2 ((win0_2.rect t).emb (ix3 0 0 d : S1x1x1024.Idx)) = _
  rw [V_main_arg2]
  congr 1
  funext a
  apply Fin.ext
  refine (Pipeline.Window.rect_emb_val win0_2 t _ a).trans ?_
  match a with
  | ⟨0, _⟩ => show win0_2.index t 0 * 1 + 0 = t.val / 2; omega
  | ⟨1, _⟩ => show win0_2.index t 1 * 1 + 0 = 0; omega
  | ⟨2, _⟩ => show win0_2.index t 2 * 1024 + d.val = d.val; omega

theorem w_entry (c : Dev nD) (k : Fin 2816) (d : Fin 1024) :
    V m c main_v1 (ix2 k d : S2816x1024.Idx) = m ((c : Thread nD τ).loc main_arg3) (ix3 0 k d : S1x2816x1024.Idx) := by
  unfold V
  after_reads_at

theorem fw_entry (c : Dev nD) (d : Fin 1024) :
    V m c main_v2 (ix2 0 d : S1x1024.Idx) = m ((c : Thread nD τ).loc main_arg4) (ix1 d : S1024.Idx) := by
  unfold V
  after_reads_at

theorem w_blk (c : Dev nD) (t : Fin cfg0.N) (k : Fin 2816) (d : Fin 1024) :
    iblk m c 3 t (ix2 k d : S2816x1024.Idx) = m ((c : Thread nD τ).loc main_arg3) (ix3 0 k d : S1x2816x1024.Idx) := by
  obtain ⟨-, -, -, ⟨h0, h1⟩, -⟩ := idx_facts t
  rw [← w_entry m]
  show V m c main_v1 ((win0_3.rect t).emb (ix2 k d : S2816x1024.Idx)) = _
  congr 1
  funext a
  apply Fin.ext
  refine (Pipeline.Window.rect_emb_val win0_3 t _ a).trans ?_
  match a with
  | ⟨0, _⟩ => show win0_3.index t 0 * 2816 + k.val = k.val; omega
  | ⟨1, _⟩ => show win0_3.index t 1 * 1024 + d.val = d.val; omega

theorem fw_blk (c : Dev nD) (t : Fin cfg0.N) (d : Fin 1024) :
    iblk m c 4 t (ix2 0 d : S1x1024.Idx) = m ((c : Thread nD τ).loc main_arg4) (ix1 d : S1024.Idx) := by
  obtain ⟨-, -, -, -, ⟨h0, h1⟩, -⟩ := idx_facts t
  rw [← fw_entry m]
  show V m c main_v2 ((win0_4.rect t).emb (ix2 0 d : S1x1024.Idx)) = _
  congr 1
  funext a
  apply Fin.ext
  refine (Pipeline.Window.rect_emb_val win0_4 t _ a).trans ?_
  match a with
  | ⟨0, _⟩ => show win0_4.index t 0 * 1 + 0 = 0; omega
  | ⟨1, _⟩ => show win0_4.index t 1 * 1024 + d.val = d.val; omega

/-- One token's residual row: the token's entry plus the gate times the product with the weights. -/
def resid (act : Fin 2816 → EReal) (x g : Fin 1024 → EReal) (w : Fin 2816 → Fin 1024 → EReal) (d : Fin 1024) : EReal :=
  x d + g d * ∑ k : Fin 2816, act k * w k d

/-- The row over its root mean square, times the closing weight. -/
def rowOut (y : Fin 1024 → EReal) (fw : Fin 1024 → EReal) (d : Fin 1024) : EReal :=
  y d * Ideal.rsqrt (Ideal.div (∑ k : Fin 1024, y k * y k) (Ideal.ofBits .f32 0x44800000#32) + Ideal.ofBits .f32 0x358637BD#32) * fw d

set_option maxRecDepth 16384 in
theorem pay_apply (x0 : Vec Ideal S1x1024x2816 .bf16) (x1 : Vec Ideal S1x1024x1024 .f32) (x2 : Vec Ideal S1x1x1024 .f32)
    (x3 : Vec Ideal S2816x1024 .bf16) (x4 : Vec Ideal S1x1024 .f32) (r : Fin 1024) (d : Fin 1024) :
    k0_pay1 x1 x2 x0 x3 x4 (ix3 0 r d : S1x1024x1024.Idx)
      = rowOut (resid (fun k => x0 (ix3 0 r k)) (fun d => x1 (ix3 0 r d)) (fun d => x2 (ix3 0 0 d)) (fun k d => x3 (ix2 k d)))
          (fun d => x4 (ix2 0 d)) d := by
  pointwise [k0_pay1]
  rfl

theorem z2 : (![0, 0] : Fin 2 → Nat) = fun _ => 0 := funext fun a => by fin_cases a <;> rfl
theorem z3 : (![0, 0, 0] : Fin 3 → Nat) = fun _ => 0 := funext fun a => by fin_cases a <;> rfl

/-- Grid point `t` writes back, at row `r` of its block, the finished row of token `(bOf t, sOf t r)`. -/
theorem flushed_apply (c : Dev nD) (t : Fin cfg0.N) (r d : Fin 1024) :
    (dats m 0 c).flushed 5 t (ix3 0 r d : S1x1024x1024.Idx)
      = rowOut (resid (fun k => m ((c : Thread nD τ).loc main_arg0) (ix3 (bOf t) (sOf t r) k : S16x2048x2816.Idx))
          (fun d => m ((c : Thread nD τ).loc main_arg1) (ix3 (bOf t) (sOf t r) d : S16x2048x1024.Idx))
          (fun d => m ((c : Thread nD τ).loc main_arg2) (ix3 (bOf t) 0 d : S16x1x1024.Idx))
          (fun k d => m ((c : Thread nD τ).loc main_arg3) (ix3 0 k d : S1x2816x1024.Idx)))
          (fun d => m ((c : Thread nD τ).loc main_arg4) (ix1 d : S1024.Idx)) d := by
  rw [Value.flushed5]
  show out0_5 _ _ _ _ _ (ix3 0 r d : S1x1024x1024.Idx) = _
  unfold out0_5
  rw [View.canon_unit_zero (funext fun a => by fin_cases a <;> rfl)]
  rw [View.ld_unit_zero (S := S1x1024x1024) z3, View.ld_unit_zero (S := S1x1x1024) z3, View.ld_unit_zero (S := S1x1024x2816) z3,
    View.ld_unit_zero (S := S2816x1024) z2, View.ld_unit_zero (S := S1x1024) z2]
  rw [pay_apply]
  simp only [act_blk m c t, x_blk m c t, g_blk m c t, w_blk m c t, fw_blk m c t]

/-- The point that token `(b, s)` belongs to. -/
def ptOf (b : Fin 16) (s : Fin 2048) : Fin cfg0.N :=
  ⟨2 * b.val + s.val / 1024, by have := b.isLt; have := s.isLt; have := grid_size; omega⟩

/-- The result array after the run, at token `(b, s)`. -/
theorem final_apply (c : Dev nD) (b : Fin 16) (s : Fin 2048) (d : Fin 1024) :
    (dats m 0 c).arrAt 5 cfg0.N (ix3 b s d : S16x2048x1024.Idx)
      = rowOut (resid (fun k => m ((c : Thread nD τ).loc main_arg0) (ix3 b s k : S16x2048x2816.Idx))
          (fun d => m ((c : Thread nD τ).loc main_arg1) (ix3 b s d : S16x2048x1024.Idx))
          (fun d => m ((c : Thread nD τ).loc main_arg2) (ix3 b 0 d : S16x1x1024.Idx))
          (fun k d => m ((c : Thread nD τ).loc main_arg3) (ix3 0 k d : S1x2816x1024.Idx)))
          (fun d => m ((c : Thread nD τ).loc main_arg4) (ix1 d : S1024.Idx)) d := by
  have hr : s.val % 1024 < 1024 := Nat.mod_lt _ (by decide)
  have h := (dats m 0 c).arrAt_emb_eq_flushed 5 Value.disjoint5 (ptOf b s) (flush0_5 _)
    (ix3 0 ⟨s.val % 1024, hr⟩ d : S1x1024x1024.Idx)
  have hb : bOf (ptOf b s) = b := Fin.ext (by show (2 * b.val + s.val / 1024) / 2 = b.val; have := s.isLt; omega)
  have hs : sOf (ptOf b s) ⟨s.val % 1024, hr⟩ = s :=
    Fin.ext (by show 1024 * ((2 * b.val + s.val / 1024) % 2) + s.val % 1024 = s.val; have := s.isLt; omega)
  have he : ((cfg0.win 5).blk (ptOf b s)).view.emb (ix3 0 ⟨s.val % 1024, hr⟩ d : S1x1024x1024.Idx) = (ix3 b s d : S16x2048x1024.Idx) := by
    obtain ⟨-, -, -, -, -, ⟨h0, h1, h2⟩⟩ := idx_facts (ptOf b s)
    funext a
    apply Fin.ext
    refine (Pipeline.Window.rect_emb_val win0_5 (ptOf b s) _ a).trans ?_
    match a with
    | ⟨0, _⟩ => show win0_5.index (ptOf b s) 0 * 1 + 0 = b.val; rw [h0, Nat.mul_one]; exact congrArg Fin.val hb
    | ⟨1, _⟩ =>
      show win0_5.index (ptOf b s) 1 * 1024 + s.val % 1024 = s.val
      rw [h1, Nat.mul_comm]; exact congrArg Fin.val hs
    | ⟨2, _⟩ => show win0_5.index (ptOf b s) 2 * 1024 + d.val = d.val; omega
  rw [he] at h
  refine h.trans ?_
  refine (flushed_apply m c (ptOf b s) ⟨s.val % 1024, hr⟩ d).trans ?_
  rw [hb, hs]

/-! ## jnp's lines for the same part -/

section Reference
open Cert.FfnOutRefIdeal.Read

set_option maxRecDepth 16384 in
theorem ref_apply (a0 : FVec Ideal S16x2048x2816 .bf16) (a1 : FVec Ideal S16x2048x1024 .f32) (a2 : FVec Ideal S16x1x1024 .f32)
    (a3 : FVec Ideal S1x2816x1024 .f32) (a4 : FVec Ideal S1024 .f32) (b : Fin 16) (s : Fin 2048) (d : Fin 1024) :
    val_main_v18 (F := Ideal) a0 a1 a2 a3 a4 (ix3 b s d : S16x2048x1024.Idx)
      = rowOut (resid (fun k => a0 (ix3 b s k)) (fun d => a1 (ix3 b s d)) (fun d => a2 (ix3 b 0 d)) (fun k d => a3 (ix3 0 k d)))
          (fun d => a4 (ix1 d)) d := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1]
  rfl

end Reference

theorem algebraic_run : Cert.algebraic_FfnOutIdeal_FfnOutRefIdeal := by
  intro m g m' g' _ hagree
  refine ⟨fun c => (dats m 0 c).arrAt 5 cfg0.N, Value.run_blocks m g, ?_⟩
  refine (θ_run _ _ _).mono (fun r h c => ⟨(h c).1.trans ?_, (h c).2⟩) (Cert.FfnOutRefIdeal.Value.run (F := Ideal) m' g')
  rw [Cert.FfnOutRefIdeal.Read.val_main_v18_eq]
  obtain ⟨e0, e1, e2, e3, e4⟩ := hagree c
  refine funext fun i => ?_
  rw [eq_ix3 (i : S16x2048x1024.Idx)]
  refine (ref_apply _ _ _ _ _ _ _ _).trans ?_
  rw [e0, e1, e2, e3, e4]
  exact (final_apply m c _ _ _).symm

end Cert.FfnOutEq

end
-- ==== Proof.MergeValue.lean ====
/- The merge of the two branches: what its two result arrays hold, element by element, and that jnp's modulated norm,
   gates, products, residual and second norm give the same extended reals. -/
module

public import proofs.«01_k».proof.Defs
public import proofs.«01_k».proof.Proof.Gen.MergeIdeal.Value
public import proofs.«01_k».proof.Proof.Gen.MergeRefIdeal.Read
public import Idealize.ShloMosaic.Lib.Pointwise
public import Idealize.ShloMosaic.Lib.StableHlo.ReadAt
public import Idealize.ShloMosaic.Lib.Claim

@[expose] public section

noncomputable section

namespace Cert.MergeEq

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

theorem grid_size : cfg0.N = 64 := by decide

/-- The batch row and the quarter of the sequence that grid point `t` works on. -/
def bOf (t : Fin cfg0.N) : Fin 16 := ⟨t.val / 4, by have := t.isLt; have := grid_size; omega⟩
def sOf (t : Fin cfg0.N) (r : Fin 512) : Fin 2048 := ⟨512 * (t.val % 4) + r.val, by have := r.isLt; omega⟩

theorem idx_facts : ∀ t : Fin cfg0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = t.val / 4 ∧ win0_3.index t 1 = 0 ∧ win0_3.index t 2 = 0)
    ∧ (win0_4.index t 0 = 0 ∧ win0_4.index t 1 = 0)
    ∧ (win0_5.index t 0 = t.val / 4 ∧ win0_5.index t 1 = 0 ∧ win0_5.index t 2 = 0)
    ∧ (win0_6.index t 0 = t.val / 4 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = t.val / 4 ∧ win0_12.index t 1 = 0 ∧ win0_12.index t 2 = 0)
    ∧ (win0_13.index t 0 = t.val / 4 ∧ win0_13.index t 1 = 0 ∧ win0_13.index t 2 = 0)
    ∧ (win0_14.index t 0 = t.val / 4 ∧ win0_14.index t 1 = t.val % 4 ∧ win0_14.index t 2 = 0)
    ∧ (win0_15.index t 0 = t.val / 4 ∧ win0_15.index t 1 = t.val % 4 ∧ win0_15.index t 2 = 0) :=
  (by decide +kernel : ∀ t : Fin grid0.N, _)

theorem x_blk (c : Dev nD) (t : Fin cfg0.N) (r : Fin 512) (d : Fin 1024) :
    iblk m c 0 t (ix3 0 r d : S1x512x1024.Idx) = m ((c : Thread nD τ).loc main_arg0) (ix3 (bOf t) (sOf t r) d : S16x2048x1024.Idx) := by
  obtain ⟨⟨h0, h1, h2⟩, -⟩ := idx_facts t
  show V m c main_arg0 ((win0_0.rect t).emb (ix3 0 r d : S1x512x1024.Idx)) = _
  rw [V_main_arg0]
  congr 1
  funext a
  apply Fin.ext
  refine (Pipeline.Window.rect_emb_val win0_0 t _ a).trans ?_
  match a with
  | ⟨0, _⟩ => show win0_0.index t 0 * 1 + 0 = t.val / 4; omega
  | ⟨1, _⟩ => show win0_0.index t 1 * 512 + r.val = 512 * (t.val % 4) + r.val; omega
  | ⟨2, _⟩ => show win0_0.index t 2 * 1024 + d.val = d.val; omega

theorem yhy_blk (c : Dev nD) (t : Fin cfg0.N) (r : Fin 512) (d : Fin 512) :
    iblk m c 1 t (ix3 0 r d : S1x512x512.Idx) = m ((c : Thread nD τ).loc main_arg1) (ix3 (bOf t) (sOf t r) d : S16x2048x512.Idx) := by
  obtain ⟨-, ⟨h0, h1, h2⟩, -⟩ := idx_facts t
  show V m c main_arg1 ((win0_1.rect t).emb (ix3 0 r d : S1x512x512.Idx)) = _
  rw [V_main_arg1]
  congr 1
  funext a
  apply Fin.ext
  refine (Pipeline.Window.rect_emb_val win0_1 t _ a).trans ?_
  match a with
  | ⟨0, _⟩ => show win0_1.index t 0 * 1 + 0 = t.val / 4; omega
  | ⟨1, _⟩ => show win0_1.index t 1 * 512 + r.val = 512 * (t.val % 4) + r.val; omega
  | ⟨2, _⟩ => show win0_1.index t 2 * 512 + d.val = d.val; omega

theorem ygla_blk (c : Dev nD) (t : Fin cfg0.N) (r : Fin 512) (d : Fin 512) :
    iblk m c 2 t (ix3 0 r d : S1x512x512.Idx) = m ((c : Thread nD τ).loc main_arg2) (ix3 (bOf t) (sOf t r) d : S16x2048x512.Idx) := by
  obtain ⟨-, -, ⟨h0, h1, h2⟩, -⟩ := idx_facts t
  show V m c main_arg2 ((win0_2.rect t).emb (ix3 0 r d : S1x512x512.Idx)) = _
  rw [V_main_arg2]
  congr 1
  funext a
  apply Fin.ext
  refine (Pipeline.Window.rect_emb_val win0_2 t _ a).trans ?_
  match a with
  | ⟨0, _⟩ => show win0_2.index t 0 * 1 + 0 = t.val / 4; omega
  | ⟨1, _⟩ => show win0_2.index t 1 * 512 + r.val = 512 * (t.val % 4) + r.val; omega
  | ⟨2, _⟩ => show win0_2.index t 2 * 512 + d.val = d.val; omega

theorem g1_blk (c : Dev nD) (t : Fin cfg0.N) (d : Fin 1024) :
    iblk m c 3 t (ix3 0 0 d : S1x1x1024.Idx) = m ((c : Thread nD τ).loc main_arg3) (ix3 (bOf t) 0 d : S16x1x1024.Idx) := by
  obtain ⟨-, -, -, ⟨h0, h1, h2⟩, -⟩ := idx_facts t
  show V m c main_arg3 ((win0_3.rect t).emb (ix3 0 0 d : S1x1x1024.Idx)) = _
  rw [V_main_arg3]
  congr 1
  funext a
  apply Fin.ext
  refine (Pipeline.Window.rect_emb_val win0_3 t _ a).trans ?_
  match a with
  | ⟨0, _⟩ => show win0_3.index t 0 * 1 + 0 = t.val / 4; omega
  | ⟨1, _⟩ => show win0_3.index t 1 * 1 + 0 = 0; omega
  | ⟨2, _⟩ => show win0_3.index t 2 * 1024 + d.val = d.val; omega

theorem nw1_entry (c : Dev nD) (d : Fin 1024) :
    V m c main_v11 (ix2 0 d : S1x1024.Idx) = m ((c : Thread nD τ).loc main_arg4) (ix2 0 d : S1x1024.Idx) := by
  unfold V
  after_reads_at

theorem nw1_blk (c : Dev nD) (t : Fin cfg0.N) (d : Fin 1024) :
    iblk m c 4 t (ix2 0 d : S1x1024.Idx) = m ((c : Thread nD τ).loc main_arg4) (ix2 0 d : S1x1024.Idx) := by
  obtain ⟨-, -, -, -, ⟨h0, h1⟩, -⟩ := idx_facts t
  rw [← nw1_entry m]
  show V m c main_v11 ((win0_4.rect t).emb (ix2 0 d : S1x1024.Idx)) = _
  congr 1
  funext a
  apply Fin.ext
  refine (Pipeline.Window.rect_emb_val win0_4 t _ a).trans ?_
  match a with
  | ⟨0, _⟩ => show win0_4.index t 0 * 1 + 0 = 0; omega
  | ⟨1, _⟩ => show win0_4.index t 1 * 1024 + d.val = d.val; omega

theorem sc1_blk (c : Dev nD) (t : Fin cfg0.N) (d : Fin 1024) :
    iblk m c 5 t (ix3 0 0 d : S1x1x1024.Idx) = m ((c : Thread nD τ).loc main_arg5) (ix3 (bOf t) 0 d : S16x1x1024.Idx) := by
  obtain ⟨-, -, -, -, -, ⟨h0, h1, h2⟩, -⟩ := idx_facts t
  show V m c main_arg5 ((win0_5.rect t).emb (ix3 0 0 d : S1x1x1024.Idx)) = _
  rw [V_main_arg5]
  congr 1
  funext a
  apply Fin.ext
  refine (Pipeline.Window.rect_emb_val win0_5 t _ a).trans ?_
  match a with
  | ⟨0, _⟩ => show win0_5.index t 0 * 1 + 0 = t.val / 4; omega
  | ⟨1, _⟩ => show win0_5.index t 1 * 1 + 0 = 0; omega
  | ⟨2, _⟩ => show win0_5.index t 2 * 1024 + d.val = d.val; omega

theorem sh1_blk (c : Dev nD) (t : Fin cfg0.N) (d : Fin 1024) :
    iblk m c 6 t (ix3 0 0 d : S1x1x1024.Idx) = m ((c : Thread nD τ).loc main_arg6) (ix3 (bOf t) 0 d : S16x1x1024.Idx) := by
  obtain ⟨-, -, -, -, -, -, ⟨h0, h1, h2⟩, -⟩ := idx_facts t
  show V m c main_arg6 ((win0_6.rect t).emb (ix3 0 0 d : S1x1x1024.Idx)) = _
  rw [V_main_arg6]
  congr 1
  funext a
  apply Fin.ext
  refine (Pipeline.Window.rect_emb_val win0_6 t _ a).trans ?_
  match a with
  | ⟨0, _⟩ => show win0_6.index t 0 * 1 + 0 = t.val / 4; omega
  | ⟨1, _⟩ => show win0_6.index t 1 * 1 + 0 = 0; omega
  | ⟨2, _⟩ => show win0_6.index t 2 * 1024 + d.val = d.val; omega

theorem wg_entry (c : Dev nD) (k : Fin 1024) (d : Fin 2048) :
    V m c main_v2 (ix2 k d : S1024x2048.Idx) = m ((c : Thread nD τ).loc main_arg7) (ix3 0 k ⟨3104 + d.val, by have := d.isLt; omega⟩ : S1x1024x5152.Idx) := by
  unfold V
  after_reads_at

theorem wg_blk (c : Dev nD) (t : Fin cfg0.N) (k : Fin 1024) (d : Fin 2048) :
    iblk m c 7 t (ix2 k d : S1024x2048.Idx) = m ((c : Thread nD τ).loc main_arg7) (ix3 0 k ⟨3104 + d.val, by have := d.isLt; omega⟩ : S1x1024x5152.Idx) := by
  obtain ⟨-, -, -, -, -, -, -, ⟨h0, h1⟩, -⟩ := idx_facts t
  rw [← wg_entry m]
  show V m c main_v2 ((win0_7.rect t).emb (ix2 k d : S1024x2048.Idx)) = _
  congr 1
  funext a
  apply Fin.ext
  refine (Pipeline.Window.rect_emb_val win0_7 t _ a).trans ?_
  match a with
  | ⟨0, _⟩ => show win0_7.index t 0 * 1024 + k.val = k.val; omega
  | ⟨1, _⟩ => show win0_7.index t 1 * 2048 + d.val = d.val; omega

theorem whp_entry (c : Dev nD) (k : Fin 512) (d : Fin 1024) :
    V m c main_v5 (ix2 k d : S512x1024.Idx) = m ((c : Thread nD τ).loc main_arg8) (ix3 0 k d : S1x512x1024.Idx) := by
  unfold V
  after_reads_at

theorem whp_blk (c : Dev nD) (t : Fin cfg0.N) (k : Fin 512) (d : Fin 1024) :
    iblk m c 8 t (ix2 k d : S512x1024.Idx) = m ((c : Thread nD τ).loc main_arg8) (ix3 0 k d : S1x512x1024.Idx) := by
  obtain ⟨-, -, -, -, -, -, -, -, ⟨h0, h1⟩, -⟩ := idx_facts t
  rw [← whp_entry m]
  show V m c main_v5 ((win0_8.rect t).emb (ix2 k d : S512x1024.Idx)) = _
  congr 1
  funext a
  apply Fin.ext
  refine (Pipeline.Window.rect_emb_val win0_8 t _ a).trans ?_
  match a with
  | ⟨0, _⟩ => show win0_8.index t 0 * 512 + k.val = k.val; omega
  | ⟨1, _⟩ => show win0_8.index t 1 * 1024 + d.val = d.val; omega

theorem wgp_entry (c : Dev nD) (k : Fin 512) (d : Fin 1024) :
    V m c main_v7 (ix2 k d : S512x1024.Idx) = m ((c : Thread nD τ).loc main_arg9) (ix3 0 k d : S1x512x1024.Idx) := by
  unfold V
  after_reads_at

theorem wgp_blk (c : Dev nD) (t : Fin cfg0.N) (k : Fin 512) (d : Fin 1024) :
    iblk m c 9 t (ix2 k d : S512x1024.Idx) = m ((c : Thread nD τ).loc main_arg9) (ix3 0 k d : S1x512x1024.Idx) := by
  obtain ⟨-, -, -, -, -, -, -, -, -, ⟨h0, h1⟩, -⟩ := idx_facts t
  rw [← wgp_entry m]
  show V m c main_v7 ((win0_9.rect t).emb (ix2 k d : S512x1024.Idx)) = _
  congr 1
  funext a
  apply Fin.ext
  refine (Pipeline.Window.rect_emb_val win0_9 t _ a).trans ?_
  match a with
  | ⟨0, _⟩ => show win0_9.index t 0 * 512 + k.val = k.val; omega
  | ⟨1, _⟩ => show win0_9.index t 1 * 1024 + d.val = d.val; omega

theorem wo_entry (c : Dev nD) (k : Fin 1024) (d : Fin 1024) :
    V m c main_v9 (ix2 k d : S1024x1024.Idx) = m ((c : Thread nD τ).loc main_arg10) (ix3 0 k d : S1x1024x1024.Idx) := by
  unfold V
  after_reads_at

theorem wo_blk (c : Dev nD) (t : Fin cfg0.N) (k : Fin 1024) (d : Fin 1024) :
    iblk m c 10 t (ix2 k d : S1024x1024.Idx) = m ((c : Thread nD τ).loc main_arg10) (ix3 0 k d : S1x1024x1024.Idx) := by
  obtain ⟨-, -, -, -, -, -, -, -, -, -, ⟨h0, h1⟩, -⟩ := idx_facts t
  rw [← wo_entry m]
  show V m c main_v9 ((win0_10.rect t).emb (ix2 k d : S1024x1024.Idx)) = _
  congr 1
  funext a
  apply Fin.ext
  refine (Pipeline.Window.rect_emb_val win0_10 t _ a).trans ?_
  match a with
  | ⟨0, _⟩ => show win0_10.index t 0 * 1024 + k.val = k.val; omega
  | ⟨1, _⟩ => show win0_10.index t 1 * 1024 + d.val = d.val; omega

theorem nw2_entry (c : Dev nD) (d : Fin 1024) :
    V m c main_v12 (ix2 0 d : S1x1024.Idx) = m ((c : Thread nD τ).loc main_arg11) (ix2 0 d : S1x1024.Idx) := by
  unfold V
  after_reads_at

theorem nw2_blk (c : Dev nD) (t : Fin cfg0.N) (d : Fin 1024) :
    iblk m c 11 t (ix2 0 d : S1x1024.Idx) = m ((c : Thread nD τ).loc main_arg11) (ix2 0 d : S1x1024.Idx) := by
  obtain ⟨-, -, -, -, -, -, -, -, -, -, -, ⟨h0, h1⟩, -⟩ := idx_facts t
  rw [← nw2_entry m]
  show V m c main_v12 ((win0_11.rect t).emb (ix2 0 d : S1x1024.Idx)) = _
  congr 1
  funext a
  apply Fin.ext
  refine (Pipeline.Window.rect_emb_val win0_11 t _ a).trans ?_
  match a with
  | ⟨0, _⟩ => show win0_11.index t 0 * 1 + 0 = 0; omega
  | ⟨1, _⟩ => show win0_11.index t 1 * 1024 + d.val = d.val; omega

theorem sc2_blk (c : Dev nD) (t : Fin cfg0.N) (d : Fin 1024) :
    iblk m c 12 t (ix3 0 0 d : S1x1x1024.Idx) = m ((c : Thread nD τ).loc main_arg12) (ix3 (bOf t) 0 d : S16x1x1024.Idx) := by
  obtain ⟨-, -, -, -, -, -, -, -, -, -, -, -, ⟨h0, h1, h2⟩, -⟩ := idx_facts t
  show V m c main_arg12 ((win0_12.rect t).emb (ix3 0 0 d : S1x1x1024.Idx)) = _
  rw [V_main_arg12]
  congr 1
  funext a
  apply Fin.ext
  refine (Pipeline.Window.rect_emb_val win0_12 t _ a).trans ?_
  match a with
  | ⟨0, _⟩ => show win0_12.index t 0 * 1 + 0 = t.val / 4; omega
  | ⟨1, _⟩ => show win0_12.index t 1 * 1 + 0 = 0; omega
  | ⟨2, _⟩ => show win0_12.index t 2 * 1024 + d.val = d.val; omega

theorem sh2_blk (c : Dev nD) (t : Fin cfg0.N) (d : Fin 1024) :
    iblk m c 13 t (ix3 0 0 d : S1x1x1024.Idx) = m ((c : Thread nD τ).loc main_arg13) (ix3 (bOf t) 0 d : S16x1x1024.Idx) := by
  obtain ⟨-, -, -, -, -, -, -, -, -, -, -, -, -, ⟨h0, h1, h2⟩, -⟩ := idx_facts t
  show V m c main_arg13 ((win0_13.rect t).emb (ix3 0 0 d : S1x1x1024.Idx)) = _
  rw [V_main_arg13]
  congr 1
  funext a
  apply Fin.ext
  refine (Pipeline.Window.rect_emb_val win0_13 t _ a).trans ?_
  match a with
  | ⟨0, _⟩ => show win0_13.index t 0 * 1 + 0 = t.val / 4; omega
  | ⟨1, _⟩ => show win0_13.index t 1 * 1 + 0 = 0; omega
  | ⟨2, _⟩ => show win0_13.index t 2 * 1024 + d.val = d.val; omega

/-- A row over its root mean square, times the norm's weight, scaled by one plus `sc` and shifted by `sh`. -/
def modNorm (x nw sc sh : Fin 1024 → EReal) (d : Fin 1024) : EReal :=
  x d * Ideal.rsqrt (Ideal.div (∑ k : Fin 1024, x k * x k) (Ideal.ofBits .f32 0x44800000#32) + Ideal.ofBits .f32 0x358637BD#32) * nw d
    * (1 + sc d) + sh d

/-- One over one plus the exponential of minus `z`. -/
def gate (z : EReal) : EReal := Ideal.div 1 (1 + Ideal.exp (-z))

/-- One token's gated sum of the two branches, each through its own projection. -/
def merged (h : Fin 1024 → EReal) (yhy ygla : Fin 512 → EReal) (wg : Fin 1024 → Fin 2048 → EReal) (whp wgp : Fin 512 → Fin 1024 → EReal)
    (d : Fin 1024) : EReal :=
  gate (∑ k : Fin 1024, h k * wg k ⟨d.val, by have := d.isLt; omega⟩) * (∑ k : Fin 512, yhy k * whp k d)
    + gate (∑ k : Fin 1024, h k * wg k ⟨1024 + d.val, by have := d.isLt; omega⟩) * (∑ k : Fin 512, ygla k * wgp k d)

/-- One token's new residual row. -/
def newRow (x g : Fin 1024 → EReal) (z : Fin 1024 → EReal) (wo : Fin 1024 → Fin 1024 → EReal) (d : Fin 1024) : EReal :=
  x d + g d * ∑ k : Fin 1024, z k * wo k d

theorem z2 : (![0, 0] : Fin 2 → Nat) = fun _ => 0 := funext fun a => by fin_cases a <;> rfl
theorem z3 : (![0, 0, 0] : Fin 3 → Nat) = fun _ => 0 := funext fun a => by fin_cases a <;> rfl

set_option maxRecDepth 16384 in
theorem h_apply (v0 : Vec Ideal S1x512x1024 .f32) (v12 : Vec Ideal S1x1024 .f32) (v16 v22 : Vec Ideal S1x1x1024 .f32) (r : Fin 512) (d : Fin 1024) :
    k0_pay4 v0 v12 v16 v22 (ix2 r d : S512x1024.Idx)
      = modNorm (fun d => v0 (ix3 0 r d)) (fun d => v12 (ix2 0 d)) (fun d => v16 (ix3 0 0 d)) (fun d => v22 (ix3 0 0 d)) d := by
  pointwise [k0_pay4]
  rfl

set_option maxRecDepth 16384 in
theorem gate_apply (v0 : Vec Ideal S1x512x1024 .f32) (v12 : Vec Ideal S1x1024 .f32) (v16 v22 : Vec Ideal S1x1x1024 .f32)
    (v27 : Vec Ideal S1024x1024 .bf16) (r : Fin 512) (d : Fin 1024) :
    k0_pay5 v0 v12 v16 v22 v27 (ix2 r d : S512x1024.Idx)
      = gate (∑ k : Fin 1024, k0_pay4 v0 v12 v16 v22 (ix2 r k : S512x1024.Idx) * v27 (ix2 k d)) := by
  pointwise [k0_pay5]
  rw [zero_sub]
  rfl

set_option maxRecDepth 16384 in
theorem mix_apply (h : FVec Ideal S512x1024 .bf16) (g0 : FVec Ideal S512x1024 .f32) (yhy : Vec Ideal S1x512x512 .bf16) (whp : Vec Ideal S512x1024 .bf16)
    (wg : Vec Ideal S1024x1024 .bf16) (ygla : Vec Ideal S1x512x512 .bf16) (wgp : Vec Ideal S512x1024 .bf16) (wo : Vec Ideal S1024x1024 .bf16)
    (g1 : Vec Ideal S1x1x1024 .f32) (r : Fin 512) (d : Fin 1024) :
    k0_pay7 h g0 yhy whp wg ygla wgp wo g1 (ix2 r d : S512x1024.Idx)
      = g1 (ix3 0 0 d) * ∑ j : Fin 1024, (g0 (ix2 r j) * (∑ k : Fin 512, yhy (ix3 0 r k) * whp (ix2 k j))
          + gate (∑ k : Fin 1024, h (ix2 r k) * wg (ix2 k j)) * (∑ k : Fin 512, ygla (ix3 0 r k) * wgp (ix2 k j))) * wo (ix2 j d) := by
  pointwise [k0_pay7]
  simp only [zero_sub]
  rfl

set_option maxRecDepth 16384 in
theorem x_apply (v : Vec Ideal S1x512x1024 .f32) (r : Fin 512) (d : Fin 1024) :
    k0_pay6 v (ix2 r d : S512x1024.Idx) = v (ix3 0 r d) := by
  pointwise [k0_pay6]

set_option maxRecDepth 16384 in
theorem wg_lo (x7 : Vec Ideal S1024x2048 .bf16) (k d : Fin 1024) :
    View.ld x7 r0_3 (ix2 k d : S1024x1024.Idx) = x7 (ix2 k ⟨d.val, by have := d.isLt; omega⟩) := by
  pointwise [r0_3]

set_option maxRecDepth 16384 in
theorem wg_hi (x7 : Vec Ideal S1024x2048 .bf16) (k d : Fin 1024) :
    View.ld x7 r0_6 (ix2 k d : S1024x1024.Idx) = x7 (ix2 k ⟨1024 + d.val, by have := d.isLt; omega⟩) := by
  pointwise [r0_6]

/-- The two addends of a block's new residual rows. -/
theorem row_apply (x0 : Vec Ideal S1x512x1024 .f32) (x1 x2 : Vec Ideal S1x512x512 .bf16) (x3 : Vec Ideal S1x1x1024 .f32) (x4 : Vec Ideal S1x1024 .f32)
    (x5 x6 : Vec Ideal S1x1x1024 .f32) (x7 : Vec Ideal S1024x2048 .bf16) (x8 x9 : Vec Ideal S512x1024 .bf16) (x10 : Vec Ideal S1024x1024 .bf16)
    (x11 : Vec Ideal S1x1024 .f32) (x12 x13 : Vec Ideal S1x1x1024 .f32) (r : Fin 512) (d : Fin 1024) :
    k0_pay8 x0 x1 x2 x3 x4 x5 x6 x7 x8 x9 x10 x11 x12 x13 (ix2 r d : S512x1024.Idx)
        + k0_pay9 x0 x1 x2 x3 x4 x5 x6 x7 x8 x9 x10 x11 x12 x13 (ix2 r d : S512x1024.Idx)
      = newRow (fun d => x0 (ix3 0 r d)) (fun d => x3 (ix3 0 0 d))
          (merged (modNorm (fun d => x0 (ix3 0 r d)) (fun d => x4 (ix2 0 d)) (fun d => x5 (ix3 0 0 d)) (fun d => x6 (ix3 0 0 d)))
            (fun k => x1 (ix3 0 r k)) (fun k => x2 (ix3 0 r k)) (fun k j => x7 (ix2 k j)) (fun k j => x8 (ix2 k j)) (fun k j => x9 (ix2 k j)))
          (fun k j => x10 (ix2 k j)) d := by
  unfold k0_pay8 k0_pay9
  rw [x_apply, mix_apply]
  simp only [gate_apply, h_apply]
  rw [View.ld_unit_zero (S := S1x512x1024) z3, View.ld_unit_zero (S := S1x512x512) z3, View.ld_unit_zero (S := S1x512x512) z3,
    View.ld_unit_zero (S := S1x1x1024) z3, View.ld_unit_zero (S := S1x1x1024) z3, View.ld_unit_zero (S := S1x1x1024) z3,
    View.ld_unit_zero (S := S1x1024) z2, View.ld_unit_zero (S := S512x1024) z2, View.ld_unit_zero (S := S512x1024) z2,
    View.ld_unit_zero (S := S1024x1024) z2]
  refine congrArg (fun z => _ + _ * z) (Finset.sum_congr rfl fun j _ => ?_)
  refine congrArg (· * _) (congrArg₂ (fun y z => gate y * _ + gate z * _) ?_ ?_)
  · exact Finset.sum_congr rfl fun k _ => congrArg (_ * ·) (wg_lo x7 k j)
  · exact Finset.sum_congr rfl fun k _ => congrArg (_ * ·) (wg_hi x7 k j)

set_option maxRecDepth 16384 in
theorem store_x_apply (u v : FVec Ideal S512x1024 .f32) (r : Fin 512) (d : Fin 1024) :
    k0_pay2 u v (ix3 0 r d : S1x512x1024.Idx) = u (ix2 r d) + v (ix2 r d) := by
  pointwise [k0_pay2, k0_pay1]

set_option maxRecDepth 16384 in
theorem store_h_apply (u v : FVec Ideal S512x1024 .f32) (nw : Vec Ideal S1x1024 .f32) (sc sh : Vec Ideal S1x1x1024 .f32) (r : Fin 512) (d : Fin 1024) :
    k0_pay3 u v nw sc sh (ix3 0 r d : S1x512x1024.Idx)
      = modNorm (fun d => u (ix2 r d) + v (ix2 r d)) (fun d => nw (ix2 0 d)) (fun d => sc (ix3 0 0 d)) (fun d => sh (ix3 0 0 d)) d := by
  pointwise [k0_pay3, k0_pay1]
  rfl

/-! ## The two results as functions of the arguments -/

/-- Token `(b, s)`'s new residual row, from the arguments. -/
def xNew (c : Dev nD) (b : Fin 16) (s : Fin 2048) (d : Fin 1024) : EReal :=
  newRow (fun d => m ((c : Thread nD τ).loc main_arg0) (ix3 b s d : S16x2048x1024.Idx))
    (fun d => m ((c : Thread nD τ).loc main_arg3) (ix3 b 0 d : S16x1x1024.Idx))
    (merged (modNorm (fun d => m ((c : Thread nD τ).loc main_arg0) (ix3 b s d : S16x2048x1024.Idx))
        (fun d => m ((c : Thread nD τ).loc main_arg4) (ix2 0 d : S1x1024.Idx))
        (fun d => m ((c : Thread nD τ).loc main_arg5) (ix3 b 0 d : S16x1x1024.Idx))
        (fun d => m ((c : Thread nD τ).loc main_arg6) (ix3 b 0 d : S16x1x1024.Idx)))
      (fun d => m ((c : Thread nD τ).loc main_arg1) (ix3 b s d : S16x2048x512.Idx))
      (fun d => m ((c : Thread nD τ).loc main_arg2) (ix3 b s d : S16x2048x512.Idx))
      (fun k d => m ((c : Thread nD τ).loc main_arg7) (ix3 0 k ⟨3104 + d.val, by have := d.isLt; omega⟩ : S1x1024x5152.Idx))
      (fun k d => m ((c : Thread nD τ).loc main_arg8) (ix3 0 k d : S1x512x1024.Idx))
      (fun k d => m ((c : Thread nD τ).loc main_arg9) (ix3 0 k d : S1x512x1024.Idx)))
    (fun k d => m ((c : Thread nD τ).loc main_arg10) (ix3 0 k d : S1x1024x1024.Idx)) d

/-- The second modulated norm of that row. -/
def hNew (c : Dev nD) (b : Fin 16) (s : Fin 2048) (d : Fin 1024) : EReal :=
  modNorm (xNew m c b s) (fun d => m ((c : Thread nD τ).loc main_arg11) (ix2 0 d : S1x1024.Idx))
    (fun d => m ((c : Thread nD τ).loc main_arg12) (ix3 b 0 d : S16x1x1024.Idx))
    (fun d => m ((c : Thread nD τ).loc main_arg13) (ix3 b 0 d : S16x1x1024.Idx)) d

/-- The addends' sum at point `t` is the new row of the point's token. -/
theorem row_blk (c : Dev nD) (t : Fin cfg0.N) (r : Fin 512) (d : Fin 1024) :
    k0_pay8 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 r d : S512x1024.Idx)
      + k0_pay9 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 r d : S512x1024.Idx)
      = xNew m c (bOf t) (sOf t r) d := by
  refine (row_apply _ _ _ _ _ _ _ _ _ _ _ _ _ _ r d).trans ?_
  simp only [x_blk m c t, yhy_blk m c t, ygla_blk m c t, g1_blk m c t, nw1_blk m c t, sc1_blk m c t, sh1_blk m c t, wg_blk m c t,
    whp_blk m c t, wgp_blk m c t, wo_blk m c t]
  rfl

theorem flushed_x (c : Dev nD) (t : Fin cfg0.N) (r : Fin 512) (d : Fin 1024) :
    (dats m 0 c).flushed 14 t (ix3 0 r d : S1x512x1024.Idx) = xNew m c (bOf t) (sOf t r) d := by
  rw [Value.flushed14]
  show out0_14 _ _ _ _ _ _ _ _ _ _ _ _ _ _ (ix3 0 r d : S1x512x1024.Idx) = _
  unfold out0_14
  rw [View.canon_unit_zero (funext fun a => by fin_cases a <;> rfl), store_x_apply]
  exact row_blk m c t r d

theorem flushed_h (c : Dev nD) (t : Fin cfg0.N) (r : Fin 512) (d : Fin 1024) :
    (dats m 0 c).flushed 15 t (ix3 0 r d : S1x512x1024.Idx) = hNew m c (bOf t) (sOf t r) d := by
  rw [Value.flushed15]
  show out0_15 _ _ _ _ _ _ _ _ _ _ _ _ _ _ (ix3 0 r d : S1x512x1024.Idx) = _
  unfold out0_15
  rw [View.canon_unit_zero (funext fun a => by fin_cases a <;> rfl), store_h_apply]
  rw [View.ld_unit_zero (S := S1x1024) z2, View.ld_unit_zero (S := S1x1x1024) z3, View.ld_unit_zero (S := S1x1x1024) z3]
  simp only [row_blk m c t, nw2_blk m c t, sc2_blk m c t, sh2_blk m c t]
  rfl

/-- The point that token `(b, s)` belongs to. -/
def ptOf (b : Fin 16) (s : Fin 2048) : Fin cfg0.N :=
  ⟨4 * b.val + s.val / 512, by have := b.isLt; have := s.isLt; have := grid_size; omega⟩

theorem pt_b (b : Fin 16) (s : Fin 2048) : bOf (ptOf b s) = b :=
  Fin.ext (by show (4 * b.val + s.val / 512) / 4 = b.val; have := s.isLt; omega)

theorem lt_tile (s : Fin 2048) : s.val % 512 < 512 := Nat.mod_lt _ (by decide)

theorem pt_s (b : Fin 16) (s : Fin 2048) : sOf (ptOf b s) ⟨s.val % 512, lt_tile s⟩ = s :=
  Fin.ext (by show 512 * ((4 * b.val + s.val / 512) % 4) + s.val % 512 = s.val; have := s.isLt; omega)

theorem emb14 (b : Fin 16) (s : Fin 2048) (d : Fin 1024) :
    ((cfg0.win 14).blk (ptOf b s)).view.emb (ix3 0 ⟨s.val % 512, lt_tile s⟩ d : S1x512x1024.Idx) = (ix3 b s d : S16x2048x1024.Idx) := by
  obtain ⟨-, -, -, -, -, -, -, -, -, -, -, -, -, -, ⟨h0, h1, h2⟩, -⟩ := idx_facts (ptOf b s)
  funext a
  apply Fin.ext
  refine (Pipeline.Window.rect_emb_val win0_14 (ptOf b s) _ a).trans ?_
  match a with
  | ⟨0, _⟩ => show win0_14.index (ptOf b s) 0 * 1 + 0 = b.val; rw [h0, Nat.mul_one]; exact congrArg Fin.val (pt_b b s)
  | ⟨1, _⟩ =>
    show win0_14.index (ptOf b s) 1 * 512 + s.val % 512 = s.val
    rw [h1, Nat.mul_comm]; exact congrArg Fin.val (pt_s b s)
  | ⟨2, _⟩ => show win0_14.index (ptOf b s) 2 * 1024 + d.val = d.val; omega

theorem emb15 (b : Fin 16) (s : Fin 2048) (d : Fin 1024) :
    ((cfg0.win 15).blk (ptOf b s)).view.emb (ix3 0 ⟨s.val % 512, lt_tile s⟩ d : S1x512x1024.Idx) = (ix3 b s d : S16x2048x1024.Idx) := by
  obtain ⟨-, -, -, -, -, -, -, -, -, -, -, -, -, -, -, ⟨h0, h1, h2⟩⟩ := idx_facts (ptOf b s)
  funext a
  apply Fin.ext
  refine (Pipeline.Window.rect_emb_val win0_15 (ptOf b s) _ a).trans ?_
  match a with
  | ⟨0, _⟩ => show win0_15.index (ptOf b s) 0 * 1 + 0 = b.val; rw [h0, Nat.mul_one]; exact congrArg Fin.val (pt_b b s)
  | ⟨1, _⟩ =>
    show win0_15.index (ptOf b s) 1 * 512 + s.val % 512 = s.val
    rw [h1, Nat.mul_comm]; exact congrArg Fin.val (pt_s b s)
  | ⟨2, _⟩ => show win0_15.index (ptOf b s) 2 * 1024 + d.val = d.val; omega

/-- The two result arrays after the run, at token `(b, s)`. -/
theorem final_x (c : Dev nD) (b : Fin 16) (s : Fin 2048) (d : Fin 1024) :
    (dats m 0 c).arrAt 14 cfg0.N (ix3 b s d : S16x2048x1024.Idx) = xNew m c b s d := by
  have h := (dats m 0 c).arrAt_emb_eq_flushed 14 Value.disjoint14 (ptOf b s) (flush0_14 _)
    (ix3 0 ⟨s.val % 512, lt_tile s⟩ d : S1x512x1024.Idx)
  rw [emb14] at h
  refine h.trans ((flushed_x m c (ptOf b s) ⟨s.val % 512, lt_tile s⟩ d).trans ?_)
  rw [pt_b, pt_s]

theorem final_h (c : Dev nD) (b : Fin 16) (s : Fin 2048) (d : Fin 1024) :
    (dats m 0 c).arrAt 15 cfg0.N (ix3 b s d : S16x2048x1024.Idx) = hNew m c b s d := by
  have h := (dats m 0 c).arrAt_emb_eq_flushed 15 Value.disjoint15 (ptOf b s) (flush0_15 _)
    (ix3 0 ⟨s.val % 512, lt_tile s⟩ d : S1x512x1024.Idx)
  rw [emb15] at h
  refine h.trans ((flushed_h m c (ptOf b s) ⟨s.val % 512, lt_tile s⟩ d).trans ?_)
  rw [pt_b, pt_s]

/-! ## jnp's lines for the same part -/

section Reference
open Cert.MergeRefIdeal.Read

set_option maxRecDepth 16384 in
theorem ref_h (a0 : FVec Ideal S16x2048x1024 .f32) (a4 : FVec Ideal S1x1024 .f32) (a5 a6 : FVec Ideal S16x1x1024 .f32)
    (b : Fin 16) (s : Fin 2048) (d : Fin 1024) :
    val_main_v19 (F := Ideal) a0 a4 a5 a6 (ix3 b s d : S16x2048x1024.Idx)
      = modNorm (fun d => a0 (ix3 b s d)) (fun d => a4 (ix2 0 d)) (fun d => a5 (ix3 b 0 d)) (fun d => a6 (ix3 b 0 d)) d := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_2]
  rfl

set_option maxRecDepth 16384 in
theorem ref_x (a0 : FVec Ideal S16x2048x1024 .f32) (a1 a2 : FVec Ideal S16x2048x512 .bf16) (a3 : FVec Ideal S16x1x1024 .f32)
    (a4 : FVec Ideal S1x1024 .f32) (a5 a6 : FVec Ideal S16x1x1024 .f32) (a7 : FVec Ideal S1x1024x5152 .f32)
    (a8 a9 : FVec Ideal S1x512x1024 .f32) (a10 : FVec Ideal S1x1024x1024 .f32) (b : Fin 16) (s : Fin 2048) (d : Fin 1024) :
    val_main_v50 (F := Ideal) a0 a1 a2 a3 a4 a5 a6 a7 a8 a9 a10 (ix3 b s d : S16x2048x1024.Idx)
      = newRow (fun d => a0 (ix3 b s d)) (fun d => a3 (ix3 b 0 d))
          (merged (modNorm (fun d => a0 (ix3 b s d)) (fun d => a4 (ix2 0 d)) (fun d => a5 (ix3 b 0 d)) (fun d => a6 (ix3 b 0 d)))
            (fun d => a1 (ix3 b s d)) (fun d => a2 (ix3 b s d)) (fun k d => a7 (ix3 0 k ⟨3104 + d.val, by have := d.isLt; omega⟩))
            (fun k d => a8 (ix3 0 k d)) (fun k d => a9 (ix3 0 k d)))
          (fun k d => a10 (ix3 0 k d)) d := by
  pointwise [val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22,
    val_main_v21, val_main_v20, val_main_cst_3, val_main_cst_4, val_main_cst_5, val_main_cst_6]
  simp only [ref_h]
  rfl

set_option maxRecDepth 16384 in
theorem ref_h2 (a0 : FVec Ideal S16x2048x1024 .f32) (a1 a2 : FVec Ideal S16x2048x512 .bf16) (a3 : FVec Ideal S16x1x1024 .f32)
    (a4 : FVec Ideal S1x1024 .f32) (a5 a6 : FVec Ideal S16x1x1024 .f32) (a7 : FVec Ideal S1x1024x5152 .f32)
    (a8 a9 : FVec Ideal S1x512x1024 .f32) (a10 : FVec Ideal S1x1024x1024 .f32) (a11 : FVec Ideal S1x1024 .f32)
    (a12 a13 : FVec Ideal S16x1x1024 .f32) (b : Fin 16) (s : Fin 2048) (d : Fin 1024) :
    val_main_v71 (F := Ideal) a0 a1 a2 a3 a4 a5 a6 a7 a8 a9 a10 a11 a12 a13 (ix3 b s d : S16x2048x1024.Idx)
      = modNorm (fun d => val_main_v50 (F := Ideal) a0 a1 a2 a3 a4 a5 a6 a7 a8 a9 a10 (ix3 b s d : S16x2048x1024.Idx))
          (fun d => a11 (ix2 0 d)) (fun d => a12 (ix3 b 0 d)) (fun d => a13 (ix3 b 0 d)) d := by
  pointwise [val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54, val_main_v53,
    val_main_v52, val_main_v51, val_main_cst_7, val_main_cst_8, val_main_cst_9, val_main_cst_10]
  rfl

end Reference

theorem algebraic_run : Cert.algebraic_MergeIdeal_MergeRefIdeal := by
  intro m g m' g' _ hagree
  refine ⟨fun c => (dats m 0 c).arrAt 14 cfg0.N, fun c => (dats m 0 c).arrAt 15 cfg0.N, Value.run_blocks m g, ?_⟩
  refine (θ_run _ _ _).mono (fun r h c => ⟨(h c).1.trans ?_, (h c).2.1.trans ?_, (h c).2.2⟩) (Cert.MergeRefIdeal.Value.run (F := Ideal) m' g')
  · rw [Cert.MergeRefIdeal.Read.val_main_v50_eq]
    obtain ⟨e0, e1, e2, e3, e4, e5, e6, e7, e8, e9, e10, e11, e12, e13⟩ := hagree c
    refine funext fun i => ?_
    rw [eq_ix3 (i : S16x2048x1024.Idx)]
    refine (ref_x _ _ _ _ _ _ _ _ _ _ _ _ _ _).trans ?_
    refine Eq.trans ?_ (final_x m c _ _ _).symm
    rw [e0, e1, e2, e3, e4, e5, e6, e7, e8, e9, e10]
    rfl
  · rw [Cert.MergeRefIdeal.Read.val_main_v71_eq]
    obtain ⟨e0, e1, e2, e3, e4, e5, e6, e7, e8, e9, e10, e11, e12, e13⟩ := hagree c
    refine funext fun i => ?_
    rw [eq_ix3 (i : S16x2048x1024.Idx)]
    refine (ref_h2 _ _ _ _ _ _ _ _ _ _ _ _ _ _ _ _ _).trans ?_
    refine (congrArg (fun x => modNorm x _ _ _ _) (funext fun d => ref_x _ _ _ _ _ _ _ _ _ _ _ _ _ d)).trans ?_
    refine Eq.trans ?_ (final_h m c _ _ _).symm
    rw [e0, e1, e2, e3, e4, e5, e6, e7, e8, e9, e10, e11, e12, e13]
    rfl

end Cert.MergeEq

end
-- ==== Proof.InProjValue.lean ====
/- The input projections: what the five result arrays hold, element by element, and that jnp's modulated norm, one
   product with the whole weight and slices, transposes and padding of it give the same extended reals. -/
module

public import proofs.«01_k».proof.Defs
public import proofs.«01_k».proof.Proof.Gen.InProjIdeal.Value
public import proofs.«01_k».proof.Proof.Gen.InProjRefIdeal.Read
public import Idealize.ShloMosaic.Lib.Pointwise
public import Idealize.ShloMosaic.Lib.StableHlo.ReadAt
public import Idealize.ShloMosaic.Lib.Claim
public import Idealize.ShloMosaic.Lib.Pipeline.ValueKit.Geometry

@[expose] public section

noncomputable section

namespace Cert.InProjEq

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

theorem grid_size : cfg0.N = 32 := by decide

/-- The batch row and the half of the sequence that grid point `t` works on. -/
def bOf (t : Fin cfg0.N) : Fin 16 := ⟨t.val / 2, by have := t.isLt; have := grid_size; omega⟩
def sOf (t : Fin cfg0.N) (r : Fin 1024) : Fin 2048 := ⟨1024 * (t.val % 2) + r.val, by have := r.isLt; omega⟩

/-- The weight column that column `n` of the packed weight is: the key columns are taken out. -/
def colOf (n : Fin 2816) : Fin 5152 :=
  if h : n.val < 1792 then ⟨n.val, by omega⟩ else ⟨256 + n.val, by have := n.isLt; omega⟩

/-- The decay weight, padded with zero columns. -/
def wPad (c : Dev nD) (k : Fin 1024) (n : Fin 128) : EReal :=
  if h : n.val < 32 then m ((c : Thread nD τ).loc main_arg4) (ix3 0 k ⟨3072 + n.val, by omega⟩ : S1x1024x5152.Idx) else 0

theorem pad_zero : (FloatOps.sitofp (F := Ideal) FTy.f32 0#32 : EReal) = 0 := by
  simp [FloatOps.sitofp]

theorem idx_facts : ∀ t : Fin cfg0.N,
    (win0_0.index t 0 = t.val / 2 ∧ win0_0.index t 1 = t.val % 2 ∧ win0_0.index t 2 = 0)
    ∧ (win0_1.index t 0 = 0 ∧ win0_1.index t 1 = 0)
    ∧ (win0_2.index t 0 = t.val / 2 ∧ win0_2.index t 1 = 0 ∧ win0_2.index t 2 = 0)
    ∧ (win0_3.index t 0 = t.val / 2 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val / 2 ∧ win0_8.index t 1 = t.val % 2 ∧ win0_8.index t 2 = 0)
    ∧ (win0_9.index t 0 = t.val / 2 ∧ win0_9.index t 1 = t.val % 2 ∧ win0_9.index t 2 = 0)
    ∧ (win0_10.index t 0 = t.val / 2 ∧ win0_10.index t 1 = t.val % 2 ∧ win0_10.index t 2 = 0 ∧ win0_10.index t 3 = 0)
    ∧ (win0_11.index t 0 = t.val / 2 ∧ win0_11.index t 1 = t.val % 2 ∧ win0_11.index t 2 = 0)
    ∧ (win0_12.index t 0 = t.val / 2 ∧ win0_12.index t 1 = 0 ∧ win0_12.index t 2 = t.val % 2) :=
  (by decide +kernel : ∀ t : Fin grid0.N, _)

theorem x_blk (c : Dev nD) (t : Fin cfg0.N) (r : Fin 1024) (d : Fin 1024) :
    iblk m c 0 t (ix3 0 r d : S1x1024x1024.Idx) = m ((c : Thread nD τ).loc main_arg0) (ix3 (bOf t) (sOf t r) d : S16x2048x1024.Idx) := by
  obtain ⟨⟨h0, h1, h2⟩, -⟩ := idx_facts t
  show V m c main_arg0 ((win0_0.rect t).emb (ix3 0 r d : S1x1024x1024.Idx)) = _
  rw [V_main_arg0]
  congr 1
  funext a
  apply Fin.ext
  refine (Pipeline.Window.rect_emb_val win0_0 t _ a).trans ?_
  match a with
  | ⟨0, _⟩ => show win0_0.index t 0 * 1 + 0 = t.val / 2; omega
  | ⟨1, _⟩ => show win0_0.index t 1 * 1024 + r.val = 1024 * (t.val % 2) + r.val; omega
  | ⟨2, _⟩ => show win0_0.index t 2 * 1024 + d.val = d.val; omega

theorem nw_entry (c : Dev nD) (d : Fin 1024) :
    V m c main_v13 (ix2 0 d : S1x1024.Idx) = m ((c : Thread nD τ).loc main_arg1) (ix2 0 d : S1x1024.Idx) := by
  unfold V
  after_reads_at

theorem nw_blk (c : Dev nD) (t : Fin cfg0.N) (d : Fin 1024) :
    iblk m c 1 t (ix2 0 d : S1x1024.Idx) = m ((c : Thread nD τ).loc main_arg1) (ix2 0 d : S1x1024.Idx) := by
  obtain ⟨-, ⟨h0, h1⟩, -⟩ := idx_facts t
  rw [← nw_entry m]
  show V m c main_v13 ((win0_1.rect t).emb (ix2 0 d : S1x1024.Idx)) = _
  congr 1
  funext a
  apply Fin.ext
  refine (Pipeline.Window.rect_emb_val win0_1 t _ a).trans ?_
  match a with
  | ⟨0, _⟩ => show win0_1.index t 0 * 1 + 0 = 0; omega
  | ⟨1, _⟩ => show win0_1.index t 1 * 1024 + d.val = d.val; omega

theorem sc_blk (c : Dev nD) (t : Fin cfg0.N) (d : Fin 1024) :
    iblk m c 2 t (ix3 0 0 d : S1x1x1024.Idx) = m ((c : Thread nD τ).loc main_arg2) (ix3 (bOf t) 0 d : S16x1x1024.Idx) := by
  obtain ⟨-, -, ⟨h0, h1, h2⟩, -⟩ := idx_facts t
  show V m c main_arg2 ((win0_2.rect t).emb (ix3 0 0 d : S1x1x1024.Idx)) = _
  rw [V_main_arg2]
  congr 1
  funext a
  apply Fin.ext
  refine (Pipeline.Window.rect_emb_val win0_2 t _ a).trans ?_
  match a with
  | ⟨0, _⟩ => show win0_2.index t 0 * 1 + 0 = t.val / 2; omega
  | ⟨1, _⟩ => show win0_2.index t 1 * 1 + 0 = 0; omega
  | ⟨2, _⟩ => show win0_2.index t 2 * 1024 + d.val = d.val; omega

theorem sh_blk (c : Dev nD) (t : Fin cfg0.N) (d : Fin 1024) :
    iblk m c 3 t (ix3 0 0 d : S1x1x1024.Idx) = m ((c : Thread nD τ).loc main_arg3) (ix3 (bOf t) 0 d : S16x1x1024.Idx) := by
  obtain ⟨-, -, -, ⟨h0, h1, h2⟩, -⟩ := idx_facts t
  show V m c main_arg3 ((win0_3.rect t).emb (ix3 0 0 d : S1x1x1024.Idx)) = _
  rw [V_main_arg3]
  congr 1
  funext a
  apply Fin.ext
  refine (Pipeline.Window.rect_emb_val win0_3 t _ a).trans ?_
  match a with
  | ⟨0, _⟩ => show win0_3.index t 0 * 1 + 0 = t.val / 2; omega
  | ⟨1, _⟩ => show win0_3.index t 1 * 1 + 0 = 0; omega
  | ⟨2, _⟩ => show win0_3.index t 2 * 1024 + d.val = d.val; omega

theorem wm_entry (c : Dev nD) (k : Fin 1024) (d : Fin 2816) :
    V m c main_v4 (ix2 k d : S1024x2816.Idx) = m ((c : Thread nD τ).loc main_arg4) (ix3 0 k (colOf d) : S1x1024x5152.Idx) := by
  unfold V
  after_reads_at
  unfold colOf
  by_cases h : d.val < 1792
  · simp only [h, dif_pos]
    after_reads_at
  · simp only [h, dif_neg, not_false_eq_true]
    after_reads_at
    exact congrArg (m (c.tc.loc main_arg4)) (congrArg (ix3 0 k) (Fin.ext (by show 2048 + (d.val - 1792) = 256 + d.val; omega)))

theorem wm_blk (c : Dev nD) (t : Fin cfg0.N) (k : Fin 1024) (d : Fin 2816) :
    iblk m c 4 t (ix2 k d : S1024x2816.Idx) = m ((c : Thread nD τ).loc main_arg4) (ix3 0 k (colOf d) : S1x1024x5152.Idx) := by
  obtain ⟨-, -, -, -, ⟨h0, h1⟩, -⟩ := idx_facts t
  rw [← wm_entry m]
  show V m c main_v4 ((win0_4.rect t).emb (ix2 k d : S1024x2816.Idx)) = _
  congr 1
  funext a
  apply Fin.ext
  refine (Pipeline.Window.rect_emb_val win0_4 t _ a).trans ?_
  match a with
  | ⟨0, _⟩ => show win0_4.index t 0 * 1024 + k.val = k.val; omega
  | ⟨1, _⟩ => show win0_4.index t 1 * 2816 + d.val = d.val; omega

theorem wk_entry (c : Dev nD) (k : Fin 256) (d : Fin 1024) :
    V m c main_v7 (ix2 k d : S256x1024.Idx) = m ((c : Thread nD τ).loc main_arg4) (ix3 0 d ⟨1792 + k.val, by have := k.isLt; omega⟩ : S1x1024x5152.Idx) := by
  unfold V
  after_reads_at

theorem wk_blk (c : Dev nD) (t : Fin cfg0.N) (k : Fin 256) (d : Fin 1024) :
    iblk m c 5 t (ix2 k d : S256x1024.Idx) = m ((c : Thread nD τ).loc main_arg4) (ix3 0 d ⟨1792 + k.val, by have := k.isLt; omega⟩ : S1x1024x5152.Idx) := by
  obtain ⟨-, -, -, -, -, ⟨h0, h1⟩, -⟩ := idx_facts t
  rw [← wk_entry m]
  show V m c main_v7 ((win0_5.rect t).emb (ix2 k d : S256x1024.Idx)) = _
  congr 1
  funext a
  apply Fin.ext
  refine (Pipeline.Window.rect_emb_val win0_5 t _ a).trans ?_
  match a with
  | ⟨0, _⟩ => show win0_5.index t 0 * 256 + k.val = k.val; omega
  | ⟨1, _⟩ => show win0_5.index t 1 * 1024 + d.val = d.val; omega

theorem wa_entry (c : Dev nD) (k : Fin 1024) (d : Fin 128) :
    V m c main_v10 (ix2 k d : S1024x128.Idx) = wPad m c k d := by
  unfold V
  after_reads_at
  simp only [pad_zero]
  rfl

theorem wa_blk (c : Dev nD) (t : Fin cfg0.N) (k : Fin 1024) (d : Fin 128) :
    iblk m c 6 t (ix2 k d : S1024x128.Idx) = wPad m c k d := by
  obtain ⟨-, -, -, -, -, -, ⟨h0, h1⟩, -⟩ := idx_facts t
  rw [← wa_entry m]
  show V m c main_v10 ((win0_6.rect t).emb (ix2 k d : S1024x128.Idx)) = _
  congr 1
  funext a
  apply Fin.ext
  refine (Pipeline.Window.rect_emb_val win0_6 t _ a).trans ?_
  match a with
  | ⟨0, _⟩ => show win0_6.index t 0 * 1024 + k.val = k.val; omega
  | ⟨1, _⟩ => show win0_6.index t 1 * 128 + d.val = d.val; omega

theorem wt_entry (c : Dev nD) (k : Fin 128) (d : Fin 1024) :
    V m c main_v11 (ix2 k d : S128x1024.Idx) = wPad m c d k := by
  unfold V
  after_reads_at
  simp only [pad_zero]
  rfl

theorem wt_blk (c : Dev nD) (t : Fin cfg0.N) (k : Fin 128) (d : Fin 1024) :
    iblk m c 7 t (ix2 k d : S128x1024.Idx) = wPad m c d k := by
  obtain ⟨-, -, -, -, -, -, -, ⟨h0, h1⟩, -⟩ := idx_facts t
  rw [← wt_entry m]
  show V m c main_v11 ((win0_7.rect t).emb (ix2 k d : S128x1024.Idx)) = _
  congr 1
  funext a
  apply Fin.ext
  refine (Pipeline.Window.rect_emb_val win0_7 t _ a).trans ?_
  match a with
  | ⟨0, _⟩ => show win0_7.index t 0 * 128 + k.val = k.val; omega
  | ⟨1, _⟩ => show win0_7.index t 1 * 1024 + d.val = d.val; omega

/-- One token's modulated root-mean-square norm. -/
def modNorm (x nw sc sh : Fin 1024 → EReal) (d : Fin 1024) : EReal :=
  x d * Ideal.rsqrt (Ideal.div (∑ k : Fin 1024, x k * x k) (Ideal.ofBits .f32 0x44800000#32) + Ideal.ofBits .f32 0x358637BD#32) * nw d
    * (1 + sc d) + sh d

theorem z2 : (![0, 0] : Fin 2 → Nat) = fun _ => 0 := funext fun a => by fin_cases a <;> rfl
theorem z3 : (![0, 0, 0] : Fin 3 → Nat) = fun _ => 0 := funext fun a => by fin_cases a <;> rfl

set_option maxRecDepth 16384 in
theorem h_apply (v0 : Vec Ideal S1x1024x1024 .f32) (v12 : Vec Ideal S1x1024 .f32) (v16 v22 : Vec Ideal S1x1x1024 .f32) (r d : Fin 1024) :
    k0_pay6 v0 v12 v16 v22 (ix2 r d : S1024x1024.Idx)
      = modNorm (fun d => v0 (ix3 0 r d)) (fun d => v12 (ix2 0 d)) (fun d => v16 (ix3 0 0 d)) (fun d => v22 (ix3 0 0 d)) d := by
  pointwise [k0_pay6]
  rfl

/-! Each stored tile as a product, at an index. -/

section Tiles
variable (h : FVec Ideal S1024x1024 .bf16) (w : Vec Ideal S1024x512 .bf16) (r : Fin 1024)

theorem tile7 (v0 : Vec Ideal S1x1024x1024 .f32) (v12 : Vec Ideal S1x1024 .f32) (v16 v22 : Vec Ideal S1x1x1024 .f32) (d : Fin 512) :
    k0_pay7 v0 v12 v16 v22 w (ix3 0 r d : S1x1024x512.Idx) = ∑ k : Fin 1024, k0_pay6 v0 v12 v16 v22 (ix2 r k) * w (ix2 k d) := by
  pointwise [k0_pay7]
theorem tile8 (d : Fin 512) : k0_pay8 h w (ix3 0 r d : S1x1024x512.Idx) = ∑ k : Fin 1024, h (ix2 r k) * w (ix2 k d) := by
  pointwise [k0_pay8]
theorem tile9 (d : Fin 512) : k0_pay9 h w (ix3 0 r d : S1x1024x512.Idx) = ∑ k : Fin 1024, h (ix2 r k) * w (ix2 k d) := by
  pointwise [k0_pay9]
theorem tile10 (d : Fin 512) : k0_pay10 h w (ix3 0 r d : S1x1024x512.Idx) = ∑ k : Fin 1024, h (ix2 r k) * w (ix2 k d) := by
  pointwise [k0_pay10]
theorem tile11 (d : Fin 512) : k0_pay11 h w (ix3 0 r d : S1x1024x512.Idx) = ∑ k : Fin 1024, h (ix2 r k) * w (ix2 k d) := by
  pointwise [k0_pay11]
theorem tile13 (w : Vec Ideal S1024x256 .bf16) (d : Fin 256) :
    k0_pay13 (k0_pay12 h w) (ix3 0 r d : S1x1024x256.Idx) = ∑ k : Fin 1024, h (ix2 r k) * w (ix2 k d) := by
  pointwise [k0_pay13, k0_pay12]
theorem tile4 (w : Vec Ideal S1024x128 .bf16) (d : Fin 128) :
    k0_pay4 h w (ix3 0 r d : S1x1024x128.Idx) = ∑ k : Fin 1024, h (ix2 r k) * w (ix2 k d) := by
  pointwise [k0_pay4]
theorem tile5 (w : Vec Ideal S128x1024 .bf16) (d : Fin 128) :
    k0_pay5 h w (ix3 0 d r : S1x128x1024.Idx) = ∑ k : Fin 1024, w (ix2 d k) * h (ix2 r k) := by
  pointwise [k0_pay5]

variable (wk : Vec Ideal S256x1024 .bf16) (d : Fin 256) (l : Fin 128)
theorem tile14 (r : Fin 1024) : k0_pay14 h wk (ix2 d r : S256x1024.Idx) = ∑ k : Fin 1024, wk (ix2 d k) * h (ix2 r k) := by
  pointwise [k0_pay14]
theorem tile15 : k0_pay15 h wk (ix4 0 0 d l : S1x1x256x128.Idx) = k0_pay14 h wk (ix2 d ⟨l.val, by have := l.isLt; omega⟩) := by
  pointwise [k0_pay15]
theorem tile16 : k0_pay16 h wk (ix4 0 0 d l : S1x1x256x128.Idx) = k0_pay14 h wk (ix2 d ⟨128 + l.val, by have := l.isLt; omega⟩) := by
  pointwise [k0_pay16]
theorem tile17 : k0_pay17 h wk (ix4 0 0 d l : S1x1x256x128.Idx) = k0_pay14 h wk (ix2 d ⟨256 + l.val, by have := l.isLt; omega⟩) := by
  pointwise [k0_pay17]
theorem tile18 : k0_pay18 h wk (ix4 0 0 d l : S1x1x256x128.Idx) = k0_pay14 h wk (ix2 d ⟨384 + l.val, by have := l.isLt; omega⟩) := by
  pointwise [k0_pay18]
theorem tile19 : k0_pay19 h wk (ix4 0 0 d l : S1x1x256x128.Idx) = k0_pay14 h wk (ix2 d ⟨512 + l.val, by have := l.isLt; omega⟩) := by
  pointwise [k0_pay19]
theorem tile1 (v : FVec Ideal S256x1024 .bf16) :
    k0_pay1 v (ix4 0 0 d l : S1x1x256x128.Idx) = v (ix2 d ⟨640 + l.val, by have := l.isLt; omega⟩) := by
  pointwise [k0_pay1]
theorem tile2 (v : FVec Ideal S256x1024 .bf16) :
    k0_pay2 v (ix4 0 0 d l : S1x1x256x128.Idx) = v (ix2 d ⟨768 + l.val, by have := l.isLt; omega⟩) := by
  pointwise [k0_pay2]
theorem tile3 (v : FVec Ideal S256x1024 .bf16) :
    k0_pay3 v (ix4 0 0 d l : S1x1x256x128.Idx) = v (ix2 d ⟨896 + l.val, by have := l.isLt; omega⟩) := by
  pointwise [k0_pay3]
end Tiles

/-- A block of the packed weight's columns, at an index. -/
theorem cols512 (w : Vec Ideal S1024x2816 .bf16) (o : Nat) (inb) (k : Fin 1024) (d : Fin 512) (ho : o + 512 ≤ 2816) :
    View.ld w (Rect.unit (s := S1024x2816) ![0, o] S1024x512.size inb) (ix2 k d : S1024x512.Idx)
      = w (ix2 k ⟨o + d.val, by have := d.isLt; omega⟩) := by
  refine congrArg w (funext fun a => Fin.ext ((ValueKit.rect_emb_unit_val _ _ _ _ a).trans ?_))
  match a with
  | ⟨0, _⟩ => exact Nat.zero_add _
  | ⟨1, _⟩ => rfl

theorem cols256 (w : Vec Ideal S1024x2816 .bf16) (o : Nat) (inb) (k : Fin 1024) (d : Fin 256) (ho : o + 256 ≤ 2816) :
    View.ld w (Rect.unit (s := S1024x2816) ![0, o] S1024x256.size inb) (ix2 k d : S1024x256.Idx)
      = w (ix2 k ⟨o + d.val, by have := d.isLt; omega⟩) := by
  refine congrArg w (funext fun a => Fin.ext ((ValueKit.rect_emb_unit_val _ _ _ _ a).trans ?_))
  match a with
  | ⟨0, _⟩ => exact Nat.zero_add _
  | ⟨1, _⟩ => rfl

/-! Where a stored tile lies in its block. -/

theorem emb_hy (o : Nat) (inb) (r : Fin 1024) (d : Fin 512) (ho : o + 512 ≤ 1536) :
    (Rect.unit (s := S1x1024x1536) ![0, 0, o] ![1, 1024, 512] inb).emb (ix3 0 r d : S1x1024x512.Idx)
      = (ix3 0 r ⟨o + d.val, by have := d.isLt; omega⟩ : S1x1024x1536.Idx) := by
  refine funext fun a => Fin.ext ((ValueKit.rect_emb_unit_val _ _ _ _ a).trans ?_)
  match a with
  | ⟨0, _⟩ => rfl
  | ⟨1, _⟩ => exact Nat.zero_add _
  | ⟨2, _⟩ => rfl

theorem emb_qvr (o : Nat) (inb) (r : Fin 1024) (d : Fin 512) (ho : o + 512 ≤ 1280) :
    (Rect.unit (s := S1x1024x1280) ![0, 0, o] ![1, 1024, 512] inb).emb (ix3 0 r d : S1x1024x512.Idx)
      = (ix3 0 r ⟨o + d.val, by have := d.isLt; omega⟩ : S1x1024x1280.Idx) := by
  refine funext fun a => Fin.ext ((ValueKit.rect_emb_unit_val _ _ _ _ a).trans ?_)
  match a with
  | ⟨0, _⟩ => rfl
  | ⟨1, _⟩ => exact Nat.zero_add _
  | ⟨2, _⟩ => rfl

theorem emb_qvr_last (inb) (r : Fin 1024) (d : Fin 256) :
    (Rect.unit (s := S1x1024x1280) ![0, 0, 1024] ![1, 1024, 256] inb).emb (ix3 0 r d : S1x1024x256.Idx)
      = (ix3 0 r ⟨1024 + d.val, by have := d.isLt; omega⟩ : S1x1024x1280.Idx) := by
  refine funext fun a => Fin.ext ((ValueKit.rect_emb_unit_val _ _ _ _ a).trans ?_)
  match a with
  | ⟨0, _⟩ => rfl
  | ⟨1, _⟩ => exact Nat.zero_add _
  | ⟨2, _⟩ => rfl

theorem emb_kt (p : Fin 8) (o : Nat) (ho : o = p.val) (inb) (d : Fin 256) (l : Fin 128) :
    (Rect.unit (s := S1x8x256x128) ![0, o, 0, 0] ![1, 1, 256, 128] inb).emb (ix4 0 0 d l : S1x1x256x128.Idx)
      = (ix4 0 p d l : S1x8x256x128.Idx) := by
  subst ho
  refine funext fun a => Fin.ext ((ValueKit.rect_emb_unit_val _ _ _ _ a).trans ?_)
  match a with
  | ⟨0, _⟩ => rfl
  | ⟨1, _⟩ => rfl
  | ⟨2, _⟩ => exact Nat.zero_add _
  | ⟨3, _⟩ => exact Nat.zero_add _

/-! What the body leaves in each output block, as one function of the block's index. -/

def hyG (h : FVec Ideal S1024x1024 .bf16) (w : Vec Ideal S1024x2816 .bf16) (y : S1x1024x1536.Idx) : EReal :=
  ∑ k : Fin 1024, h (ix2 (y 1) k) * w (ix2 k ⟨(y 2).val, (y 2).isLt.trans (by decide)⟩)
def qvrG (h : FVec Ideal S1024x1024 .bf16) (w : Vec Ideal S1024x2816 .bf16) (y : S1x1024x1280.Idx) : EReal :=
  ∑ k : Fin 1024, h (ix2 (y 1) k) * w (ix2 k ⟨1536 + (y 2).val, Nat.add_lt_add_left (y 2).isLt 1536⟩)
def ktG (h : FVec Ideal S1024x1024 .bf16) (w : Vec Ideal S256x1024 .bf16) (y : S1x8x256x128.Idx) : EReal :=
  ∑ k : Fin 1024, w (ix2 (y 2) k) * h (ix2 ⟨128 * (y 1).val + (y 3).val,
    (Nat.add_lt_add_left (y 3).isLt _).trans_le (Nat.mul_le_mul_left 128 (y 1).isLt)⟩ k)

theorem ix3_of {n1 n2 : Nat} (j : (⟨3, ![1, n1, n2]⟩ : Shape).Idx) : j = ix3 0 (j 1) (j 2) := by
  funext a
  match a with
  | ⟨0, _⟩ => exact Fin.ext (by have h : (j 0).val < 1 := (j 0).isLt; show (j 0).val = 0; omega)
  | ⟨1, _⟩ => rfl
  | ⟨2, _⟩ => rfl

theorem ix4_of {n2 n3 : Nat} (j : (⟨4, ![1, 1, n2, n3]⟩ : Shape).Idx) : j = ix4 0 0 (j 2) (j 3) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl
  | ⟨3, _⟩ => rfl

section Pieces
variable (h : FVec Ideal S1024x1024 .bf16) (w : Vec Ideal S1024x2816 .bf16) (wk : Vec Ideal S256x1024 .bf16)

/-- A tile that is the product with columns `o`, `o + 1`, … of the packed weight agrees with `hyG` where it is stored. -/
theorem hy_piece (o : Nat) (inb) (inb') (ho : o + 512 ≤ 1536) (T : Vec Ideal S1x1024x512 .bf16)
    (hT : ∀ (r : Fin 1024) (d : Fin 512), T (ix3 0 r d) = ∑ k : Fin 1024, h (ix2 r k)
      * View.ld w (Rect.unit (s := S1024x2816) ![0, o] S1024x512.size inb') (ix2 k d : S1024x512.Idx))
    (j : S1x1024x512.Idx) :
    T j = hyG h w ((Rect.unit (s := S1x1024x1536) ![0, 0, o] ![1, 1024, 512] inb).emb j) := by
  obtain ⟨r, d, rfl⟩ : ∃ (r : Fin 1024) (d : Fin 512), j = ix3 0 r d := ⟨j 1, j 2, ix3_of j⟩
  rw [hT, emb_hy o inb _ _ ho]
  exact Finset.sum_congr rfl fun k _ => congrArg (_ * ·) (cols512 w o _ k _ (by omega))

theorem qvr_piece (o : Nat) (inb) (inb') (ho : o + 512 ≤ 1280) (T : Vec Ideal S1x1024x512 .bf16)
    (hT : ∀ (r : Fin 1024) (d : Fin 512), T (ix3 0 r d) = ∑ k : Fin 1024, h (ix2 r k)
      * View.ld w (Rect.unit (s := S1024x2816) ![0, 1536 + o] S1024x512.size inb') (ix2 k d : S1024x512.Idx))
    (j : S1x1024x512.Idx) :
    T j = qvrG h w ((Rect.unit (s := S1x1024x1280) ![0, 0, o] ![1, 1024, 512] inb).emb j) := by
  obtain ⟨r, d, rfl⟩ : ∃ (r : Fin 1024) (d : Fin 512), j = ix3 0 r d := ⟨j 1, j 2, ix3_of j⟩
  rw [hT, emb_qvr o inb _ _ ho]
  exact Finset.sum_congr rfl fun k _ => congrArg (_ * ·) ((cols512 w (1536 + o) _ k _ (by omega)).trans
    (congrArg w (congrArg (ix2 k) (Fin.ext (Nat.add_assoc _ _ _)))))

theorem qvr_last_piece (inb) (inb') (T : Vec Ideal S1x1024x256 .bf16)
    (hT : ∀ (r : Fin 1024) (d : Fin 256), T (ix3 0 r d) = ∑ k : Fin 1024, h (ix2 r k)
      * View.ld w (Rect.unit (s := S1024x2816) ![0, 2560] S1024x256.size inb') (ix2 k d : S1024x256.Idx))
    (j : S1x1024x256.Idx) :
    T j = qvrG h w ((Rect.unit (s := S1x1024x1280) ![0, 0, 1024] ![1, 1024, 256] inb).emb j) := by
  obtain ⟨r, d, rfl⟩ : ∃ (r : Fin 1024) (d : Fin 256), j = ix3 0 r d := ⟨j 1, j 2, ix3_of j⟩
  rw [hT, emb_qvr_last inb]
  exact Finset.sum_congr rfl fun k _ => congrArg (_ * ·) ((cols256 w 2560 _ k _ (by decide)).trans
    (congrArg w (congrArg (ix2 k) (Fin.ext (Nat.add_assoc 1536 1024 _)))))

theorem kt_piece (p : Fin 8) (o : Nat) (ho : o = p.val) (inb) (T : Vec Ideal S1x1x256x128 .bf16)
    (hT : ∀ (d : Fin 256) (l : Fin 128), T (ix4 0 0 d l)
      = k0_pay14 h wk (ix2 d ⟨128 * p.val + l.val, by have := p.isLt; have := l.isLt; omega⟩))
    (j : S1x1x256x128.Idx) :
    T j = ktG h wk ((Rect.unit (s := S1x8x256x128) ![0, o, 0, 0] ![1, 1, 256, 128] inb).emb j) := by
  obtain ⟨d, l, rfl⟩ : ∃ (d : Fin 256) (l : Fin 128), j = ix4 0 0 d l := ⟨j 2, j 3, ix4_of j⟩
  rw [hT, emb_kt p o ho, tile14]
  rfl

end Pieces

section Outputs
variable (c : Dev nD) (i : grid0.Coords) (a2 : Memref sig .tc .vmem S1x1024x1024 .f32) (h2 : a2.IsWhole)
  (a3 : Memref sig .tc .vmem S1x1024 .f32) (h3 : a3.IsWhole) (a4 a5 : Memref sig .tc .vmem S1x1x1024 .f32) (h4 : a4.IsWhole) (h5 : a5.IsWhole)
  (a6 : Memref sig .tc .vmem S1024x2816 .bf16) (h6 : a6.IsWhole) (a7 : Memref sig .tc .vmem S256x1024 .bf16) (h7 : a7.IsWhole)
  (a8 : Memref sig .tc .vmem S1024x128 .bf16) (h8 : a8.IsWhole) (a9 : Memref sig .tc .vmem S128x1024 .bf16) (h9 : a9.IsWhole)
  (a10 : Memref sig .tc .vmem S1x1024x1536 .bf16) (h10 : a10.IsWhole) (a11 : Memref sig .tc .vmem S1x1024x1280 .bf16) (h11 : a11.IsWhole)
  (a12 : Memref sig .tc .vmem S1x8x256x128 .bf16) (h12 : a12.IsWhole) (a13 : Memref sig .tc .vmem S1x1024x128 .f32) (h13 : a13.IsWhole)
  (a14 : Memref sig .tc .vmem S1x128x1024 .f32) (h14 : a14.IsWhole)
  (x0 : Vec Ideal S1x1024x1024 .f32) (x1 : Vec Ideal S1x1024 .f32) (x2 x3 : Vec Ideal S1x1x1024 .f32)
  (x4 : Vec Ideal S1024x2816 .bf16) (x5 : Vec Ideal S256x1024 .bf16) (x6 : Vec Ideal S1024x128 .bf16) (x7 : Vec Ideal S128x1024 .bf16)

set_option maxRecDepth 16384 in
theorem hy_out (y : S1x1024x1536.Idx) :
    out0_A_8 c i a2 h2 a3 h3 a4 h4 a5 h5 a6 h6 a7 h7 a8 h8 a9 h9 a10 h10 a11 h11 a12 h12 a13 h13 a14 h14 x0 x1 x2 x3 x4 x5 x6 x7 y
      = hyG (k0_pay6 x0 x1 x2 x3) x4 y := by
  unfold out0_A_8
  rw [View.read_writes_eq_canon _ _ _ (fun y => cover0_A_8 (y := y) ..)]
  refine View.canon_apply_of_pieces (Val := Elt Ideal) (e := .bf16) (hyG (k0_pay6 x0 x1 x2 x3) x4) _ ?_ y (cover0_A_8 (y := y) ..)
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x1024x1024) z3, View.ld_unit_zero (S := S1x1024) z2,
    View.ld_unit_zero (S := S1x1x1024) z3, View.ld_unit_zero (S := S256x1024) z2, View.ld_unit_zero (S := S1024x128) z2,
    View.ld_unit_zero (S := S128x1024) z2]
  intro p hp j
  simp only [List.mem_cons, List.mem_nil_iff, or_false] at hp
  rcases hp with rfl | rfl | rfl
  · exact hy_piece _ x4 1024 inb_S1x1024x1536_S1x1024x512_0_0_1024 _ (by decide) _ (fun r d => tile9 _ _ r d) j
  · exact hy_piece _ x4 512 inb_S1x1024x1536_S1x1024x512_0_0_512 _ (by decide) _ (fun r d => tile8 _ _ r d) j
  · exact hy_piece _ x4 0 inb_S1x1024x1536_S1x1024x512_0_0_0 _ (by decide) _ (fun r d => tile7 _ r x0 x1 x2 x3 d) j

set_option maxRecDepth 16384 in
theorem qvr_out (y : S1x1024x1280.Idx) :
    out0_A_9 c i a2 h2 a3 h3 a4 h4 a5 h5 a6 h6 a7 h7 a8 h8 a9 h9 a10 h10 a11 h11 a12 h12 a13 h13 a14 h14 x0 x1 x2 x3 x4 x5 x6 x7 y
      = qvrG (k0_pay6 x0 x1 x2 x3) x4 y := by
  unfold out0_A_9
  rw [View.read_writes_eq_canon _ _ _ (fun y => cover0_A_9 (y := y) ..)]
  refine View.canon_apply_of_pieces (Val := Elt Ideal) (e := .bf16) (qvrG (k0_pay6 x0 x1 x2 x3) x4) _ ?_ y (cover0_A_9 (y := y) ..)
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x1024x1024) z3, View.ld_unit_zero (S := S1x1024) z2,
    View.ld_unit_zero (S := S1x1x1024) z3, View.ld_unit_zero (S := S256x1024) z2, View.ld_unit_zero (S := S1024x128) z2,
    View.ld_unit_zero (S := S128x1024) z2]
  intro p hp j
  simp only [List.mem_cons, List.mem_nil_iff, or_false] at hp
  rcases hp with rfl | rfl | rfl
  · exact qvr_last_piece _ x4 inb_S1x1024x1280_S1x1024x256_0_0_1024 _ _ (fun r d => tile13 _ r _ d) j
  · exact qvr_piece _ x4 512 inb_S1x1024x1280_S1x1024x512_0_0_512 _ (by decide) _ (fun r d => tile11 _ _ r d) j
  · exact qvr_piece _ x4 0 inb_S1x1024x1280_S1x1024x512_0_0_0 _ (by decide) _ (fun r d => tile10 _ _ r d) j

set_option maxRecDepth 16384 in
theorem kt_out (y : S1x8x256x128.Idx) :
    out0_A_10 c i a2 h2 a3 h3 a4 h4 a5 h5 a6 h6 a7 h7 a8 h8 a9 h9 a10 h10 a11 h11 a12 h12 a13 h13 a14 h14 x0 x1 x2 x3 x4 x5 x6 x7 y
      = ktG (k0_pay6 x0 x1 x2 x3) x5 y := by
  unfold out0_A_10
  rw [View.read_writes_eq_canon _ _ _ (fun y => cover0_A_10 (y := y) ..)]
  refine View.canon_apply_of_pieces (Val := Elt Ideal) (e := .bf16) (ktG (k0_pay6 x0 x1 x2 x3) x5) _ ?_ y (cover0_A_10 (y := y) ..)
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x1024x1024) z3, View.ld_unit_zero (S := S1x1024) z2,
    View.ld_unit_zero (S := S1x1x1024) z3, View.ld_unit_zero (S := S256x1024) z2, View.ld_unit_zero (S := S1024x128) z2,
    View.ld_unit_zero (S := S128x1024) z2]
  intro p hp j
  simp only [List.mem_cons, List.mem_nil_iff, or_false] at hp
  rcases hp with rfl | rfl | rfl | rfl | rfl | rfl | rfl | rfl
  · exact kt_piece _ x5 7 7 rfl inb_S1x8x256x128_S1x1x256x128_0_7_0_0 _ (fun d l => tile3 d l _) j
  · exact kt_piece _ x5 6 6 rfl inb_S1x8x256x128_S1x1x256x128_0_6_0_0 _ (fun d l => tile2 d l _) j
  · exact kt_piece _ x5 5 5 rfl inb_S1x8x256x128_S1x1x256x128_0_5_0_0 _ (fun d l => tile1 d l _) j
  · exact kt_piece _ x5 4 4 rfl inb_S1x8x256x128_S1x1x256x128_0_4_0_0 _ (fun d l => tile19 _ x5 d l) j
  · exact kt_piece _ x5 3 3 rfl inb_S1x8x256x128_S1x1x256x128_0_3_0_0 _ (fun d l => tile18 _ x5 d l) j
  · exact kt_piece _ x5 2 2 rfl inb_S1x8x256x128_S1x1x256x128_0_2_0_0 _ (fun d l => tile17 _ x5 d l) j
  · exact kt_piece _ x5 1 1 rfl inb_S1x8x256x128_S1x1x256x128_0_1_0_0 _ (fun d l => tile16 _ x5 d l) j
  · exact kt_piece _ x5 0 0 rfl inb_S1x8x256x128_S1x1x256x128_0_0_0_0 _ (fun d l => (tile15 _ x5 d l).trans (congrArg _ (congrArg (ix2 d) (Fin.ext (Nat.zero_add _).symm)))) j

set_option maxRecDepth 16384 in
theorem a_out (r : Fin 1024) (d : Fin 128) :
    out0_A_11 c i a2 h2 a3 h3 a4 h4 a5 h5 a6 h6 a7 h7 a8 h8 a9 h9 a10 h10 a11 h11 a12 h12 a13 h13 a14 h14 x0 x1 x2 x3 x4 x5 x6 x7 (ix3 0 r d : S1x1024x128.Idx)
      = ∑ k : Fin 1024, k0_pay6 x0 x1 x2 x3 (ix2 r k) * x6 (ix2 k d) := by
  unfold out0_A_11
  rw [View.read_writes_eq_canon _ _ _ (fun y => cover0_A_11 (y := y) ..)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x1024x1024) z3, View.ld_unit_zero (S := S1x1024) z2,
    View.ld_unit_zero (S := S1x1x1024) z3, View.ld_unit_zero (S := S256x1024) z2, View.ld_unit_zero (S := S1024x128) z2,
    View.ld_unit_zero (S := S128x1024) z2]
  rw [View.canon_unit_zero z3]
  exact tile4 _ _ x6 d

set_option maxRecDepth 16384 in
theorem at_out (r : Fin 1024) (d : Fin 128) :
    out0_A_12 c i a2 h2 a3 h3 a4 h4 a5 h5 a6 h6 a7 h7 a8 h8 a9 h9 a10 h10 a11 h11 a12 h12 a13 h13 a14 h14 x0 x1 x2 x3 x4 x5 x6 x7 (ix3 0 d r : S1x128x1024.Idx)
      = ∑ k : Fin 1024, x7 (ix2 d k) * k0_pay6 x0 x1 x2 x3 (ix2 r k) := by
  unfold out0_A_12
  rw [View.read_writes_eq_canon _ _ _ (fun y => cover0_A_12 (y := y) ..)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x1024x1024) z3, View.ld_unit_zero (S := S1x1024) z2,
    View.ld_unit_zero (S := S1x1x1024) z3, View.ld_unit_zero (S := S256x1024) z2, View.ld_unit_zero (S := S1024x128) z2,
    View.ld_unit_zero (S := S128x1024) z2]
  rw [View.canon_unit_zero z3]
  exact tile5 _ _ x7 d

end Outputs

section Final
open Value

/-- The modulated norm of token `(b, s)`. -/
def hRow (c : Dev nD) (b : Fin 16) (s : Fin 2048) : Fin 1024 → EReal :=
  modNorm (fun d => m ((c : Thread nD τ).loc main_arg0) (ix3 b s d : S16x2048x1024.Idx))
    (fun d => m ((c : Thread nD τ).loc main_arg1) (ix2 0 d : S1x1024.Idx))
    (fun d => m ((c : Thread nD τ).loc main_arg2) (ix3 b 0 d : S16x1x1024.Idx))
    (fun d => m ((c : Thread nD τ).loc main_arg3) (ix3 b 0 d : S16x1x1024.Idx))
/-- Column `n` of the input weight. -/
def wCol (c : Dev nD) (n : Fin 5152) (k : Fin 1024) : EReal :=
  m ((c : Thread nD τ).loc main_arg4) (ix3 0 k n : S1x1024x5152.Idx)
/-- Column `n` of the projection of token `(b, s)`. -/
def proj (c : Dev nD) (b : Fin 16) (s : Fin 2048) (n : Fin 5152) : EReal := ∑ k : Fin 1024, hRow m c b s k * wCol m c n k

theorem h_blk (c : Dev nD) (t : Fin cfg0.N) (r d : Fin 1024) :
    k0_pay6 (iblk m c 0 t) (iblk m c 1 t) (iblk m c 2 t) (iblk m c 3 t) (ix2 r d : S1024x1024.Idx) = hRow m c (bOf t) (sOf t r) d := by
  refine (h_apply _ _ _ _ r d).trans ?_
  simp only [x_blk m c t, nw_blk m c t, sc_blk m c t, sh_blk m c t]
  rfl

theorem flushed_hy (c : Dev nD) (t : Fin cfg0.N) (r : Fin 1024) (d : Fin 1536) :
    (dats m 0 c).flushed 8 t (ix3 0 r d : S1x1024x1536.Idx) = proj m c (bOf t) (sOf t r) ⟨d.val, by have := d.isLt; omega⟩ := by
  rw [Value.flushed8_A]
  show out0_A_8 _ _ _ _ _ _ _ _ _ _ _ _ _ _ _ _ _ _ _ _ _ _ _ _ _ _ _ _ _ _ _ _ _ _ _ _ (ix3 0 r d : S1x1024x1536.Idx) = _
  rw [hy_out]
  refine Finset.sum_congr rfl fun k _ => congrArg₂ (· * ·) (h_blk m c t r k) ((wm_blk m c t k _).trans ?_)
  refine congrArg (fun n => wCol m c n k) ?_
  unfold colOf
  exact dif_pos (show d.val < 1792 by have := d.isLt; omega)

theorem flushed_qvr (c : Dev nD) (t : Fin cfg0.N) (r : Fin 1024) (d : Fin 1280) :
    (dats m 0 c).flushed 9 t (ix3 0 r d : S1x1024x1280.Idx)
      = proj m c (bOf t) (sOf t r) (colOf ⟨1536 + d.val, by have := d.isLt; omega⟩) := by
  rw [Value.flushed9_A]
  show out0_A_9 _ _ _ _ _ _ _ _ _ _ _ _ _ _ _ _ _ _ _ _ _ _ _ _ _ _ _ _ _ _ _ _ _ _ _ _ (ix3 0 r d : S1x1024x1280.Idx) = _
  rw [qvr_out]
  exact Finset.sum_congr rfl fun k _ => congrArg₂ (· * ·) (h_blk m c t r k) (wm_blk m c t k _)

theorem flushed_kt (c : Dev nD) (t : Fin cfg0.N) (p : Fin 8) (d : Fin 256) (l : Fin 128) :
    (dats m 0 c).flushed 10 t (ix4 0 p d l : S1x8x256x128.Idx)
      = proj m c (bOf t) (sOf t ⟨128 * p.val + l.val, by have := p.isLt; have := l.isLt; omega⟩) ⟨1792 + d.val, by have := d.isLt; omega⟩ := by
  rw [Value.flushed10_A]
  show out0_A_10 _ _ _ _ _ _ _ _ _ _ _ _ _ _ _ _ _ _ _ _ _ _ _ _ _ _ _ _ _ _ _ _ _ _ _ _ (ix4 0 p d l : S1x8x256x128.Idx) = _
  rw [kt_out]
  exact Finset.sum_congr rfl fun k _ => (congrArg₂ (fun a b : EReal => a * b) (wk_blk m c t d k) (h_blk m c t _ k)).trans (mul_comm _ _)

theorem flushed_a (c : Dev nD) (t : Fin cfg0.N) (r : Fin 1024) (d : Fin 128) :
    (dats m 0 c).flushed 11 t (ix3 0 r d : S1x1024x128.Idx) = ∑ k : Fin 1024, hRow m c (bOf t) (sOf t r) k * wPad m c k d := by
  rw [Value.flushed11_A]
  show out0_A_11 _ _ _ _ _ _ _ _ _ _ _ _ _ _ _ _ _ _ _ _ _ _ _ _ _ _ _ _ _ _ _ _ _ _ _ _ (ix3 0 r d : S1x1024x128.Idx) = _
  rw [a_out]
  exact Finset.sum_congr rfl fun k _ => congrArg₂ (· * ·) (h_blk m c t r k) (wa_blk m c t k d)

theorem flushed_at (c : Dev nD) (t : Fin cfg0.N) (r : Fin 1024) (d : Fin 128) :
    (dats m 0 c).flushed 12 t (ix3 0 d r : S1x128x1024.Idx) = ∑ k : Fin 1024, hRow m c (bOf t) (sOf t r) k * wPad m c k d := by
  rw [Value.flushed12_A]
  show out0_A_12 _ _ _ _ _ _ _ _ _ _ _ _ _ _ _ _ _ _ _ _ _ _ _ _ _ _ _ _ _ _ _ _ _ _ _ _ (ix3 0 d r : S1x128x1024.Idx) = _
  rw [at_out]
  exact Finset.sum_congr rfl fun k _ => (congrArg₂ (fun a b : EReal => a * b) (wt_blk m c t d k) (h_blk m c t r k)).trans (mul_comm _ _)

/-- The point that token `(b, s)` belongs to. -/
def ptOf (b : Fin 16) (s : Fin 2048) : Fin cfg0.N :=
  ⟨2 * b.val + s.val / 1024, by have := b.isLt; have := s.isLt; have := grid_size; omega⟩

theorem pt_b (b : Fin 16) (s : Fin 2048) : bOf (ptOf b s) = b :=
  Fin.ext (by show (2 * b.val + s.val / 1024) / 2 = b.val; have := s.isLt; omega)

/-- The row of its block that token `s` is. -/
def rowOf (s : Fin 2048) : Fin 1024 := ⟨s.val % 1024, Nat.mod_lt _ (by decide)⟩

theorem pt_s (b : Fin 16) (s : Fin 2048) : sOf (ptOf b s) (rowOf s) = s :=
  Fin.ext (by show 1024 * ((2 * b.val + s.val / 1024) % 2) + s.val % 1024 = s.val; have := s.isLt; omega)

/-- The chunk of its block that chunk `p` of the sequence is. -/
def chunkOf (p : Fin 16) : Fin 8 := ⟨p.val % 8, Nat.mod_lt _ (by decide)⟩
/-- Token `l` of chunk `p`. -/
def tok (p : Fin 16) (l : Fin 128) : Fin 2048 := ⟨128 * p.val + l.val, by have := p.isLt; have := l.isLt; omega⟩

theorem row_tok (p : Fin 16) (l : Fin 128) :
    (⟨128 * (chunkOf p).val + l.val, by have := (chunkOf p).isLt; have := l.isLt; omega⟩ : Fin 1024) = rowOf (tok p l) :=
  Fin.ext (by show 128 * (p.val % 8) + l.val = (128 * p.val + l.val) % 1024; have := l.isLt; omega)

theorem emb_b_hy (b : Fin 16) (s : Fin 2048) (d : Fin 1536) :
    ((cfg0.win 8).blk (ptOf b s)).view.emb (ix3 0 (rowOf s) d : S1x1024x1536.Idx) = (ix3 b s d : S16x2048x1536.Idx) := by
  obtain ⟨-, -, -, -, -, -, -, -, ⟨h0, h1, h2⟩, -⟩ := idx_facts (ptOf b s)
  funext a
  apply Fin.ext
  refine (Pipeline.Window.rect_emb_val win0_8 (ptOf b s) _ a).trans ?_
  match a with
  | ⟨0, _⟩ => show win0_8.index (ptOf b s) 0 * 1 + 0 = b.val; rw [h0, Nat.mul_one]; exact congrArg Fin.val (pt_b b s)
  | ⟨1, _⟩ =>
    show win0_8.index (ptOf b s) 1 * 1024 + s.val % 1024 = s.val
    rw [h1, Nat.mul_comm]; exact congrArg Fin.val (pt_s b s)
  | ⟨2, _⟩ => show win0_8.index (ptOf b s) 2 * 1536 + d.val = d.val; omega

theorem emb_b_qvr (b : Fin 16) (s : Fin 2048) (d : Fin 1280) :
    ((cfg0.win 9).blk (ptOf b s)).view.emb (ix3 0 (rowOf s) d : S1x1024x1280.Idx) = (ix3 b s d : S16x2048x1280.Idx) := by
  obtain ⟨-, -, -, -, -, -, -, -, -, ⟨h0, h1, h2⟩, -⟩ := idx_facts (ptOf b s)
  funext a
  apply Fin.ext
  refine (Pipeline.Window.rect_emb_val win0_9 (ptOf b s) _ a).trans ?_
  match a with
  | ⟨0, _⟩ => show win0_9.index (ptOf b s) 0 * 1 + 0 = b.val; rw [h0, Nat.mul_one]; exact congrArg Fin.val (pt_b b s)
  | ⟨1, _⟩ =>
    show win0_9.index (ptOf b s) 1 * 1024 + s.val % 1024 = s.val
    rw [h1, Nat.mul_comm]; exact congrArg Fin.val (pt_s b s)
  | ⟨2, _⟩ => show win0_9.index (ptOf b s) 2 * 1280 + d.val = d.val; omega

theorem emb_b_a (b : Fin 16) (s : Fin 2048) (d : Fin 128) :
    ((cfg0.win 11).blk (ptOf b s)).view.emb (ix3 0 (rowOf s) d : S1x1024x128.Idx) = (ix3 b s d : S16x2048x128.Idx) := by
  obtain ⟨-, -, -, -, -, -, -, -, -, -, -, ⟨h0, h1, h2⟩, -⟩ := idx_facts (ptOf b s)
  funext a
  apply Fin.ext
  refine (Pipeline.Window.rect_emb_val win0_11 (ptOf b s) _ a).trans ?_
  match a with
  | ⟨0, _⟩ => show win0_11.index (ptOf b s) 0 * 1 + 0 = b.val; rw [h0, Nat.mul_one]; exact congrArg Fin.val (pt_b b s)
  | ⟨1, _⟩ =>
    show win0_11.index (ptOf b s) 1 * 1024 + s.val % 1024 = s.val
    rw [h1, Nat.mul_comm]; exact congrArg Fin.val (pt_s b s)
  | ⟨2, _⟩ => show win0_11.index (ptOf b s) 2 * 128 + d.val = d.val; omega

theorem emb_b_at (b : Fin 16) (s : Fin 2048) (d : Fin 128) :
    ((cfg0.win 12).blk (ptOf b s)).view.emb (ix3 0 d (rowOf s) : S1x128x1024.Idx) = (ix3 b d s : S16x128x2048.Idx) := by
  obtain ⟨-, -, -, -, -, -, -, -, -, -, -, -, ⟨h0, h1, h2⟩⟩ := idx_facts (ptOf b s)
  funext a
  apply Fin.ext
  refine (Pipeline.Window.rect_emb_val win0_12 (ptOf b s) _ a).trans ?_
  match a with
  | ⟨0, _⟩ => show win0_12.index (ptOf b s) 0 * 1 + 0 = b.val; rw [h0, Nat.mul_one]; exact congrArg Fin.val (pt_b b s)
  | ⟨1, _⟩ => show win0_12.index (ptOf b s) 1 * 128 + d.val = d.val; omega
  | ⟨2, _⟩ =>
    show win0_12.index (ptOf b s) 2 * 1024 + s.val % 1024 = s.val
    rw [h2, Nat.mul_comm]; exact congrArg Fin.val (pt_s b s)

theorem emb_b_kt (b p : Fin 16) (d : Fin 256) (l : Fin 128) :
    ((cfg0.win 10).blk (ptOf b (tok p l))).view.emb (ix4 0 (chunkOf p) d l : S1x8x256x128.Idx) = (ix4 b p d l : S16x16x256x128.Idx) := by
  obtain ⟨-, -, -, -, -, -, -, -, -, -, ⟨h0, h1, h2, h3⟩, -⟩ := idx_facts (ptOf b (tok p l))
  funext a
  apply Fin.ext
  refine (Pipeline.Window.rect_emb_val win0_10 (ptOf b (tok p l)) _ a).trans ?_
  match a with
  | ⟨0, _⟩ => show win0_10.index (ptOf b (tok p l)) 0 * 1 + 0 = b.val; rw [h0, Nat.mul_one]; exact congrArg Fin.val (pt_b b _)
  | ⟨1, _⟩ =>
    show win0_10.index (ptOf b (tok p l)) 1 * 8 + p.val % 8 = p.val
    rw [h1]
    show (2 * b.val + (128 * p.val + l.val) / 1024) % 2 * 8 + p.val % 8 = p.val
    have := p.isLt
    have := l.isLt
    omega
  | ⟨2, _⟩ => show win0_10.index (ptOf b (tok p l)) 2 * 256 + d.val = d.val; omega
  | ⟨3, _⟩ => show win0_10.index (ptOf b (tok p l)) 3 * 128 + l.val = l.val; omega

theorem final_hy (c : Dev nD) (b : Fin 16) (s : Fin 2048) (d : Fin 1536) :
    (dats m 0 c).arrAt 8 cfg0.N (ix3 b s d : S16x2048x1536.Idx) = proj m c b s ⟨d.val, by have := d.isLt; omega⟩ := by
  have h := (dats m 0 c).arrAt_emb_eq_flushed 8 Value.disjoint8 (ptOf b s) (flush0_8 _) (ix3 0 (rowOf s) d : S1x1024x1536.Idx)
  rw [emb_b_hy] at h
  refine h.trans ((flushed_hy m c (ptOf b s) (rowOf s) d).trans ?_)
  rw [pt_b, pt_s]

theorem final_qvr (c : Dev nD) (b : Fin 16) (s : Fin 2048) (d : Fin 1280) :
    (dats m 0 c).arrAt 9 cfg0.N (ix3 b s d : S16x2048x1280.Idx) = proj m c b s (colOf ⟨1536 + d.val, by have := d.isLt; omega⟩) := by
  have h := (dats m 0 c).arrAt_emb_eq_flushed 9 Value.disjoint9 (ptOf b s) (flush0_9 _) (ix3 0 (rowOf s) d : S1x1024x1280.Idx)
  rw [emb_b_qvr] at h
  refine h.trans ((flushed_qvr m c (ptOf b s) (rowOf s) d).trans ?_)
  rw [pt_b, pt_s]

theorem final_kt (c : Dev nD) (b p : Fin 16) (d : Fin 256) (l : Fin 128) :
    (dats m 0 c).arrAt 10 cfg0.N (ix4 b p d l : S16x16x256x128.Idx) = proj m c b (tok p l) ⟨1792 + d.val, by have := d.isLt; omega⟩ := by
  have h := (dats m 0 c).arrAt_emb_eq_flushed 10 Value.disjoint10 (ptOf b (tok p l)) (flush0_10 _) (ix4 0 (chunkOf p) d l : S1x8x256x128.Idx)
  rw [emb_b_kt] at h
  refine h.trans ((flushed_kt m c (ptOf b (tok p l)) (chunkOf p) d l).trans ?_)
  rw [row_tok, pt_b, pt_s]

theorem final_a (c : Dev nD) (b : Fin 16) (s : Fin 2048) (d : Fin 128) :
    (dats m 0 c).arrAt 11 cfg0.N (ix3 b s d : S16x2048x128.Idx) = ∑ k : Fin 1024, hRow m c b s k * wPad m c k d := by
  have h := (dats m 0 c).arrAt_emb_eq_flushed 11 Value.disjoint11 (ptOf b s) (flush0_11 _) (ix3 0 (rowOf s) d : S1x1024x128.Idx)
  rw [emb_b_a] at h
  refine h.trans ((flushed_a m c (ptOf b s) (rowOf s) d).trans ?_)
  rw [pt_b, pt_s]

theorem final_at (c : Dev nD) (b : Fin 16) (s : Fin 2048) (d : Fin 128) :
    (dats m 0 c).arrAt 12 cfg0.N (ix3 b d s : S16x128x2048.Idx) = ∑ k : Fin 1024, hRow m c b s k * wPad m c k d := by
  have h := (dats m 0 c).arrAt_emb_eq_flushed 12 Value.disjoint12 (ptOf b s) (flush0_12 _) (ix3 0 d (rowOf s) : S1x128x1024.Idx)
  rw [emb_b_at] at h
  refine h.trans ((flushed_at m c (ptOf b s) (rowOf s) d).trans ?_)
  rw [pt_b, pt_s]

/-- The padded product is the product where the weight is not padding, and zero elsewhere. -/
theorem padded (c : Dev nD) (b : Fin 16) (s : Fin 2048) (d : Fin 128) :
    ∑ k : Fin 1024, hRow m c b s k * wPad m c k d = if h : d.val < 32 then proj m c b s ⟨3072 + d.val, by omega⟩ else 0 := by
  unfold wPad
  split
  · rfl
  · exact Finset.sum_eq_zero fun k _ => mul_zero _

end Final

/-! ## jnp's lines for the same part -/

section Reference
open Cert.InProjRefIdeal.Read
variable (a0 : FVec Ideal S16x2048x1024 .f32) (a1 : FVec Ideal S1x1024 .f32) (a2 a3 : FVec Ideal S16x1x1024 .f32)
  (a4 : FVec Ideal S1x1024x5152 .f32)

set_option maxRecDepth 16384 in
theorem ref_h (b : Fin 16) (s : Fin 2048) (d : Fin 1024) :
    val_main_v19 (F := Ideal) a0 a1 a2 a3 (ix3 b s d : S16x2048x1024.Idx)
      = modNorm (fun d => a0 (ix3 b s d)) (fun d => a1 (ix2 0 d)) (fun d => a2 (ix3 b 0 d)) (fun d => a3 (ix3 b 0 d)) d := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_2]
  rfl

/-- Column `n` of the reference's projection. -/
def refProj (b : Fin 16) (s : Fin 2048) (n : Fin 5152) : EReal :=
  ∑ k : Fin 1024, modNorm (fun d => a0 (ix3 b s d)) (fun d => a1 (ix2 0 d)) (fun d => a2 (ix3 b 0 d)) (fun d => a3 (ix3 b 0 d)) k
    * a4 (ix3 0 k n)

set_option maxRecDepth 16384 in
theorem ref_proj (b : Fin 16) (s : Fin 2048) (n : Fin 5152) :
    val_main_v21 (F := Ideal) a0 a1 a2 a3 a4 (ix3 b s n : Cert.InProjRefIdeal.S16x2048x5152.Idx) = refProj a0 a1 a2 a3 a4 b s n := by
  have h : val_main_v21 (F := Ideal) a0 a1 a2 a3 a4 (ix3 b s n : Cert.InProjRefIdeal.S16x2048x5152.Idx)
      = ∑ k : Fin 1024, val_main_v19 (F := Ideal) a0 a1 a2 a3 (ix3 b s k : S16x2048x1024.Idx) * a4 (ix3 0 k n) := by
    pointwise [val_main_v21, val_main_v20]
  exact h.trans (Finset.sum_congr rfl fun k _ => congrArg (· * _) (ref_h a0 a1 a2 a3 b s k))

set_option maxRecDepth 16384 in
theorem ref_hy (b : Fin 16) (s : Fin 2048) (d : Fin 1536) :
    val_main_v32 (F := Ideal) a0 a1 a2 a3 a4 (ix3 b s d : S16x2048x1536.Idx)
      = refProj a0 a1 a2 a3 a4 b s ⟨d.val, by have := d.isLt; omega⟩ := by
  refine Eq.trans ?_ (ref_proj a0 a1 a2 a3 a4 b s _)
  pointwise [val_main_v32, val_main_v22]

set_option maxRecDepth 16384 in
theorem ref_qvr (b : Fin 16) (s : Fin 2048) (d : Fin 1280) :
    val_main_v33 (F := Ideal) a0 a1 a2 a3 a4 (ix3 b s d : S16x2048x1280.Idx)
      = refProj a0 a1 a2 a3 a4 b s (colOf ⟨1536 + d.val, by have := d.isLt; omega⟩) := by
  refine Eq.trans ?_ (ref_proj a0 a1 a2 a3 a4 b s _)
  pointwise [val_main_v33, val_main_v29, val_main_v23, val_main_v25, val_main_v26]
  unfold colOf
  split
  · exact congrArg (fun n => val_main_v21 (F := Ideal) a0 a1 a2 a3 a4 (ix3 b s n : Cert.InProjRefIdeal.S16x2048x5152.Idx))
      (by rw [dif_pos (show 1536 + d.val < 1792 by omega)])
  · split <;> exact congrArg (fun n => val_main_v21 (F := Ideal) a0 a1 a2 a3 a4 (ix3 b s n : Cert.InProjRefIdeal.S16x2048x5152.Idx))
      (by rw [dif_neg (show ¬ 1536 + d.val < 1792 by omega)]; exact Fin.ext (by dsimp only; omega))

set_option maxRecDepth 16384 in
theorem ref_kt (b p : Fin 16) (d : Fin 256) (l : Fin 128) :
    val_main_v34 (F := Ideal) a0 a1 a2 a3 a4 (ix4 b p d l : S16x16x256x128.Idx)
      = refProj a0 a1 a2 a3 a4 b (tok p l) ⟨1792 + d.val, by have := d.isLt; omega⟩ := by
  refine Eq.trans ?_ (ref_proj a0 a1 a2 a3 a4 b _ _)
  pointwise [val_main_v34, val_main_v31, val_main_v30, val_main_v24]
  exact congrArg (fun n => val_main_v21 (F := Ideal) a0 a1 a2 a3 a4 (ix3 b n _ : Cert.InProjRefIdeal.S16x2048x5152.Idx))
    (Fin.ext (congrArg (· + l.val) (Nat.mul_comm p.val 128)))

set_option maxRecDepth 16384 in
theorem ref_a (b : Fin 16) (s : Fin 2048) (d : Fin 128) :
    val_main_v28 (F := Ideal) a0 a1 a2 a3 a4 (ix3 b s d : S16x2048x128.Idx)
      = if h : d.val < 32 then refProj a0 a1 a2 a3 a4 b s ⟨3072 + d.val, by omega⟩ else 0 := by
  simp only [← ref_proj]
  pointwise [val_main_v28, val_main_v27]
  exact congrArg (fun z => dite _ _ fun _ => z) pad_zero

set_option maxRecDepth 16384 in
theorem ref_at (b : Fin 16) (s : Fin 2048) (d : Fin 128) :
    val_main_v35 (F := Ideal) a0 a1 a2 a3 a4 (ix3 b d s : S16x128x2048.Idx)
      = if h : d.val < 32 then refProj a0 a1 a2 a3 a4 b s ⟨3072 + d.val, by omega⟩ else 0 := by
  refine Eq.trans ?_ (ref_a a0 a1 a2 a3 a4 b s d)
  pointwise [val_main_v35]

end Reference

theorem algebraic_run : Cert.algebraic_InProjIdeal_InProjRefIdeal := by
  intro m g m' g' _ hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, Value.run_blocks m g, ?_⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2⟩) (Cert.InProjRefIdeal.Value.run (F := Ideal) m' g')
  · rw [Cert.InProjRefIdeal.Read.val_main_v32_eq]
    obtain ⟨e0, e1, e2, e3, e4⟩ := hagree c
    refine funext fun i => ?_
    rw [eq_ix3 (i : S16x2048x1536.Idx)]
    refine (ref_hy _ _ _ _ _ _ _ _).trans ?_
    refine Eq.trans ?_ (final_hy m c _ _ _).symm
    rw [e0, e1, e2, e3, e4]
    rfl
  · rw [Cert.InProjRefIdeal.Read.val_main_v33_eq]
    obtain ⟨e0, e1, e2, e3, e4⟩ := hagree c
    refine funext fun i => ?_
    rw [eq_ix3 (i : S16x2048x1280.Idx)]
    refine (ref_qvr _ _ _ _ _ _ _ _).trans ?_
    refine Eq.trans ?_ (final_qvr m c _ _ _).symm
    rw [e0, e1, e2, e3, e4]
    rfl
  · rw [Cert.InProjRefIdeal.Read.val_main_v34_eq]
    obtain ⟨e0, e1, e2, e3, e4⟩ := hagree c
    refine funext fun i => ?_
    rw [eq_ix4 (i : S16x16x256x128.Idx)]
    refine (ref_kt _ _ _ _ _ _ _ _ _).trans ?_
    refine Eq.trans ?_ (final_kt m c _ _ _ _).symm
    rw [e0, e1, e2, e3, e4]
    rfl
  · rw [Cert.InProjRefIdeal.Read.val_main_v28_eq]
    obtain ⟨e0, e1, e2, e3, e4⟩ := hagree c
    refine funext fun i => ?_
    rw [eq_ix3 (i : S16x2048x128.Idx)]
    refine (ref_a _ _ _ _ _ _ _ _).trans ?_
    refine Eq.trans ?_ ((final_a m c _ _ _).trans (padded m c _ _ _)).symm
    rw [e0, e1, e2, e3, e4]
    rfl
  · rw [Cert.InProjRefIdeal.Read.val_main_v35_eq]
    obtain ⟨e0, e1, e2, e3, e4⟩ := hagree c
    refine funext fun i => ?_
    rw [eq_ix3 (i : S16x128x2048.Idx)]
    refine (ref_at _ _ _ _ _ _ _ _).trans ?_
    refine Eq.trans ?_ ((final_at m c _ _ _).trans (padded m c _ _ _)).symm
    rw [e0, e1, e2, e3, e4]
    rfl

end Cert.InProjEq

end
-- ==== Proof.lean ====
/- The claims of this certificate, each proved: every program runs and leaves its arguments as they were, and each
   call but the gated linear attention is proved to compute what its reference computes. The values are in the modules of Proof/. -/
module

public import proofs.«01_k».proof.Defs
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutRefIdeal
public import proofs.«01_k».proof.Proof.Gen.FfnOutRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.FfnActRefIdeal
public import proofs.«01_k».proof.Proof.Gen.FfnActRefIdeal.Run
public import proofs.«01_k».proof.Proof.FfnActFrame
public import proofs.«01_k».proof.Proof.FfnActIdealFrame
public import proofs.«01_k».proof.Proof.FfnActValue
public import proofs.«01_k».proof.Proof.GlaFrame
public import proofs.«01_k».proof.Proof.GlaIdealFrame
public import proofs.«01_k».proof.Proof.FfnOutValue
public import proofs.«01_k».proof.Proof.MergeValue
public import proofs.«01_k».proof.Proof.InProjValue
public import Idealize.ShloMosaic.Adequacy
public import Idealize.ShloMosaic.Init
public import Idealize.ShloMosaic.Lib.Quiescent

@[expose] public section

noncomputable section

namespace Cert.Proof

open Idealize.ShloMosaic Idealize.SL.Sem

/-- The reference of the closing product runs, its arguments unchanged; it declares no semaphore. -/
theorem ffn_out_ref_quiescent : Cert.quiescent_FfnOutRefIdeal := fun m g _ =>
  (θ_run _ _ _).mono (fun r h => ⟨fun c => (h c).2, sem_eq_zero_of_no_sems (by decide) _⟩)
    (Cert.FfnOutRefIdeal.Value.run (F := Ideal) m g)

/-- The reference of the gated merge runs, its arguments unchanged; it declares no semaphore. -/
theorem merge_ref_quiescent : Cert.quiescent_MergeRefIdeal := fun m g _ =>
  (θ_run _ _ _).mono (fun r h => ⟨fun c => (h c).2.2, sem_eq_zero_of_no_sems (by decide) _⟩)
    (Cert.MergeRefIdeal.Value.run (F := Ideal) m g)

/-- The reference of the input projections runs, its arguments unchanged; it declares no semaphore. -/
theorem in_proj_ref_quiescent : Cert.quiescent_InProjRefIdeal := fun m g _ =>
  (θ_run _ _ _).mono (fun r h => ⟨fun c => (h c).2.2.2.2.2, sem_eq_zero_of_no_sems (by decide) _⟩)
    (Cert.InProjRefIdeal.Value.run (F := Ideal) m g)

/-- The reference of the gated activation runs, its arguments unchanged; it declares no semaphore. -/
theorem ffn_act_ref_quiescent : Cert.quiescent_FfnActRefIdeal := fun m g _ =>
  (θ_run _ _ _).mono (fun r h => ⟨fun c => (h c).2, sem_eq_zero_of_no_sems (by decide) _⟩)
    (Cert.FfnActRefIdeal.Value.run (F := Ideal) m g)

theorem claim : Cert.Claim :=
  ⟨Cert.FfnOut.Gen.facts, Cert.FfnOutIdeal.Gen.facts, Cert.FfnOutRefIdeal.Gen.facts,
   Cert.Merge.Gen.facts, Cert.MergeIdeal.Gen.facts, Cert.MergeRefIdeal.Gen.facts,
   Cert.InProj.Gen.facts, Cert.InProjIdeal.Gen.facts, Cert.InProjRefIdeal.Gen.facts,
   Cert.FfnAct.Gen.facts, Cert.FfnActIdeal.Gen.facts, Cert.FfnActRefIdeal.Gen.facts,
   Cert.Kernel.Gen.facts, Cert.KernelIdeal.Gen.facts,
   fun m ρ _ => Cert.FfnOut.Gen.frame m ρ, fun m ρ _ => Cert.FfnOutIdeal.Gen.frame m ρ, ffn_out_ref_quiescent,
   fun m ρ _ => Cert.Merge.Gen.frame m ρ, fun m ρ _ => Cert.MergeIdeal.Gen.frame m ρ, merge_ref_quiescent,
   fun m ρ _ => Cert.InProj.Gen.frame m ρ, fun m ρ _ => Cert.InProjIdeal.Gen.frame m ρ, in_proj_ref_quiescent,
   fun m ρ _ => Cert.FfnAct.Own.frame m ρ, fun m ρ _ => Cert.FfnActIdeal.Own.frame m ρ, ffn_act_ref_quiescent,
   fun m ρ _ => Cert.Kernel.Own.frame m ρ, fun m ρ _ => Cert.KernelIdeal.Own.frame m ρ,
   trivial, Cert.FfnOutEq.algebraic_run, trivial, Cert.MergeEq.algebraic_run,
   trivial, Cert.InProjEq.algebraic_run, trivial, Cert.FfnActEq.algebraic_run, trivial⟩

end Cert.Proof

end
